-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨2, ![2048, 1024]⟩ ⟨2, ![8192, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v40) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2048x1024 : Shape := ⟨2, ![2048, 1024]⟩
abbrev S1024x1024 : Shape := ⟨2, ![1024, 1024]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  bcast_S_S1024x1024 : S_.BroadcastsInDim S1024x1024 (![] : Fin 0 → Fin S1024x1024.rank)

variable [Facts]

def fn {F : FTy → Type} [FloatOps F] (main_arg0 : FVec F S2048x1024 .bf16) (main_arg1 : FVec F S1024x1024 .bf16) (main_arg2 : FVec F S2048x1024 .bf16) (main_arg3 : FVec F S2048x1024 .bf16) (main_arg4 : FVec F S1024x1024 .bf16) : IVec S2048x1024 1 × IVec S1024x1024 1 × IVec S2048x1024 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_v4 : FVec F S1024x1024 .f32 := (extf .f32 · bitsLt_bf16_f32) main_arg1
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_v8 : FVec F S2048x1024 .f32 := (extf .f32 · bitsLt_bf16_f32) main_arg2
  let main_v9 : FVec F S2048x1024 .f32 := Host.absf main_v8
  let main_cst_1 : FVec F S_ .f32 := constant S_ .f32 0x7F800000#32
  let main_v10 : FVec F S2048x1024 .f32 := broadcastInDim S2048x1024 ![] bcast_S_S2048x1024 main_cst_1
  let main_v11 : IVec S2048x1024 1 := cmpf .olt main_v9 main_v10
  (main_v3, main_v7, main_v11)
-- ==== Pre_finite_scores_ReferenceIdeal.lean ====
abbrev S8192x1024 : Shape := ⟨2, ![8192, 1024]⟩
abbrev S1024x1024 : Shape := ⟨2, ![1024, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S1024x1024 : S_.BroadcastsInDim S1024x1024 (![] : Fin 0 → Fin S1024x1024.rank)

variable [Facts]

def fn {F : FTy → Type} [FloatOps F] (main_arg0 : FVec F S8192x1024 .bf16) (main_arg1 : FVec F S1024x1024 .bf16) (main_arg2 : FVec F S8192x1024 .bf16) (main_arg3 : FVec F S8192x1024 .bf16) (main_arg4 : FVec F S1024x1024 .bf16) : IVec S8192x1024 1 × IVec S1024x1024 1 × IVec S8192x1024 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S1024x1024 .f32 := (extf .f32 · bitsLt_bf16_f32) main_arg1
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_v8 : FVec F S8192x1024 .f32 := (extf .f32 · bitsLt_bf16_f32) main_arg2
  let main_v9 : FVec F S8192x1024 .f32 := Host.absf main_v8
  let main_cst_1 : FVec F S_ .f32 := constant S_ .f32 0x7F800000#32
  let main_v10 : FVec F S8192x1024 .f32 := broadcastInDim S8192x1024 ![] bcast_S_S8192x1024 main_cst_1
  let main_v11 : IVec S8192x1024 1 := cmpf .olt main_v9 main_v10
  (main_v3, main_v7, main_v11)
-- ==== Kernel.lean ====
abbrev S2048x1024 : Shape := ⟨2, ![2048, 1024]⟩
abbrev S1024x1024 : Shape := ⟨2, ![1024, 1024]⟩
abbrev S3x2048x1024 : Shape := ⟨3, ![3, 2048, 1024]⟩
abbrev S2048x8 : Shape := ⟨2, ![2048, 8]⟩
abbrev S512x1024 : Shape := ⟨2, ![512, 1024]⟩
abbrev S3 : Shape := ⟨1, ![3]⟩
abbrev S2 : Shape := ⟨1, ![2]⟩
abbrev S1 : Shape := ⟨1, ![1]⟩
abbrev S_ : Shape := ⟨0, ![]⟩
abbrev S1x2048x1024 : Shape := ⟨3, ![1, 2048, 1024]⟩
abbrev S2048x128 : Shape := ⟨2, ![2048, 128]⟩
abbrev S512x128 : Shape := ⟨2, ![512, 128]⟩
abbrev S512x2048 : Shape := ⟨2, ![512, 2048]⟩
abbrev S512x1 : Shape := ⟨2, ![512, 1]⟩
abbrev S1x2048 : Shape := ⟨2, ![1, 2048]⟩
abbrev S512 : Shape := ⟨1, ![512]⟩
abbrev S2048x1 : Shape := ⟨2, ![2048, 1]⟩

abbrev nBuf : Space → Nat
  | .hbm => 8
  | .vmem => 10
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .bf16⟩
  | .hbm, ⟨3, _⟩ => ⟨S2048x1024, .bf16⟩
  | .hbm, ⟨4, _⟩ => ⟨S1024x1024, .bf16⟩
  | .hbm, ⟨5, _⟩ => ⟨S2048x1024, .f32⟩
  | .hbm, ⟨6, _⟩ => ⟨S3x2048x1024, .bf16⟩
  | .hbm, ⟨7, _⟩ => ⟨S3x2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S2048x1024, .f32⟩
  | .local _ .vmem, ⟨3, _⟩ => ⟨S2048x1024, .bf16⟩
  | .local _ .vmem, ⟨4, _⟩ => ⟨S2048x1024, .f32⟩
  | .local _ .vmem, ⟨5, _⟩ => ⟨S2048x8, .f32⟩
  | .local _ .vmem, ⟨6, _⟩ => ⟨S2048x8, .f32⟩
  | .local _ .vmem, ⟨7, _⟩ => ⟨S2048x1024, .bf16⟩
  | .local _ .vmem, ⟨8, _⟩ => ⟨S2048x1024, .bf16⟩
  | .local _ .vmem, ⟨9, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_sem0_0 : DmaSem sig := 0
abbrev cc0_sem1_0 : DmaSem sig := 1
abbrev cc0_sem2_0 : DmaSem sig := 2

abbrev nD : Nat := 4
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_3 : BitVec 32 := 3#32
  let v7 : BitVec 1 := Scalar.cmpi .slt v2 c3_i32_3
  let v8 : BitVec 32 := Scalar.extui v7
  let c0_i32_9 : BitVec 32 := 0#32
  let v9 : BitVec 1 := Scalar.cmpi .ne v8 c0_i32_9
  v9

def k0_dev1 (d0 : Dev nD) : Nat :=
  let c0_i32_247 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_246 : BitVec 32 := 1#32
  let v203 : BitVec 32 := Scalar.muli v4 c1_i32_246
  let v204 : BitVec 32 := Scalar.addi c0_i32_247 v203
  v204.toNat
def k0_dev2 (d0 : Dev nD) : Nat :=
  let c0_i32_251 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_250 : BitVec 32 := 1#32
  let v211 : BitVec 32 := Scalar.muli v4 c1_i32_250
  let v212 : BitVec 32 := Scalar.addi c0_i32_251 v211
  v212.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_10 : BitVec 32 := 0#32
  let v10 : BitVec 1 := Scalar.cmpi .eq v2 c0_i32_10
  let v11 : BitVec 32 := Scalar.extui v10
  let c0_i32_16 : BitVec 32 := 0#32
  let v12 : BitVec 1 := Scalar.cmpi .ne v11 c0_i32_16
  v12

def k0_dev3 (d0 : Dev nD) : Nat :=
  let c0_i32_247 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_246 : BitVec 32 := 1#32
  let v203 : BitVec 32 := Scalar.muli v6 c1_i32_246
  let v204 : BitVec 32 := Scalar.addi c0_i32_247 v203
  v204.toNat
def k0_dev4 (d0 : Dev nD) : Nat :=
  let c0_i32_251 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_250 : BitVec 32 := 1#32
  let v211 : BitVec 32 := Scalar.muli v6 c1_i32_250
  let v212 : BitVec 32 := Scalar.addi c0_i32_251 v211
  v212.toNat
@[reducible] def k0_t1_loop : Scf.Loop 32 :=
  let c0_i32_78 : BitVec 32 := 0#32
  let c4_i32_79 : BitVec 32 := 4#32
  let v91 : BitVec 32 := Scalar.addi c0_i32_78 c4_i32_79
  let c1_i32_80 : BitVec 32 := 1#32
  ⟨c0_i32_78, v91, c1_i32_80⟩
def k0_off1 (k0_t1 : Fin k0_t1_loop.trips) : Fin 2 → Nat :=
  let c0_i32_78 : BitVec 32 := 0#32
  let c1_i32_80 : BitVec 32 := 1#32
  let arg20 : BitVec 32 := Scf.iv c0_i32_78 c1_i32_80 k0_t1
  let c512_i32_246 : BitVec 32 := 512#32
  let v203 : BitVec 32 := Scalar.muli arg20 c512_i32_246
  let v204 : Index := Scalar.indexCast v203
  let c0_247 : Index := 0#32
  ![v204.toNat, 0]
def k0_off2 (k0_t1 : Fin k0_t1_loop.trips) : Fin 2 → Nat :=
  let c0_i32_78 : BitVec 32 := 0#32
  let c1_i32_80 : BitVec 32 := 1#32
  let arg20 : BitVec 32 := Scf.iv c0_i32_78 c1_i32_80 k0_t1
  let c512_i32_246 : BitVec 32 := 512#32
  let v203 : BitVec 32 := Scalar.muli arg20 c512_i32_246
  let v266 : Index := Scalar.indexCast v203
  let c0_264 : Index := 0#32
  ![v266.toNat, 0]
@[reducible] def k0_t2_loop : Scf.Loop 32 :=
  let c0_i32_85 : BitVec 32 := 0#32
  let c4_i32_86 : BitVec 32 := 4#32
  let v94 : BitVec 32 := Scalar.addi c0_i32_85 c4_i32_86
  let c1_i32_87 : BitVec 32 := 1#32
  ⟨c0_i32_85, v94, c1_i32_87⟩
def k0_off3 (k0_t2 : Fin k0_t2_loop.trips) : Fin 2 → Nat :=
  let c0_i32_85 : BitVec 32 := 0#32
  let c1_i32_87 : BitVec 32 := 1#32
  let arg20 : BitVec 32 := Scf.iv c0_i32_85 c1_i32_87 k0_t2
  let c512_i32_246 : BitVec 32 := 512#32
  let v203 : BitVec 32 := Scalar.muli arg20 c512_i32_246
  let v204 : Index := Scalar.indexCast v203
  let c128_247 : Index := 128#32
  ![v204.toNat, 128]
def k0_off4 (k0_t2 : Fin k0_t2_loop.trips) : Fin 2 → Nat :=
  let c0_i32_85 : BitVec 32 := 0#32
  let c1_i32_87 : BitVec 32 := 1#32
  let arg20 : BitVec 32 := Scf.iv c0_i32_85 c1_i32_87 k0_t2
  let c512_i32_246 : BitVec 32 := 512#32
  let v203 : BitVec 32 := Scalar.muli arg20 c512_i32_246
  let v266 : Index := Scalar.indexCast v203
  let c1_264 : Index := 1#32
  ![v266.toNat, 1]
@[reducible] def k0_t3_loop : Scf.Loop 32 :=
  let c0_i32_92 : BitVec 32 := 0#32
  let c4_i32_93 : BitVec 32 := 4#32
  let v97 : BitVec 32 := Scalar.addi c0_i32_92 c4_i32_93
  let c1_i32_94 : BitVec 32 := 1#32
  ⟨c0_i32_92, v97, c1_i32_94⟩
def k0_off5 (k0_t3 : Fin k0_t3_loop.trips) : Fin 2 → Nat :=
  let c0_i32_92 : BitVec 32 := 0#32
  let c1_i32_94 : BitVec 32 := 1#32
  let arg20 : BitVec 32 := Scf.iv c0_i32_92 c1_i32_94 k0_t3
  let c512_i32_246 : BitVec 32 := 512#32
  let v203 : BitVec 32 := Scalar.muli arg20 c512_i32_246
  let v204 : Index := Scalar.indexCast v203
  let c256_247 : Index := 256#32
  ![v204.toNat, 256]
def k0_off6 (k0_t3 : Fin k0_t3_loop.trips) : Fin 2 → Nat :=
  let c0_i32_92 : BitVec 32 := 0#32
  let c1_i32_94 : BitVec 32 := 1#32
  let arg20 : BitVec 32 := Scf.iv c0_i32_92 c1_i32_94 k0_t3
  let c512_i32_246 : BitVec 32 := 512#32
  let v203 : BitVec 32 := Scalar.muli arg20 c512_i32_246
  let v266 : Index := Scalar.indexCast v203
  let c2_264 : Index := 2#32
  ![v266.toNat, 2]
@[reducible] def k0_t4_loop : Scf.Loop 32 :=
  let c0_i32_99 : BitVec 32 := 0#32
  let c4_i32_100 : BitVec 32 := 4#32
  let v100 : BitVec 32 := Scalar.addi c0_i32_99 c4_i32_100
  let c1_i32_101 : BitVec 32 := 1#32
  ⟨c0_i32_99, v100, c1_i32_101⟩
def k0_off7 (k0_t4 : Fin k0_t4_loop.trips) : Fin 2 → Nat :=
  let c0_i32_99 : BitVec 32 := 0#32
  let c1_i32_101 : BitVec 32 := 1#32
  let arg20 : BitVec 32 := Scf.iv c0_i32_99 c1_i32_101 k0_t4
  let c512_i32_246 : BitVec 32 := 512#32
  let v203 : BitVec 32 := Scalar.muli arg20 c512_i32_246
  let v204 : Index := Scalar.indexCast v203
  let c384_247 : Index := 384#32
  ![v204.toNat, 384]
def k0_off8 (k0_t4 : Fin k0_t4_loop.trips) : Fin 2 → Nat :=
  let c0_i32_99 : BitVec 32 := 0#32
  let c1_i32_101 : BitVec 32 := 1#32
  let arg20 : BitVec 32 := Scf.iv c0_i32_99 c1_i32_101 k0_t4
  let c512_i32_246 : BitVec 32 := 512#32
  let v203 : BitVec 32 := Scalar.muli arg20 c512_i32_246
  let v266 : Index := Scalar.indexCast v203
  let c3_264 : Index := 3#32
  ![v266.toNat, 3]
@[reducible] def k0_t5_loop : Scf.Loop 32 :=
  let c0_i32_107 : BitVec 32 := 0#32
  let c4_i32_108 : BitVec 32 := 4#32
  let v103 : BitVec 32 := Scalar.addi c0_i32_107 c4_i32_108
  let c1_i32_109 : BitVec 32 := 1#32
  ⟨c0_i32_107, v103, c1_i32_109⟩
def k0_off9 (k0_t5 : Fin k0_t5_loop.trips) : Fin 2 → Nat :=
  let c0_i32_107 : BitVec 32 := 0#32
  let c1_i32_109 : BitVec 32 := 1#32
  let arg20 : BitVec 32 := Scf.iv c0_i32_107 c1_i32_109 k0_t5
  let c512_i32_246 : BitVec 32 := 512#32
  let v203 : BitVec 32 := Scalar.muli arg20 c512_i32_246
  let v204 : Index := Scalar.indexCast v203
  let c512_247 : Index := 512#32
  ![v204.toNat, 512]
def k0_off10 (k0_t5 : Fin k0_t5_loop.trips) : Fin 2 → Nat :=
  let c0_i32_107 : BitVec 32 := 0#32
  let c1_i32_109 : BitVec 32 := 1#32
  let arg20 : BitVec 32 := Scf.iv c0_i32_107 c1_i32_109 k0_t5
  let c512_i32_246 : BitVec 32 := 512#32
  let v203 : BitVec 32 := Scalar.muli arg20 c512_i32_246
  let v266 : Index := Scalar.indexCast v203
  let c4_264 : Index := 4#32
  ![v266.toNat, 4]
@[reducible] def k0_t6_loop : Scf.Loop 32 :=
  let c0_i32_114 : BitVec 32 := 0#32
  let c4_i32_115 : BitVec 32 := 4#32
  let v106 : BitVec 32 := Scalar.addi c0_i32_114 c4_i32_115
  let c1_i32_116 : BitVec 32 := 1#32
  ⟨c0_i32_114, v106, c1_i32_116⟩
def k0_off11 (k0_t6 : Fin k0_t6_loop.trips) : Fin 2 → Nat :=
  let c0_i32_114 : BitVec 32 := 0#32
  let c1_i32_116 : BitVec 32 := 1#32
  let arg20 : BitVec 32 := Scf.iv c0_i32_114 c1_i32_116 k0_t6
  let c512_i32_246 : BitVec 32 := 512#32
  let v203 : BitVec 32 := Scalar.muli arg20 c512_i32_246
  let v204 : Index := Scalar.indexCast v203
  let c640_247 : Index := 640#32
  ![v204.toNat, 640]
def k0_off12 (k0_t6 : Fin k0_t6_loop.trips) : Fin 2 → Nat :=
  let c0_i32_114 : BitVec 32 := 0#32
  let c1_i32_116 : BitVec 32 := 1#32
  let arg20 : BitVec 32 := Scf.iv c0_i32_114 c1_i32_116 k0_t6
  let c512_i32_246 : BitVec 32 := 512#32
  let v203 : BitVec 32 := Scalar.muli arg20 c512_i32_246
  let v266 : Index := Scalar.indexCast v203
  let c5_264 : Index := 5#32
  ![v266.toNat, 5]
@[reducible] def k0_t7_loop : Scf.Loop 32 :=
  let c0_i32_121 : BitVec 32 := 0#32
  let c4_i32_122 : BitVec 32 := 4#32
  let v109 : BitVec 32 := Scalar.addi c0_i32_121 c4_i32_122
  let c1_i32_123 : BitVec 32 := 1#32
  ⟨c0_i32_121, v109, c1_i32_123⟩
def k0_off13 (k0_t7 : Fin k0_t7_loop.trips) : Fin 2 → Nat :=
  let c0_i32_121 : BitVec 32 := 0#32
  let c1_i32_123 : BitVec 32 := 1#32
  let arg20 : BitVec 32 := Scf.iv c0_i32_121 c1_i32_123 k0_t7
  let c512_i32_246 : BitVec 32 := 512#32
  let v203 : BitVec 32 := Scalar.muli arg20 c512_i32_246
  let v204 : Index := Scalar.indexCast v203
  let c768_247 : Index := 768#32
  ![v204.toNat, 768]
def k0_off14 (k0_t7 : Fin k0_t7_loop.trips) : Fin 2 → Nat :=
  let c0_i32_121 : BitVec 32 := 0#32
  let c1_i32_123 : BitVec 32 := 1#32
  let arg20 : BitVec 32 := Scf.iv c0_i32_121 c1_i32_123 k0_t7
  let c512_i32_246 : BitVec 32 := 512#32
  let v203 : BitVec 32 := Scalar.muli arg20 c512_i32_246
  let v266 : Index := Scalar.indexCast v203
  let c6_264 : Index := 6#32
  ![v266.toNat, 6]
@[reducible] def k0_t8_loop : Scf.Loop 32 :=
  let c0_i32_128 : BitVec 32 := 0#32
  let c4_i32_129 : BitVec 32 := 4#32
  let v112 : BitVec 32 := Scalar.addi c0_i32_128 c4_i32_129
  let c1_i32_130 : BitVec 32 := 1#32
  ⟨c0_i32_128, v112, c1_i32_130⟩
def k0_off15 (k0_t8 : Fin k0_t8_loop.trips) : Fin 2 → Nat :=
  let c0_i32_128 : BitVec 32 := 0#32
  let c1_i32_130 : BitVec 32 := 1#32
  let arg20 : BitVec 32 := Scf.iv c0_i32_128 c1_i32_130 k0_t8
  let c512_i32_246 : BitVec 32 := 512#32
  let v203 : BitVec 32 := Scalar.muli arg20 c512_i32_246
  let v204 : Index := Scalar.indexCast v203
  let c896_247 : Index := 896#32
  ![v204.toNat, 896]
def k0_off16 (k0_t8 : Fin k0_t8_loop.trips) : Fin 2 → Nat :=
  let c0_i32_128 : BitVec 32 := 0#32
  let c1_i32_130 : BitVec 32 := 1#32
  let arg20 : BitVec 32 := Scf.iv c0_i32_128 c1_i32_130 k0_t8
  let c512_i32_246 : BitVec 32 := 512#32
  let v203 : BitVec 32 := Scalar.muli arg20 c512_i32_246
  let v266 : Index := Scalar.indexCast v203
  let c7_264 : Index := 7#32
  ![v266.toNat, 7]
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_140 : BitVec 32 := 1#32
  let v116 : BitVec 1 := Scalar.cmpi .sge v2 c1_i32_140
  let c2_i32_141 : BitVec 32 := 2#32
  let v117 : BitVec 1 := Scalar.cmpi .sle v2 c2_i32_141
  let v118 : BitVec 1 := Scalar.andi v116 v117
  let v119 : BitVec 32 := Scalar.extui v118
  let c0_i32_150 : BitVec 32 := 0#32
  let v120 : BitVec 1 := Scalar.cmpi .ne v119 c0_i32_150
  v120

def k0_dev5 (d0 : Dev nD) : Nat :=
  let c0_i32_247 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_246 : BitVec 32 := 1#32
  let v203 : BitVec 32 := Scalar.muli v4 c1_i32_246
  let v204 : BitVec 32 := Scalar.addi c0_i32_247 v203
  v204.toNat
def k0_dev6 (d0 : Dev nD) : Nat :=
  let c0_i32_253 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_252 : BitVec 32 := 1#32
  let v213 : BitVec 32 := Scalar.muli v4 c1_i32_252
  let v214 : BitVec 32 := Scalar.addi c0_i32_253 v213
  v214.toNat
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_151 : BitVec 32 := 1#32
  let v121 : BitVec 1 := Scalar.cmpi .sge v2 c1_i32_151
  let v122 : BitVec 32 := Scalar.extui v121
  let c0_i32_152 : BitVec 32 := 0#32
  let v123 : BitVec 1 := Scalar.cmpi .ne v122 c0_i32_152
  v123

@[reducible] def k0_t9_loop : Scf.Loop 32 :=
  let c0_i32_266 : BitVec 32 := 0#32
  let c4_i32_267 : BitVec 32 := 4#32
  let v221 : BitVec 32 := Scalar.addi c0_i32_266 c4_i32_267
  let c1_i32_268 : BitVec 32 := 1#32
  ⟨c0_i32_266, v221, c1_i32_268⟩
def k0_off17 (k0_t9 : Fin k0_t9_loop.trips) : Fin 2 → Nat :=
  let c0_i32_266 : BitVec 32 := 0#32
  let c1_i32_268 : BitVec 32 := 1#32
  let arg20 : BitVec 32 := Scf.iv c0_i32_266 c1_i32_268 k0_t9
  let c512_i32_326 : BitVec 32 := 512#32
  let v243 : BitVec 32 := Scalar.muli arg20 c512_i32_326
  let v244 : Index := Scalar.indexCast v243
  let c0_327 : Index := 0#32
  ![v244.toNat, 0]
def k0_off18 (k0_t9 : Fin k0_t9_loop.trips) : Fin 2 → Nat :=
  let c0_i32_266 : BitVec 32 := 0#32
  let c1_i32_268 : BitVec 32 := 1#32
  let arg20 : BitVec 32 := Scf.iv c0_i32_266 c1_i32_268 k0_t9
  let c512_i32_326 : BitVec 32 := 512#32
  let v243 : BitVec 32 := Scalar.muli arg20 c512_i32_326
  let v249 : Index := Scalar.indexCast v243
  let c0_330 : Index := 0#32
  ![v249.toNat, 0]
@[reducible] def k0_t10_loop : Scf.Loop 32 :=
  let c0_i32_274 : BitVec 32 := 0#32
  let c4_i32_275 : BitVec 32 := 4#32
  let v224 : BitVec 32 := Scalar.addi c0_i32_274 c4_i32_275
  let c1_i32_276 : BitVec 32 := 1#32
  ⟨c0_i32_274, v224, c1_i32_276⟩
def k0_off19 (k0_t10 : Fin k0_t10_loop.trips) : Fin 2 → Nat :=
  let c0_i32_274 : BitVec 32 := 0#32
  let c1_i32_276 : BitVec 32 := 1#32
  let arg20 : BitVec 32 := Scf.iv c0_i32_274 c1_i32_276 k0_t10
  let c512_i32_326 : BitVec 32 := 512#32
  let v243 : BitVec 32 := Scalar.muli arg20 c512_i32_326
  let v244 : Index := Scalar.indexCast v243
  let c128_327 : Index := 128#32
  ![v244.toNat, 128]
def k0_off20 (k0_t10 : Fin k0_t10_loop.trips) : Fin 2 → Nat :=
  let c0_i32_274 : BitVec 32 := 0#32
  let c1_i32_276 : BitVec 32 := 1#32
  let arg20 : BitVec 32 := Scf.iv c0_i32_274 c1_i32_276 k0_t10
  let c512_i32_326 : BitVec 32 := 512#32
  let v243 : BitVec 32 := Scalar.muli arg20 c512_i32_326
  let v249 : Index := Scalar.indexCast v243
  let c1_330 : Index := 1#32
  ![v249.toNat, 1]
@[reducible] def k0_t11_loop : Scf.Loop 32 :=
  let c0_i32_282 : BitVec 32 := 0#32
  let c4_i32_283 : BitVec 32 := 4#32
  let v227 : BitVec 32 := Scalar.addi c0_i32_282 c4_i32_283
  let c1_i32_284 : BitVec 32 := 1#32
  ⟨c0_i32_282, v227, c1_i32_284⟩
def k0_off21 (k0_t11 : Fin k0_t11_loop.trips) : Fin 2 → Nat :=
  let c0_i32_282 : BitVec 32 := 0#32
  let c1_i32_284 : BitVec 32 := 1#32
  let arg20 : BitVec 32 := Scf.iv c0_i32_282 c1_i32_284 k0_t11
  let c512_i32_326 : BitVec 32 := 512#32
  let v243 : BitVec 32 := Scalar.muli arg20 c512_i32_326
  let v244 : Index := Scalar.indexCast v243
  let c256_327 : Index := 256#32
  ![v244.toNat, 256]
def k0_off22 (k0_t11 : Fin k0_t11_loop.trips) : Fin 2 → Nat :=
  let c0_i32_282 : BitVec 32 := 0#32
  let c1_i32_284 : BitVec 32 := 1#32
  let arg20 : BitVec 32 := Scf.iv c0_i32_282 c1_i32_284 k0_t11
  let c512_i32_326 : BitVec 32 := 512#32
  let v243 : BitVec 32 := Scalar.muli arg20 c512_i32_326
  let v249 : Index := Scalar.indexCast v243
  let c2_330 : Index := 2#32
  ![v249.toNat, 2]
@[reducible] def k0_t12_loop : Scf.Loop 32 :=
  let c0_i32_290 : BitVec 32 := 0#32
  let c4_i32_291 : BitVec 32 := 4#32
  let v230 : BitVec 32 := Scalar.addi c0_i32_290 c4_i32_291
  let c1_i32_292 : BitVec 32 := 1#32
  ⟨c0_i32_290, v230, c1_i32_292⟩
def k0_off23 (k0_t12 : Fin k0_t12_loop.trips) : Fin 2 → Nat :=
  let c0_i32_290 : BitVec 32 := 0#32
  let c1_i32_292 : BitVec 32 := 1#32
  let arg20 : BitVec 32 := Scf.iv c0_i32_290 c1_i32_292 k0_t12
  let c512_i32_326 : BitVec 32 := 512#32
  let v243 : BitVec 32 := Scalar.muli arg20 c512_i32_326
  let v244 : Index := Scalar.indexCast v243
  let c384_327 : Index := 384#32
  ![v244.toNat, 384]
def k0_off24 (k0_t12 : Fin k0_t12_loop.trips) : Fin 2 → Nat :=
  let c0_i32_290 : BitVec 32 := 0#32
  let c1_i32_292 : BitVec 32 := 1#32
  let arg20 : BitVec 32 := Scf.iv c0_i32_290 c1_i32_292 k0_t12
  let c512_i32_326 : BitVec 32 := 512#32
  let v243 : BitVec 32 := Scalar.muli arg20 c512_i32_326
  let v249 : Index := Scalar.indexCast v243
  let c3_330 : Index := 3#32
  ![v249.toNat, 3]
@[reducible] def k0_t13_loop : Scf.Loop 32 :=
  let c0_i32_298 : BitVec 32 := 0#32
  let c4_i32_299 : BitVec 32 := 4#32
  let v233 : BitVec 32 := Scalar.addi c0_i32_298 c4_i32_299
  let c1_i32_300 : BitVec 32 := 1#32
  ⟨c0_i32_298, v233, c1_i32_300⟩
def k0_off25 (k0_t13 : Fin k0_t13_loop.trips) : Fin 2 → Nat :=
  let c0_i32_298 : BitVec 32 := 0#32
  let c1_i32_300 : BitVec 32 := 1#32
  let arg20 : BitVec 32 := Scf.iv c0_i32_298 c1_i32_300 k0_t13
  let c512_i32_326 : BitVec 32 := 512#32
  let v243 : BitVec 32 := Scalar.muli arg20 c512_i32_326
  let v244 : Index := Scalar.indexCast v243
  let c512_327 : Index := 512#32
  ![v244.toNat, 512]
def k0_off26 (k0_t13 : Fin k0_t13_loop.trips) : Fin 2 → Nat :=
  let c0_i32_298 : BitVec 32 := 0#32
  let c1_i32_300 : BitVec 32 := 1#32
  let arg20 : BitVec 32 := Scf.iv c0_i32_298 c1_i32_300 k0_t13
  let c512_i32_326 : BitVec 32 := 512#32
  let v243 : BitVec 32 := Scalar.muli arg20 c512_i32_326
  let v249 : Index := Scalar.indexCast v243
  let c4_330 : Index := 4#32
  ![v249.toNat, 4]
@[reducible] def k0_t14_loop : Scf.Loop 32 :=
  let c0_i32_306 : BitVec 32 := 0#32
  let c4_i32_307 : BitVec 32 := 4#32
  let v236 : BitVec 32 := Scalar.addi c0_i32_306 c4_i32_307
  let c1_i32_308 : BitVec 32 := 1#32
  ⟨c0_i32_306, v236, c1_i32_308⟩
def k0_off27 (k0_t14 : Fin k0_t14_loop.trips) : Fin 2 → Nat :=
  let c0_i32_306 : BitVec 32 := 0#32
  let c1_i32_308 : BitVec 32 := 1#32
  let arg20 : BitVec 32 := Scf.iv c0_i32_306 c1_i32_308 k0_t14
  let c512_i32_326 : BitVec 32 := 512#32
  let v243 : BitVec 32 := Scalar.muli arg20 c512_i32_326
  let v244 : Index := Scalar.indexCast v243
  let c640_327 : Index := 640#32
  ![v244.toNat, 640]
def k0_off28 (k0_t14 : Fin k0_t14_loop.trips) : Fin 2 → Nat :=
  let c0_i32_306 : BitVec 32 := 0#32
  let c1_i32_308 : BitVec 32 := 1#32
  let arg20 : BitVec 32 := Scf.iv c0_i32_306 c1_i32_308 k0_t14
  let c512_i32_326 : BitVec 32 := 512#32
  let v243 : BitVec 32 := Scalar.muli arg20 c512_i32_326
  let v249 : Index := Scalar.indexCast v243
  let c5_330 : Index := 5#32
  ![v249.toNat, 5]
@[reducible] def k0_t15_loop : Scf.Loop 32 :=
  let c0_i32_314 : BitVec 32 := 0#32
  let c4_i32_315 : BitVec 32 := 4#32
  let v239 : BitVec 32 := Scalar.addi c0_i32_314 c4_i32_315
  let c1_i32_316 : BitVec 32 := 1#32
  ⟨c0_i32_314, v239, c1_i32_316⟩
def k0_off29 (k0_t15 : Fin k0_t15_loop.trips) : Fin 2 → Nat :=
  let c0_i32_314 : BitVec 32 := 0#32
  let c1_i32_316 : BitVec 32 := 1#32
  let arg20 : BitVec 32 := Scf.iv c0_i32_314 c1_i32_316 k0_t15
  let c512_i32_326 : BitVec 32 := 512#32
  let v243 : BitVec 32 := Scalar.muli arg20 c512_i32_326
  let v244 : Index := Scalar.indexCast v243
  let c768_327 : Index := 768#32
  ![v244.toNat, 768]
def k0_off30 (k0_t15 : Fin k0_t15_loop.trips) : Fin 2 → Nat :=
  let c0_i32_314 : BitVec 32 := 0#32
  let c1_i32_316 : BitVec 32 := 1#32
  let arg20 : BitVec 32 := Scf.iv c0_i32_314 c1_i32_316 k0_t15
  let c512_i32_326 : BitVec 32 := 512#32
  let v243 : BitVec 32 := Scalar.muli arg20 c512_i32_326
  let v249 : Index := Scalar.indexCast v243
  let c6_330 : Index := 6#32
  ![v249.toNat, 6]
@[reducible] def k0_t16_loop : Scf.Loop 32 :=
  let c0_i32_322 : BitVec 32 := 0#32
  let c4_i32_323 : BitVec 32 := 4#32
  let v242 : BitVec 32 := Scalar.addi c0_i32_322 c4_i32_323
  let c1_i32_324 : BitVec 32 := 1#32
  ⟨c0_i32_322, v242, c1_i32_324⟩
def k0_off31 (k0_t16 : Fin k0_t16_loop.trips) : Fin 2 → Nat :=
  let c0_i32_322 : BitVec 32 := 0#32
  let c1_i32_324 : BitVec 32 := 1#32
  let arg20 : BitVec 32 := Scf.iv c0_i32_322 c1_i32_324 k0_t16
  let c512_i32_326 : BitVec 32 := 512#32
  let v243 : BitVec 32 := Scalar.muli arg20 c512_i32_326
  let v244 : Index := Scalar.indexCast v243
  let c896_327 : Index := 896#32
  ![v244.toNat, 896]
def k0_off32 (k0_t16 : Fin k0_t16_loop.trips) : Fin 2 → Nat :=
  let c0_i32_322 : BitVec 32 := 0#32
  let c1_i32_324 : BitVec 32 := 1#32
  let arg20 : BitVec 32 := Scf.iv c0_i32_322 c1_i32_324 k0_t16
  let c512_i32_326 : BitVec 32 := 512#32
  let v243 : BitVec 32 := Scalar.muli arg20 c512_i32_326
  let v249 : Index := Scalar.indexCast v243
  let c7_330 : Index := 7#32
  ![v249.toNat, 7]
def k0_cond6 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_153 : BitVec 32 := 3#32
  let v124 : BitVec 1 := Scalar.cmpi .eq v2 c3_i32_153
  let v125 : BitVec 32 := Scalar.extui v124
  let c0_i32_160 : BitVec 32 := 0#32
  let v126 : BitVec 1 := Scalar.cmpi .ne v125 c0_i32_160
  v126

@[reducible] def k0_t17_loop : Scf.Loop 32 :=
  let c0_i32_274 : BitVec 32 := 0#32
  let c4_i32_275 : BitVec 32 := 4#32
  let v233 : BitVec 32 := Scalar.addi c0_i32_274 c4_i32_275
  let c1_i32_276 : BitVec 32 := 1#32
  ⟨c0_i32_274, v233, c1_i32_276⟩
def k0_off33 (k0_t17 : Fin k0_t17_loop.trips) : Fin 2 → Nat :=
  let c0_i32_274 : BitVec 32 := 0#32
  let c1_i32_276 : BitVec 32 := 1#32
  let arg20 : BitVec 32 := Scf.iv c0_i32_274 c1_i32_276 k0_t17
  let c512_i32_334 : BitVec 32 := 512#32
  let v255 : BitVec 32 := Scalar.muli arg20 c512_i32_334
  let v256 : Index := Scalar.indexCast v255
  let c0_335 : Index := 0#32
  ![v256.toNat, 0]
def k0_off34 (k0_t17 : Fin k0_t17_loop.trips) : Fin 2 → Nat :=
  let c0_i32_274 : BitVec 32 := 0#32
  let c1_i32_276 : BitVec 32 := 1#32
  let arg20 : BitVec 32 := Scf.iv c0_i32_274 c1_i32_276 k0_t17
  let c512_i32_334 : BitVec 32 := 512#32
  let v255 : BitVec 32 := Scalar.muli arg20 c512_i32_334
  let v261 : Index := Scalar.indexCast v255
  let c0_338 : Index := 0#32
  ![v261.toNat, 0]
@[reducible] def k0_t18_loop : Scf.Loop 32 :=
  let c0_i32_282 : BitVec 32 := 0#32
  let c4_i32_283 : BitVec 32 := 4#32
  let v236 : BitVec 32 := Scalar.addi c0_i32_282 c4_i32_283
  let c1_i32_284 : BitVec 32 := 1#32
  ⟨c0_i32_282, v236, c1_i32_284⟩
def k0_off35 (k0_t18 : Fin k0_t18_loop.trips) : Fin 2 → Nat :=
  let c0_i32_282 : BitVec 32 := 0#32
  let c1_i32_284 : BitVec 32 := 1#32
  let arg20 : BitVec 32 := Scf.iv c0_i32_282 c1_i32_284 k0_t18
  let c512_i32_334 : BitVec 32 := 512#32
  let v255 : BitVec 32 := Scalar.muli arg20 c512_i32_334
  let v256 : Index := Scalar.indexCast v255
  let c128_335 : Index := 128#32
  ![v256.toNat, 128]
def k0_off36 (k0_t18 : Fin k0_t18_loop.trips) : Fin 2 → Nat :=
  let c0_i32_282 : BitVec 32 := 0#32
  let c1_i32_284 : BitVec 32 := 1#32
  let arg20 : BitVec 32 := Scf.iv c0_i32_282 c1_i32_284 k0_t18
  let c512_i32_334 : BitVec 32 := 512#32
  let v255 : BitVec 32 := Scalar.muli arg20 c512_i32_334
  let v261 : Index := Scalar.indexCast v255
  let c1_338 : Index := 1#32
  ![v261.toNat, 1]
@[reducible] def k0_t19_loop : Scf.Loop 32 :=
  let c0_i32_290 : BitVec 32 := 0#32
  let c4_i32_291 : BitVec 32 := 4#32
  let v239 : BitVec 32 := Scalar.addi c0_i32_290 c4_i32_291
  let c1_i32_292 : BitVec 32 := 1#32
  ⟨c0_i32_290, v239, c1_i32_292⟩
def k0_off37 (k0_t19 : Fin k0_t19_loop.trips) : Fin 2 → Nat :=
  let c0_i32_290 : BitVec 32 := 0#32
  let c1_i32_292 : BitVec 32 := 1#32
  let arg20 : BitVec 32 := Scf.iv c0_i32_290 c1_i32_292 k0_t19
  let c512_i32_334 : BitVec 32 := 512#32
  let v255 : BitVec 32 := Scalar.muli arg20 c512_i32_334
  let v256 : Index := Scalar.indexCast v255
  let c256_335 : Index := 256#32
  ![v256.toNat, 256]
def k0_off38 (k0_t19 : Fin k0_t19_loop.trips) : Fin 2 → Nat :=
  let c0_i32_290 : BitVec 32 := 0#32
  let c1_i32_292 : BitVec 32 := 1#32
  let arg20 : BitVec 32 := Scf.iv c0_i32_290 c1_i32_292 k0_t19
  let c512_i32_334 : BitVec 32 := 512#32
  let v255 : BitVec 32 := Scalar.muli arg20 c512_i32_334
  let v261 : Index := Scalar.indexCast v255
  let c2_338 : Index := 2#32
  ![v261.toNat, 2]
@[reducible] def k0_t20_loop : Scf.Loop 32 :=
  let c0_i32_298 : BitVec 32 := 0#32
  let c4_i32_299 : BitVec 32 := 4#32
  let v242 : BitVec 32 := Scalar.addi c0_i32_298 c4_i32_299
  let c1_i32_300 : BitVec 32 := 1#32
  ⟨c0_i32_298, v242, c1_i32_300⟩
def k0_off39 (k0_t20 : Fin k0_t20_loop.trips) : Fin 2 → Nat :=
  let c0_i32_298 : BitVec 32 := 0#32
  let c1_i32_300 : BitVec 32 := 1#32
  let arg20 : BitVec 32 := Scf.iv c0_i32_298 c1_i32_300 k0_t20
  let c512_i32_334 : BitVec 32 := 512#32
  let v255 : BitVec 32 := Scalar.muli arg20 c512_i32_334
  let v256 : Index := Scalar.indexCast v255
  let c384_335 : Index := 384#32
  ![v256.toNat, 384]
def k0_off40 (k0_t20 : Fin k0_t20_loop.trips) : Fin 2 → Nat :=
  let c0_i32_298 : BitVec 32 := 0#32
  let c1_i32_300 : BitVec 32 := 1#32
  let arg20 : BitVec 32 := Scf.iv c0_i32_298 c1_i32_300 k0_t20
  let c512_i32_334 : BitVec 32 := 512#32
  let v255 : BitVec 32 := Scalar.muli arg20 c512_i32_334
  let v261 : Index := Scalar.indexCast v255
  let c3_338 : Index := 3#32
  ![v261.toNat, 3]
@[reducible] def k0_t21_loop : Scf.Loop 32 :=
  let c0_i32_306 : BitVec 32 := 0#32
  let c4_i32_307 : BitVec 32 := 4#32
  let v245 : BitVec 32 := Scalar.addi c0_i32_306 c4_i32_307
  let c1_i32_308 : BitVec 32 := 1#32
  ⟨c0_i32_306, v245, c1_i32_308⟩
def k0_off41 (k0_t21 : Fin k0_t21_loop.trips) : Fin 2 → Nat :=
  let c0_i32_306 : BitVec 32 := 0#32
  let c1_i32_308 : BitVec 32 := 1#32
  let arg20 : BitVec 32 := Scf.iv c0_i32_306 c1_i32_308 k0_t21
  let c512_i32_334 : BitVec 32 := 512#32
  let v255 : BitVec 32 := Scalar.muli arg20 c512_i32_334
  let v256 : Index := Scalar.indexCast v255
  let c512_335 : Index := 512#32
  ![v256.toNat, 512]
def k0_off42 (k0_t21 : Fin k0_t21_loop.trips) : Fin 2 → Nat :=
  let c0_i32_306 : BitVec 32 := 0#32
  let c1_i32_308 : BitVec 32 := 1#32
  let arg20 : BitVec 32 := Scf.iv c0_i32_306 c1_i32_308 k0_t21
  let c512_i32_334 : BitVec 32 := 512#32
  let v255 : BitVec 32 := Scalar.muli arg20 c512_i32_334
  let v261 : Index := Scalar.indexCast v255
  let c4_338 : Index := 4#32
  ![v261.toNat, 4]
@[reducible] def k0_t22_loop : Scf.Loop 32 :=
  let c0_i32_314 : BitVec 32 := 0#32
  let c4_i32_315 : BitVec 32 := 4#32
  let v248 : BitVec 32 := Scalar.addi c0_i32_314 c4_i32_315
  let c1_i32_316 : BitVec 32 := 1#32
  ⟨c0_i32_314, v248, c1_i32_316⟩
def k0_off43 (k0_t22 : Fin k0_t22_loop.trips) : Fin 2 → Nat :=
  let c0_i32_314 : BitVec 32 := 0#32
  let c1_i32_316 : BitVec 32 := 1#32
  let arg20 : BitVec 32 := Scf.iv c0_i32_314 c1_i32_316 k0_t22
  let c512_i32_334 : BitVec 32 := 512#32
  let v255 : BitVec 32 := Scalar.muli arg20 c512_i32_334
  let v256 : Index := Scalar.indexCast v255
  let c640_335 : Index := 640#32
  ![v256.toNat, 640]
def k0_off44 (k0_t22 : Fin k0_t22_loop.trips) : Fin 2 → Nat :=
  let c0_i32_314 : BitVec 32 := 0#32
  let c1_i32_316 : BitVec 32 := 1#32
  let arg20 : BitVec 32 := Scf.iv c0_i32_314 c1_i32_316 k0_t22
  let c512_i32_334 : BitVec 32 := 512#32
  let v255 : BitVec 32 := Scalar.muli arg20 c512_i32_334
  let v261 : Index := Scalar.indexCast v255
  let c5_338 : Index := 5#32
  ![v261.toNat, 5]
@[reducible] def k0_t23_loop : Scf.Loop 32 :=
  let c0_i32_322 : BitVec 32 := 0#32
  let c4_i32_323 : BitVec 32 := 4#32
  let v251 : BitVec 32 := Scalar.addi c0_i32_322 c4_i32_323
  let c1_i32_324 : BitVec 32 := 1#32
  ⟨c0_i32_322, v251, c1_i32_324⟩
def k0_off45 (k0_t23 : Fin k0_t23_loop.trips) : Fin 2 → Nat :=
  let c0_i32_322 : BitVec 32 := 0#32
  let c1_i32_324 : BitVec 32 := 1#32
  let arg20 : BitVec 32 := Scf.iv c0_i32_322 c1_i32_324 k0_t23
  let c512_i32_334 : BitVec 32 := 512#32
  let v255 : BitVec 32 := Scalar.muli arg20 c512_i32_334
  let v256 : Index := Scalar.indexCast v255
  let c768_335 : Index := 768#32
  ![v256.toNat, 768]
def k0_off46 (k0_t23 : Fin k0_t23_loop.trips) : Fin 2 → Nat :=
  let c0_i32_322 : BitVec 32 := 0#32
  let c1_i32_324 : BitVec 32 := 1#32
  let arg20 : BitVec 32 := Scf.iv c0_i32_322 c1_i32_324 k0_t23
  let c512_i32_334 : BitVec 32 := 512#32
  let v255 : BitVec 32 := Scalar.muli arg20 c512_i32_334
  let v261 : Index := Scalar.indexCast v255
  let c6_338 : Index := 6#32
  ![v261.toNat, 6]
@[reducible] def k0_t24_loop : Scf.Loop 32 :=
  let c0_i32_330 : BitVec 32 := 0#32
  let c4_i32_331 : BitVec 32 := 4#32
  let v254 : BitVec 32 := Scalar.addi c0_i32_330 c4_i32_331
  let c1_i32_332 : BitVec 32 := 1#32
  ⟨c0_i32_330, v254, c1_i32_332⟩
def k0_off47 (k0_t24 : Fin k0_t24_loop.trips) : Fin 2 → Nat :=
  let c0_i32_330 : BitVec 32 := 0#32
  let c1_i32_332 : BitVec 32 := 1#32
  let arg20 : BitVec 32 := Scf.iv c0_i32_330 c1_i32_332 k0_t24
  let c512_i32_334 : BitVec 32 := 512#32
  let v255 : BitVec 32 := Scalar.muli arg20 c512_i32_334
  let v256 : Index := Scalar.indexCast v255
  let c896_335 : Index := 896#32
  ![v256.toNat, 896]
def k0_off48 (k0_t24 : Fin k0_t24_loop.trips) : Fin 2 → Nat :=
  let c0_i32_330 : BitVec 32 := 0#32
  let c1_i32_332 : BitVec 32 := 1#32
  let arg20 : BitVec 32 := Scf.iv c0_i32_330 c1_i32_332 k0_t24
  let c512_i32_334 : BitVec 32 := 512#32
  let v255 : BitVec 32 := Scalar.muli arg20 c512_i32_334
  let v261 : Index := Scalar.indexCast v255
  let c7_338 : Index := 7#32
  ![v261.toNat, 7]
def k0_cond7 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_161 : BitVec 32 := 2#32
  let v127 : BitVec 1 := Scalar.cmpi .sge v2 c2_i32_161
  let v128 : BitVec 32 := Scalar.extui v127
  let c0_i32_170 : BitVec 32 := 0#32
  let v129 : BitVec 1 := Scalar.cmpi .ne v128 c0_i32_170
  v129

@[reducible] def k0_t25_loop : Scf.Loop 32 :=
  let c0_i32_278 : BitVec 32 := 0#32
  let c4_i32_279 : BitVec 32 := 4#32
  let v237 : BitVec 32 := Scalar.addi c0_i32_278 c4_i32_279
  let c1_i32_280 : BitVec 32 := 1#32
  ⟨c0_i32_278, v237, c1_i32_280⟩
def k0_off49 (k0_t25 : Fin k0_t25_loop.trips) : Fin 2 → Nat :=
  let c0_i32_278 : BitVec 32 := 0#32
  let c1_i32_280 : BitVec 32 := 1#32
  let arg20 : BitVec 32 := Scf.iv c0_i32_278 c1_i32_280 k0_t25
  let c512_i32_338 : BitVec 32 := 512#32
  let v259 : BitVec 32 := Scalar.muli arg20 c512_i32_338
  let v260 : Index := Scalar.indexCast v259
  let c0_339 : Index := 0#32
  ![v260.toNat, 0]
def k0_off50 (k0_t25 : Fin k0_t25_loop.trips) : Fin 2 → Nat :=
  let c0_i32_278 : BitVec 32 := 0#32
  let c1_i32_280 : BitVec 32 := 1#32
  let arg20 : BitVec 32 := Scf.iv c0_i32_278 c1_i32_280 k0_t25
  let c512_i32_338 : BitVec 32 := 512#32
  let v259 : BitVec 32 := Scalar.muli arg20 c512_i32_338
  let v265 : Index := Scalar.indexCast v259
  let c0_342 : Index := 0#32
  ![v265.toNat, 0]
@[reducible] def k0_t26_loop : Scf.Loop 32 :=
  let c0_i32_286 : BitVec 32 := 0#32
  let c4_i32_287 : BitVec 32 := 4#32
  let v240 : BitVec 32 := Scalar.addi c0_i32_286 c4_i32_287
  let c1_i32_288 : BitVec 32 := 1#32
  ⟨c0_i32_286, v240, c1_i32_288⟩
def k0_off51 (k0_t26 : Fin k0_t26_loop.trips) : Fin 2 → Nat :=
  let c0_i32_286 : BitVec 32 := 0#32
  let c1_i32_288 : BitVec 32 := 1#32
  let arg20 : BitVec 32 := Scf.iv c0_i32_286 c1_i32_288 k0_t26
  let c512_i32_338 : BitVec 32 := 512#32
  let v259 : BitVec 32 := Scalar.muli arg20 c512_i32_338
  let v260 : Index := Scalar.indexCast v259
  let c128_339 : Index := 128#32
  ![v260.toNat, 128]
def k0_off52 (k0_t26 : Fin k0_t26_loop.trips) : Fin 2 → Nat :=
  let c0_i32_286 : BitVec 32 := 0#32
  let c1_i32_288 : BitVec 32 := 1#32
  let arg20 : BitVec 32 := Scf.iv c0_i32_286 c1_i32_288 k0_t26
  let c512_i32_338 : BitVec 32 := 512#32
  let v259 : BitVec 32 := Scalar.muli arg20 c512_i32_338
  let v265 : Index := Scalar.indexCast v259
  let c1_342 : Index := 1#32
  ![v265.toNat, 1]
@[reducible] def k0_t27_loop : Scf.Loop 32 :=
  let c0_i32_294 : BitVec 32 := 0#32
  let c4_i32_295 : BitVec 32 := 4#32
  let v243 : BitVec 32 := Scalar.addi c0_i32_294 c4_i32_295
  let c1_i32_296 : BitVec 32 := 1#32
  ⟨c0_i32_294, v243, c1_i32_296⟩
def k0_off53 (k0_t27 : Fin k0_t27_loop.trips) : Fin 2 → Nat :=
  let c0_i32_294 : BitVec 32 := 0#32
  let c1_i32_296 : BitVec 32 := 1#32
  let arg20 : BitVec 32 := Scf.iv c0_i32_294 c1_i32_296 k0_t27
  let c512_i32_338 : BitVec 32 := 512#32
  let v259 : BitVec 32 := Scalar.muli arg20 c512_i32_338
  let v260 : Index := Scalar.indexCast v259
  let c256_339 : Index := 256#32
  ![v260.toNat, 256]
def k0_off54 (k0_t27 : Fin k0_t27_loop.trips) : Fin 2 → Nat :=
  let c0_i32_294 : BitVec 32 := 0#32
  let c1_i32_296 : BitVec 32 := 1#32
  let arg20 : BitVec 32 := Scf.iv c0_i32_294 c1_i32_296 k0_t27
  let c512_i32_338 : BitVec 32 := 512#32
  let v259 : BitVec 32 := Scalar.muli arg20 c512_i32_338
  let v265 : Index := Scalar.indexCast v259
  let c2_342 : Index := 2#32
  ![v265.toNat, 2]
@[reducible] def k0_t28_loop : Scf.Loop 32 :=
  let c0_i32_302 : BitVec 32 := 0#32
  let c4_i32_303 : BitVec 32 := 4#32
  let v246 : BitVec 32 := Scalar.addi c0_i32_302 c4_i32_303
  let c1_i32_304 : BitVec 32 := 1#32
  ⟨c0_i32_302, v246, c1_i32_304⟩
def k0_off55 (k0_t28 : Fin k0_t28_loop.trips) : Fin 2 → Nat :=
  let c0_i32_302 : BitVec 32 := 0#32
  let c1_i32_304 : BitVec 32 := 1#32
  let arg20 : BitVec 32 := Scf.iv c0_i32_302 c1_i32_304 k0_t28
  let c512_i32_338 : BitVec 32 := 512#32
  let v259 : BitVec 32 := Scalar.muli arg20 c512_i32_338
  let v260 : Index := Scalar.indexCast v259
  let c384_339 : Index := 384#32
  ![v260.toNat, 384]
def k0_off56 (k0_t28 : Fin k0_t28_loop.trips) : Fin 2 → Nat :=
  let c0_i32_302 : BitVec 32 := 0#32
  let c1_i32_304 : BitVec 32 := 1#32
  let arg20 : BitVec 32 := Scf.iv c0_i32_302 c1_i32_304 k0_t28
  let c512_i32_338 : BitVec 32 := 512#32
  let v259 : BitVec 32 := Scalar.muli arg20 c512_i32_338
  let v265 : Index := Scalar.indexCast v259
  let c3_342 : Index := 3#32
  ![v265.toNat, 3]
@[reducible] def k0_t29_loop : Scf.Loop 32 :=
  let c0_i32_310 : BitVec 32 := 0#32
  let c4_i32_311 : BitVec 32 := 4#32
  let v249 : BitVec 32 := Scalar.addi c0_i32_310 c4_i32_311
  let c1_i32_312 : BitVec 32 := 1#32
  ⟨c0_i32_310, v249, c1_i32_312⟩
def k0_off57 (k0_t29 : Fin k0_t29_loop.trips) : Fin 2 → Nat :=
  let c0_i32_310 : BitVec 32 := 0#32
  let c1_i32_312 : BitVec 32 := 1#32
  let arg20 : BitVec 32 := Scf.iv c0_i32_310 c1_i32_312 k0_t29
  let c512_i32_338 : BitVec 32 := 512#32
  let v259 : BitVec 32 := Scalar.muli arg20 c512_i32_338
  let v260 : Index := Scalar.indexCast v259
  let c512_339 : Index := 512#32
  ![v260.toNat, 512]
def k0_off58 (k0_t29 : Fin k0_t29_loop.trips) : Fin 2 → Nat :=
  let c0_i32_310 : BitVec 32 := 0#32
  let c1_i32_312 : BitVec 32 := 1#32
  let arg20 : BitVec 32 := Scf.iv c0_i32_310 c1_i32_312 k0_t29
  let c512_i32_338 : BitVec 32 := 512#32
  let v259 : BitVec 32 := Scalar.muli arg20 c512_i32_338
  let v265 : Index := Scalar.indexCast v259
  let c4_342 : Index := 4#32
  ![v265.toNat, 4]
@[reducible] def k0_t30_loop : Scf.Loop 32 :=
  let c0_i32_318 : BitVec 32 := 0#32
  let c4_i32_319 : BitVec 32 := 4#32
  let v252 : BitVec 32 := Scalar.addi c0_i32_318 c4_i32_319
  let c1_i32_320 : BitVec 32 := 1#32
  ⟨c0_i32_318, v252, c1_i32_320⟩
def k0_off59 (k0_t30 : Fin k0_t30_loop.trips) : Fin 2 → Nat :=
  let c0_i32_318 : BitVec 32 := 0#32
  let c1_i32_320 : BitVec 32 := 1#32
  let arg20 : BitVec 32 := Scf.iv c0_i32_318 c1_i32_320 k0_t30
  let c512_i32_338 : BitVec 32 := 512#32
  let v259 : BitVec 32 := Scalar.muli arg20 c512_i32_338
  let v260 : Index := Scalar.indexCast v259
  let c640_339 : Index := 640#32
  ![v260.toNat, 640]
def k0_off60 (k0_t30 : Fin k0_t30_loop.trips) : Fin 2 → Nat :=
  let c0_i32_318 : BitVec 32 := 0#32
  let c1_i32_320 : BitVec 32 := 1#32
  let arg20 : BitVec 32 := Scf.iv c0_i32_318 c1_i32_320 k0_t30
  let c512_i32_338 : BitVec 32 := 512#32
  let v259 : BitVec 32 := Scalar.muli arg20 c512_i32_338
  let v265 : Index := Scalar.indexCast v259
  let c5_342 : Index := 5#32
  ![v265.toNat, 5]
@[reducible] def k0_t31_loop : Scf.Loop 32 :=
  let c0_i32_326 : BitVec 32 := 0#32
  let c4_i32_327 : BitVec 32 := 4#32
  let v255 : BitVec 32 := Scalar.addi c0_i32_326 c4_i32_327
  let c1_i32_328 : BitVec 32 := 1#32
  ⟨c0_i32_326, v255, c1_i32_328⟩
def k0_off61 (k0_t31 : Fin k0_t31_loop.trips) : Fin 2 → Nat :=
  let c0_i32_326 : BitVec 32 := 0#32
  let c1_i32_328 : BitVec 32 := 1#32
  let arg20 : BitVec 32 := Scf.iv c0_i32_326 c1_i32_328 k0_t31
  let c512_i32_338 : BitVec 32 := 512#32
  let v259 : BitVec 32 := Scalar.muli arg20 c512_i32_338
  let v260 : Index := Scalar.indexCast v259
  let c768_339 : Index := 768#32
  ![v260.toNat, 768]
def k0_off62 (k0_t31 : Fin k0_t31_loop.trips) : Fin 2 → Nat :=
  let c0_i32_326 : BitVec 32 := 0#32
  let c1_i32_328 : BitVec 32 := 1#32
  let arg20 : BitVec 32 := Scf.iv c0_i32_326 c1_i32_328 k0_t31
  let c512_i32_338 : BitVec 32 := 512#32
  let v259 : BitVec 32 := Scalar.muli arg20 c512_i32_338
  let v265 : Index := Scalar.indexCast v259
  let c6_342 : Index := 6#32
  ![v265.toNat, 6]
@[reducible] def k0_t32_loop : Scf.Loop 32 :=
  let c0_i32_334 : BitVec 32 := 0#32
  let c4_i32_335 : BitVec 32 := 4#32
  let v258 : BitVec 32 := Scalar.addi c0_i32_334 c4_i32_335
  let c1_i32_336 : BitVec 32 := 1#32
  ⟨c0_i32_334, v258, c1_i32_336⟩
def k0_off63 (k0_t32 : Fin k0_t32_loop.trips) : Fin 2 → Nat :=
  let c0_i32_334 : BitVec 32 := 0#32
  let c1_i32_336 : BitVec 32 := 1#32
  let arg20 : BitVec 32 := Scf.iv c0_i32_334 c1_i32_336 k0_t32
  let c512_i32_338 : BitVec 32 := 512#32
  let v259 : BitVec 32 := Scalar.muli arg20 c512_i32_338
  let v260 : Index := Scalar.indexCast v259
  let c896_339 : Index := 896#32
  ![v260.toNat, 896]
def k0_off64 (k0_t32 : Fin k0_t32_loop.trips) : Fin 2 → Nat :=
  let c0_i32_334 : BitVec 32 := 0#32
  let c1_i32_336 : BitVec 32 := 1#32
  let arg20 : BitVec 32 := Scf.iv c0_i32_334 c1_i32_336 k0_t32
  let c512_i32_338 : BitVec 32 := 512#32
  let v259 : BitVec 32 := Scalar.muli arg20 c512_i32_338
  let v265 : Index := Scalar.indexCast v259
  let c7_342 : Index := 7#32
  ![v265.toNat, 7]
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S8192x1024 : Shape := ⟨2, ![8192, 1024]⟩
abbrev S1024x1024 : Shape := ⟨2, ![1024, 1024]⟩
abbrev S8192x8x128 : Shape := ⟨3, ![8192, 8, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S8x8192x8192 : Shape := ⟨3, ![8, 8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S1x8192x1 : Shape := ⟨3, ![1, 8192, 1]⟩
abbrev S8x128x8192 : Shape := ⟨3, ![8, 128, 8192]⟩

abbrev nBuf : Space → Nat
  | .hbm => 96
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S8192x1024, .bf16⟩
  | .hbm, ⟨4, _⟩ => ⟨S1024x1024, .bf16⟩
  | .hbm, ⟨5, _⟩ => ⟨S8192x1024, .f32⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S1024x1024, .f32⟩
  | .hbm, ⟨10, _⟩ => ⟨S8192x1024, .f32⟩
  | .hbm, ⟨11, _⟩ => ⟨S8192x8x128, .f32⟩
  | .hbm, ⟨12, _⟩ => ⟨S8192, .i32⟩
  | .hbm, ⟨13, _⟩ => ⟨S_, .i32⟩
  | .hbm, ⟨14, _⟩ => ⟨S_, .i32⟩
  | .hbm, ⟨15, _⟩ => ⟨S8192, .i32⟩
  | .hbm, ⟨16, _⟩ => ⟨S8192, .i32⟩
  | .hbm, ⟨17, _⟩ => ⟨S8192, .i32⟩
  | .hbm, ⟨18, _⟩ => ⟨S_, .i32⟩
  | .hbm, ⟨19, _⟩ => ⟨S8192, .i32⟩
  | .hbm, ⟨20, _⟩ => ⟨S8192, .i1⟩
  | .hbm, ⟨21, _⟩ => ⟨S8192, .i32⟩
  | .hbm, ⟨22, _⟩ => ⟨S8192, .i32⟩
  | .hbm, ⟨23, _⟩ => ⟨S_, .i32⟩
  | .hbm, ⟨24, _⟩ => ⟨S8192, .i32⟩
  | .hbm, ⟨25, _⟩ => ⟨S8192, .i1⟩
  | .hbm, ⟨26, _⟩ => ⟨S8192, .i1⟩
  | .hbm, ⟨27, _⟩ => ⟨S_, .i32⟩
  | .hbm, ⟨28, _⟩ => ⟨S8192, .i32⟩
  | .hbm, ⟨29, _⟩ => ⟨S8192, .i32⟩
  | .hbm, ⟨30, _⟩ => ⟨S8192, .i32⟩
  | .hbm, ⟨31, _⟩ => ⟨S8192x1, .i32⟩
  | .hbm, ⟨32, _⟩ => ⟨S8192, .i32⟩
  | .hbm, ⟨33, _⟩ => ⟨S_, .i32⟩
  | .hbm, ⟨34, _⟩ => ⟨S_, .i32⟩
  | .hbm, ⟨35, _⟩ => ⟨S8192, .i32⟩
  | .hbm, ⟨36, _⟩ => ⟨S8192, .i32⟩
  | .hbm, ⟨37, _⟩ => ⟨S8192, .i32⟩
  | .hbm, ⟨38, _⟩ => ⟨S_, .i32⟩
  | .hbm, ⟨39, _⟩ => ⟨S8192, .i32⟩
  | .hbm, ⟨40, _⟩ => ⟨S8192, .i1⟩
  | .hbm, ⟨41, _⟩ => ⟨S8192, .i32⟩
  | .hbm, ⟨42, _⟩ => ⟨S8192, .i32⟩
  | .hbm, ⟨43, _⟩ => ⟨S_, .i32⟩
  | .hbm, ⟨44, _⟩ => ⟨S8192, .i32⟩
  | .hbm, ⟨45, _⟩ => ⟨S8192, .i1⟩
  | .hbm, ⟨46, _⟩ => ⟨S8192, .i1⟩
  | .hbm, ⟨47, _⟩ => ⟨S_, .i32⟩
  | .hbm, ⟨48, _⟩ => ⟨S8192, .i32⟩
  | .hbm, ⟨49, _⟩ => ⟨S8192, .i32⟩
  | .hbm, ⟨50, _⟩ => ⟨S8192, .i32⟩
  | .hbm, ⟨51, _⟩ => ⟨S1x8192, .i32⟩
  | .hbm, ⟨52, _⟩ => ⟨S8192x8192, .i32⟩
  | .hbm, ⟨53, _⟩ => ⟨S8192x8192, .i32⟩
  | .hbm, ⟨54, _⟩ => ⟨S8192x8192, .i1⟩
  | .hbm, ⟨55, _⟩ => ⟨S8192x8x128, .f32⟩
  | .hbm, ⟨56, _⟩ => ⟨S8x8192x8192, .f32⟩
  | .hbm, ⟨57, _⟩ => ⟨S_, .f32⟩
  | .hbm, ⟨58, _⟩ => ⟨S8x8192x8192, .f32⟩
  | .hbm, ⟨59, _⟩ => ⟨S8x8192x8192, .f32⟩
  | .hbm, ⟨60, _⟩ => ⟨S1x8192x8192, .i1⟩
  | .hbm, ⟨61, _⟩ => ⟨S_, .f32⟩
  | .hbm, ⟨62, _⟩ => ⟨S_, .f32⟩
  | .hbm, ⟨63, _⟩ => ⟨S8x8192x8192, .i1⟩
  | .hbm, ⟨64, _⟩ => ⟨S8x8192x8192, .f32⟩
  | .hbm, ⟨65, _⟩ => ⟨S8x8192x8192, .f32⟩
  | .hbm, ⟨66, _⟩ => ⟨S_, .f32⟩
  | .hbm, ⟨67, _⟩ => ⟨S8x8192, .f32⟩
  | .hbm, ⟨68, _⟩ => ⟨S8x8192x1, .f32⟩
  | .hbm, ⟨69, _⟩ => ⟨S8x8192x8192, .f32⟩
  | .hbm, ⟨70, _⟩ => ⟨S8x8192x8192, .f32⟩
  | .hbm, ⟨71, _⟩ => ⟨S8x8192x8192, .f32⟩
  | .hbm, ⟨72, _⟩ => ⟨S_, .i1⟩
  | .hbm, ⟨73, _⟩ => ⟨S8192, .i1⟩
  | .hbm, ⟨74, _⟩ => ⟨S1x8192x1, .i1⟩
  | .hbm, ⟨75, _⟩ => ⟨S_, .f32⟩
  | .hbm, ⟨76, _⟩ => ⟨S8x8192, .f32⟩
  | .hbm, ⟨77, _⟩ => ⟨S8x8192x1, .f32⟩
  | .hbm, ⟨78, _⟩ => ⟨S_, .f32⟩
  | .hbm, ⟨79, _⟩ => ⟨S_, .f32⟩
  | .hbm, ⟨80, _⟩ => ⟨S8x8192x1, .i1⟩
  | .hbm, ⟨81, _⟩ => ⟨S8x8192x1, .f32⟩
  | .hbm, ⟨82, _⟩ => ⟨S8x8192x1, .f32⟩
  | .hbm, ⟨83, _⟩ => ⟨S8x8192x8192, .f32⟩
  | .hbm, ⟨84, _⟩ => ⟨S8x8192x8192, .f32⟩
  | .hbm, ⟨85, _⟩ => ⟨S1x8192x1, .i1⟩
  | .hbm, ⟨86, _⟩ => ⟨S_, .f32⟩
  | .hbm, ⟨87, _⟩ => ⟨S_, .f32⟩
  | .hbm, ⟨88, _⟩ => ⟨S8x8192x8192, .i1⟩
  | .hbm, ⟨89, _⟩ => ⟨S8x8192x8192, .f32⟩
  | .hbm, ⟨90, _⟩ => ⟨S8x8192x8192, .f32⟩
  | .hbm, ⟨91, _⟩ => ⟨S8192x8x128, .f32⟩
  | .hbm, ⟨92, _⟩ => ⟨S8x128x8192, .f32⟩
  | .hbm, ⟨93, _⟩ => ⟨S8192x8x128, .f32⟩
  | .hbm, ⟨94, _⟩ => ⟨S8192x1024, .f32⟩
  | .hbm, ⟨95, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_cst : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_cst_1 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v21 : Ref sig .tc := ⟨.hbm, 65, rfl⟩
abbrev main_cst_2 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_c_3 : Ref sig .tc := ⟨.hbm, 72, rfl⟩
abbrev main_v27 : Ref sig .tc := ⟨.hbm, 73, rfl⟩
abbrev main_v28 : Ref sig .tc := ⟨.hbm, 74, rfl⟩
abbrev main_cst_4 : Ref sig .tc := ⟨.hbm, 75, rfl⟩
abbrev main_v29 : Ref sig .tc := ⟨.hbm, 76, rfl⟩
abbrev main_v30 : Ref sig .tc := ⟨.hbm, 77, rfl⟩
abbrev main_cst_5 : Ref sig .tc := ⟨.hbm, 78, rfl⟩
abbrev main_call3_v0 : Ref sig .tc := ⟨.hbm, 79, rfl⟩
abbrev main_call3_v1 : Ref sig .tc := ⟨.hbm, 80, rfl⟩
abbrev main_call3_v2 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_cst_6 : Ref sig .tc := ⟨.hbm, 86, rfl⟩
abbrev main_call4_v0 : Ref sig .tc := ⟨.hbm, 87, rfl⟩
abbrev main_call4_v1 : Ref sig .tc := ⟨.hbm, 88, rfl⟩
abbrev main_call4_v2 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩

abbrev nD : Nat := 1
abbrev τ : Topo := Topo.v7x

variable {F : FTy → Type} [FloatOps F]
-- ==== Proof.Prog.lean ====
module

public import proofs.«01_k».proof.Defs
public import Idealize.ShloMosaic.Lib.Pipeline.Launch
public import Idealize.ShloMosaic.Lib.Tactic
public import proofs.«01_k».proof.Proof.Gen.KernelIdeal
public import proofs.«01_k».proof.Proof.Gen.KernelIdeal.Skeleton

/-! The kernel's body as a composition of named pieces (sends, waits, the projection, the chunk
    updates, the division and the output product), over the buffers the call runs on. -/

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- A program of the kernel's thread. -/
abbrev PG (F : FTy → Type) [FloatOps F] [Named F] (α : Type) := Prog (TpuEff nD τ sig (Elt F) Λ₀ .tc) α

/-! ## The buffers -/

abbrev xM : Memref sig .tc .hbm S2048x1024 .bf16 := Memref.whole main_arg0
abbrev kA : Memref sig .tc .hbm S2048x1024 .bf16 := Memref.whole main_arg2
abbrev vA : Memref sig .tc .hbm S2048x1024 .bf16 := Memref.whole main_arg3
abbrev qM : Memref sig .tc .vmem S2048x1024 .bf16 := Memref.whole cc0_scratch0
abbrev cM : Memref sig .tc .vmem S2048x1024 .f32 := Memref.whole cc0_scratch1
abbrev mM : Memref sig .tc .vmem S2048x8 .f32 := Memref.whole cc0_scratch2
abbrev lM : Memref sig .tc .vmem S2048x8 .f32 := Memref.whole cc0_scratch3
abbrev kM : Memref sig .tc .vmem S2048x1024 .bf16 := Memref.whole cc0_scratch4
abbrev vM : Memref sig .tc .vmem S2048x1024 .bf16 := Memref.whole cc0_scratch5
abbrev tM : Memref sig .tc .vmem S512x1024 .bf16 := Memref.whole cc0_scratch6
abbrev ckM : Memref sig .tc .hbm S3x2048x1024 .bf16 := Memref.whole main_v1_1
abbrev cvM : Memref sig .tc .hbm S3x2048x1024 .bf16 := Memref.whole main_v1_2

/-- Slot 0 of the buffer the K blocks land in. -/
abbrev ck0 : Memref sig .tc .hbm S2048x1024 .bf16 :=
  (ckM.slice (Rect.unit (s := S3x2048x1024) ![0, 0, 0] S1x2048x1024.size inb_S3x2048x1024_S1x2048x1024_0_0_0) (fun _ => rfl)).squeeze S2048x1024 squeezes_S1x2048x1024_S2048x1024
theorem ck0_we : ck0.view.WordExact :=
  (((Memref.isWhole_whole main_v1_1 : ckM.IsWhole)).wordExact_slice rfl _ wordsbf16_S3x2048x1024_S1x2048x1024_0_0_0).reshape _ _
/-- Slot 0 of the buffer the V blocks land in. -/
abbrev cv0 : Memref sig .tc .hbm S2048x1024 .bf16 :=
  (cvM.slice (Rect.unit (s := S3x2048x1024) ![0, 0, 0] S1x2048x1024.size inb_S3x2048x1024_S1x2048x1024_0_0_0) (fun _ => rfl)).squeeze S2048x1024 squeezes_S1x2048x1024_S2048x1024
theorem cv0_we : cv0.view.WordExact :=
  (((Memref.isWhole_whole main_v1_2 : cvM.IsWhole)).wordExact_slice rfl _ wordsbf16_S3x2048x1024_S1x2048x1024_0_0_0).reshape _ _
/-- Slot 1 of the buffer the K blocks land in. -/
abbrev ck1 : Memref sig .tc .hbm S2048x1024 .bf16 :=
  (ckM.slice (Rect.unit (s := S3x2048x1024) ![1, 0, 0] S1x2048x1024.size inb_S3x2048x1024_S1x2048x1024_1_0_0) (fun _ => rfl)).squeeze S2048x1024 squeezes_S1x2048x1024_S2048x1024
theorem ck1_we : ck1.view.WordExact :=
  (((Memref.isWhole_whole main_v1_1 : ckM.IsWhole)).wordExact_slice rfl _ wordsbf16_S3x2048x1024_S1x2048x1024_1_0_0).reshape _ _
/-- Slot 1 of the buffer the V blocks land in. -/
abbrev cv1 : Memref sig .tc .hbm S2048x1024 .bf16 :=
  (cvM.slice (Rect.unit (s := S3x2048x1024) ![1, 0, 0] S1x2048x1024.size inb_S3x2048x1024_S1x2048x1024_1_0_0) (fun _ => rfl)).squeeze S2048x1024 squeezes_S1x2048x1024_S2048x1024
theorem cv1_we : cv1.view.WordExact :=
  (((Memref.isWhole_whole main_v1_2 : cvM.IsWhole)).wordExact_slice rfl _ wordsbf16_S3x2048x1024_S1x2048x1024_1_0_0).reshape _ _
/-- Slot 2 of the buffer the K blocks land in. -/
abbrev ck2 : Memref sig .tc .hbm S2048x1024 .bf16 :=
  (ckM.slice (Rect.unit (s := S3x2048x1024) ![2, 0, 0] S1x2048x1024.size inb_S3x2048x1024_S1x2048x1024_2_0_0) (fun _ => rfl)).squeeze S2048x1024 squeezes_S1x2048x1024_S2048x1024
theorem ck2_we : ck2.view.WordExact :=
  (((Memref.isWhole_whole main_v1_1 : ckM.IsWhole)).wordExact_slice rfl _ wordsbf16_S3x2048x1024_S1x2048x1024_2_0_0).reshape _ _
/-- Slot 2 of the buffer the V blocks land in. -/
abbrev cv2 : Memref sig .tc .hbm S2048x1024 .bf16 :=
  (cvM.slice (Rect.unit (s := S3x2048x1024) ![2, 0, 0] S1x2048x1024.size inb_S3x2048x1024_S1x2048x1024_2_0_0) (fun _ => rfl)).squeeze S2048x1024 squeezes_S1x2048x1024_S2048x1024
theorem cv2_we : cv2.view.WordExact :=
  (((Memref.isWhole_whole main_v1_2 : cvM.IsWhole)).wordExact_slice rfl _ wordsbf16_S3x2048x1024_S1x2048x1024_2_0_0).reshape _ _
abbrev kS0 : DmaSem sig := ((cc0_scratch7.slice (Rect.unit (s := S3) ![0] S1.size inb_S3_S1_0)).squeeze S_ squeezes_S1_S_).sem
abbrev kS1 : DmaSem sig := ((cc0_scratch7.slice (Rect.unit (s := S3) ![1] S1.size inb_S3_S1_1)).squeeze S_ squeezes_S1_S_).sem
abbrev kS2 : DmaSem sig := ((cc0_scratch7.slice (Rect.unit (s := S3) ![2] S1.size inb_S3_S1_2)).squeeze S_ squeezes_S1_S_).sem
abbrev kR0 : DmaSem sig := ((cc0_scratch8.slice (Rect.unit (s := S3) ![0] S1.size inb_S3_S1_0)).squeeze S_ squeezes_S1_S_).sem
abbrev kR1 : DmaSem sig := ((cc0_scratch8.slice (Rect.unit (s := S3) ![1] S1.size inb_S3_S1_1)).squeeze S_ squeezes_S1_S_).sem
abbrev kR2 : DmaSem sig := ((cc0_scratch8.slice (Rect.unit (s := S3) ![2] S1.size inb_S3_S1_2)).squeeze S_ squeezes_S1_S_).sem
abbrev vS0 : DmaSem sig := ((cc0_scratch9.slice (Rect.unit (s := S3) ![0] S1.size inb_S3_S1_0)).squeeze S_ squeezes_S1_S_).sem
abbrev vS1 : DmaSem sig := ((cc0_scratch9.slice (Rect.unit (s := S3) ![1] S1.size inb_S3_S1_1)).squeeze S_ squeezes_S1_S_).sem
abbrev vS2 : DmaSem sig := ((cc0_scratch9.slice (Rect.unit (s := S3) ![2] S1.size inb_S3_S1_2)).squeeze S_ squeezes_S1_S_).sem
abbrev vR0 : DmaSem sig := ((cc0_scratch10.slice (Rect.unit (s := S3) ![0] S1.size inb_S3_S1_0)).squeeze S_ squeezes_S1_S_).sem
abbrev vR1 : DmaSem sig := ((cc0_scratch10.slice (Rect.unit (s := S3) ![1] S1.size inb_S3_S1_1)).squeeze S_ squeezes_S1_S_).sem
abbrev vR2 : DmaSem sig := ((cc0_scratch10.slice (Rect.unit (s := S3) ![2] S1.size inb_S3_S1_2)).squeeze S_ squeezes_S1_S_).sem
abbrev lS0 : DmaSem sig := ((cc0_scratch11.slice (Rect.unit (s := S2) ![0] S1.size inb_S2_S1_0)).squeeze S_ squeezes_S1_S_).sem
abbrev lS1 : DmaSem sig := ((cc0_scratch11.slice (Rect.unit (s := S2) ![1] S1.size inb_S2_S1_1)).squeeze S_ squeezes_S1_S_).sem

/-! ## One trip of a head's loop -/

/-- The scaled scores of a tile of queries against a head's keys. -/
def scU (kh : Vec F S2048x128 .bf16) (q : Vec F S512x128 .bf16) : FVec F S512x2048 .f32 :=
  mulf (matmul dot_S512x128_S2048x128_S512x2048_1_1_0_0_n_n none q kh (constant S512x2048 .f32 0x00000000#32))
    (broadcast S512x2048 (Scalar.ofBits .f32 0x3DB504F3#32))

/-- The block number of each row of a tile, as the kernel computes it. -/
def rowBlk (w : BitVec 32) : IVec S512x1 32 :=
  have v209 : IVec S512x1 32 := iota .tc S512x1 32 [0] iota_S512x1_d0_w32
  have v211 : IVec S512x1 32 := addi (broadcast S512x1 w) v209
  have v213 : IVec S512x1 32 := divsi v211 (broadcast S512x1 64#32)
  have v216 : IVec S512x1 32 := extui 32 (cmpi .sgt v211 (broadcast S512x1 0#32)) natLt_1_32
  have v219 : IVec S512x1 32 := extui 32 (cmpi .slt v211 (broadcast S512x1 0#32)) natLt_1_32
  have v220 : IVec S512x1 32 := subi v216 v219
  let v225 : BitVec 32 := Scalar.subi (Scalar.extui (Scalar.cmpi .sgt 64#32 0#32)) (Scalar.extui (Scalar.cmpi .slt 64#32 0#32))
  have v227 : IVec S512x1 1 := cmpi .ne v220 (broadcast S512x1 v225)
  have v231 : IVec S512x1 1 := cmpi .ne (remsi v211 (broadcast S512x1 64#32)) (broadcast S512x1 0#32)
  select (andi v227 v231) (subi v213 (broadcast S512x1 1#32)) v213

/-- The block number of each column, as the kernel computes it. -/
def colBlk : IVec S1x2048 32 :=
  have v236 : IVec S1x2048 32 := iota .tc S1x2048 32 [1] iota_S1x2048_d1_w32
  have v238 : IVec S1x2048 32 := divsi v236 (broadcast S1x2048 64#32)
  have v241 : IVec S1x2048 32 := extui 32 (cmpi .sgt v236 (broadcast S1x2048 0#32)) natLt_1_32
  have v244 : IVec S1x2048 32 := extui 32 (cmpi .slt v236 (broadcast S1x2048 0#32)) natLt_1_32
  have v245 : IVec S1x2048 32 := subi v241 v244
  let v250 : BitVec 32 := Scalar.subi (Scalar.extui (Scalar.cmpi .sgt 64#32 0#32)) (Scalar.extui (Scalar.cmpi .slt 64#32 0#32))
  have v252 : IVec S1x2048 1 := cmpi .ne v245 (broadcast S1x2048 v250)
  have v256 : IVec S1x2048 1 := cmpi .ne (remsi v236 (broadcast S1x2048 64#32)) (broadcast S1x2048 0#32)
  select (andi v252 v256) (subi v238 (broadcast S1x2048 1#32)) v238

/-- The scores of a tile starting at row `w`, those of later blocks replaced by the mask's constant. -/
def scM (w : BitVec 32) (kh : Vec F S2048x128 .bf16) (q : Vec F S512x128 .bf16) : FVec F S512x2048 .f32 :=
  select (cmpi .sle (broadcastTo S512x2048 colBlk broadcasts_S1x2048_S512x2048) (broadcastTo S512x2048 (rowBlk w) broadcasts_S512x1_S512x2048))
    (scU kh q) (broadcast S512x2048 (Named.named κ "mask" 0xCE6E6B28#32 : F .f32))

/-- The new running maximum. -/
def newM (s : FVec F S512x2048 .f32) (m : Vec F S512x1 .f32) : FVec F S512x1 .f32 :=
  maximumf m (shapeCast S512x1 (multiReduction .maximumf [1] S512 s 0xFF800000#32 reduces_S512x2048_S512 (.inl rfl) rfl) shapeCasts_S512_S512x1)

/-- The factor the old sums are scaled by. -/
def corr (s : FVec F S512x2048 .f32) (m : Vec F S512x1 .f32) : FVec F S512x1 .f32 := exp (subf m (newM s m))

/-- The exponentials of the scores below the new maximum. -/
def expS (s : FVec F S512x2048 .f32) (m : Vec F S512x1 .f32) : FVec F S512x2048 .f32 :=
  exp (subf s (broadcastTo S512x2048 (newM s m) broadcasts_S512x1_S512x2048))

/-- The new sum of exponentials. -/
def newL (s : FVec F S512x2048 .f32) (m l : Vec F S512x1 .f32) : FVec F S512x1 .f32 :=
  addf (mulf l (corr s m)) (shapeCast S512x1 (multiReduction .add [1] S512 (expS s m) 0x00000000#32 reduces_S512x2048_S512 (.inl rfl) rfl) shapeCasts_S512_S512x1)

/-- The new weighted sum of values. -/
def newC (vh : Vec F S2048x128 .bf16) (s : FVec F S512x2048 .f32) (m : Vec F S512x1 .f32) (c : Vec F S512x128 .f32) : FVec F S512x128 .f32 :=
  addf (mulf c (broadcastTo S512x128 (corr s m) broadcasts_S512x1_S512x128))
    (matmul dot_S512x2048_S2048x128_S512x128_1_0_0_1_n_n none (truncf .bf16 (expS s m) bitsLt_bf16_f32) vh (constant S512x128 .f32 0x00000000#32))

/-- One trip of a head's loop: a tile of queries, and the running maximum, sum and weighted values. -/
def genStep (sc : Vec F S512x128 .bf16 → FVec F S512x2048 .f32) (vh : Vec F S2048x128 .bf16)
    (o1 : Fin 2 → ℕ) (i1 : ∀ a, o1 a + S512x128.size a ≤ S2048x1024.size a)
    (o2 : Fin 2 → ℕ) (i2 : ∀ a, o2 a + S512x1.size a ≤ S2048x8.size a) : PG F Unit := do
  let q : Vec F S512x128 .bf16 ← Prog.lift (.load qM (Rect.unit (s := S2048x1024) o1 S512x128.size i1).toLoadRect (View.loadsAt_vmem h_S512x128))
  let m : Vec F S512x1 .f32 ← Prog.lift (.load mM (Rect.unit (s := S2048x8) o2 S512x1.size i2).toLoadRect (View.loadsAt_vmem h_S512x1))
  let l : Vec F S512x1 .f32 ← Prog.lift (.load lM (Rect.unit (s := S2048x8) o2 S512x1.size i2).toLoadRect (View.loadsAt_vmem h_S512x1))
  let c : Vec F S512x128 .f32 ← Prog.lift (.load cM (Rect.unit (s := S2048x1024) o1 S512x128.size i1).toLoadRect (View.loadsAt_vmem h_S512x128))
  let _c : Vec F S512x128 .f32 ← Prog.lift (.load cM (Rect.unit (s := S2048x1024) o1 S512x128.size i1).toLoadRect (View.loadsAt_vmem h_S512x128))
  Prog.lift (.store cM (Rect.unit (s := S2048x1024) o1 S512x128.size i1) (shapeCast S512x128 (newC vh (sc q) m c) shapeCasts_S512x128_S512x128) Finset.univ (View.stores_vmem_bits_univ h_S512x128 rfl) (.inl rfl))
  let _m : Vec F S512x1 .f32 ← Prog.lift (.load mM (Rect.unit (s := S2048x8) o2 S512x1.size i2).toLoadRect (View.loadsAt_vmem h_S512x1))
  Prog.lift (.store mM (Rect.unit (s := S2048x8) o2 S512x1.size i2) (shapeCast S512x1 (newM (sc q) m) shapeCasts_S512x1_S512x1) Finset.univ (View.stores_vmem_bits_univ h_S512x1 rfl) (.inl rfl))
  let _l : Vec F S512x1 .f32 ← Prog.lift (.load lM (Rect.unit (s := S2048x8) o2 S512x1.size i2).toLoadRect (View.loadsAt_vmem h_S512x1))
  Prog.lift (.store lM (Rect.unit (s := S2048x8) o2 S512x1.size i2) (shapeCast S512x1 (newL (sc q) m l) shapeCasts_S512x1_S512x1) Finset.univ (View.stores_vmem_bits_univ h_S512x1 rfl) (.inl rfl))
  pure ⟨⟩

/-! ## A head's loop -/

/-- The bounds of every head's loop: four tiles. -/
@[reducible] def lpG : Scf.Loop 32 := ⟨0#32, Scalar.addi 0#32 4#32, 1#32⟩
/-- The first row of trip `k`, as a word. -/
def rowW (k : Fin lpG.trips) : BitVec 32 := Scalar.muli (Scf.iv 0#32 1#32 k) 512#32
/-- The offsets of trip `k`'s tile in a head's 128 columns. -/
def gO1 (h : ℕ) (k : Fin lpG.trips) : Fin 2 → ℕ := ![(Scalar.indexCast (rowW k)).toNat, 128 * h]
/-- The offsets of trip `k`'s tile in a head's column of the running maxima and sums. -/
def gO2 (h : ℕ) (k : Fin lpG.trips) : Fin 2 → ℕ := ![(Scalar.indexCast (rowW k)).toNat, h]
theorem gO1_eq (h : ℕ) (k : Fin lpG.trips) : gO1 h k = ![512 * k.val, 128 * h] := by
  have := congrFun (k0_off1_eq k) 0
  have e : (Scalar.indexCast (rowW k)).toNat = 512 * k.val := this
  unfold gO1; rw [e]
theorem gO2_eq (h : ℕ) (k : Fin lpG.trips) : gO2 h k = ![512 * k.val, h] := by
  have := congrFun (k0_off1_eq k) 0
  have e : (Scalar.indexCast (rowW k)).toNat = 512 * k.val := this
  unfold gO2; rw [e]
theorem gO1_inb {h : ℕ} (hh : h < 8) (k : Fin lpG.trips) : ∀ a, gO1 h k a + S512x128.size a ≤ S2048x1024.size a := by
  rw [gO1_eq]; have hk : k.val < 4 := k.isLt
  intro a; fin_cases a
  · show 512 * k.val + 512 ≤ 2048; omega
  · show 128 * h + 128 ≤ 1024; omega
theorem gO2_inb {h : ℕ} (hh : h < 8) (k : Fin lpG.trips) : ∀ a, gO2 h k a + S512x1.size a ≤ S2048x8.size a := by
  rw [gO2_eq]; have hk : k.val < 4 := k.isLt
  intro a; fin_cases a
  · show 512 * k.val + 512 ≤ 2048; omega
  · show h + 1 ≤ 8; omega
theorem hC_inb {h : ℕ} (hh : h < 8) : ∀ a, (![0, 128 * h] : Fin 2 → ℕ) a + S2048x128.size a ≤ S2048x1024.size a := by
  intro a; fin_cases a
  · show 0 + 2048 ≤ 2048; omega
  · show 128 * h + 128 ≤ 1024; omega
theorem hL_inb {h : ℕ} (hh : h < 8) : ∀ a, (![0, h] : Fin 2 → ℕ) a + S2048x1.size a ≤ S2048x8.size a := by
  intro a; fin_cases a
  · show 0 + 2048 ≤ 2048; omega
  · show h + 1 ≤ 8; omega

/-- How a tile's scores are computed: by trip, from the head's keys and the tile's queries. -/
abbrev Sc (F : FTy → Type) [FloatOps F] [Named F] := Fin lpG.trips → Vec F S2048x128 .bf16 → Vec F S512x128 .bf16 → FVec F S512x2048 .f32

/-- Head `h` of a chunk: its keys and values, then the four tiles. -/
def headG (sc : Sc F) (h : ℕ) (hh : h < 8) : PG F Unit := do
  let kh : Vec F S2048x128 .bf16 ← Prog.lift (.load kM (Rect.unit (s := S2048x1024) ![0, 128 * h] S2048x128.size (hC_inb hh)).toLoadRect (View.loadsAt_vmem h_S2048x128))
  let vh : Vec F S2048x128 .bf16 ← Prog.lift (.load vM (Rect.unit (s := S2048x1024) ![0, 128 * h] S2048x128.size (hC_inb hh)).toLoadRect (View.loadsAt_vmem h_S2048x128))
  Scf.Loop.for lpG k0_t1_ok (⟨⟩ : Unit) fun k _ => genStep (sc k kh) vh (gO1 h k) (gO1_inb hh k) (gO2 h k) (gO2_inb hh k)

/-- The eight heads of a chunk. -/
def headsG (sc : Sc F) : PG F Unit := do

  headG sc 0 (by omega)
  headG sc 1 (by omega)
  headG sc 2 (by omega)
  headG sc 3 (by omega)
  headG sc 4 (by omega)
  headG sc 5 (by omega)
  headG sc 6 (by omega)
  headG sc 7 (by omega)

/-- The chunk's scores without a mask. -/
def scUs : Sc F := fun _ kh q => scU kh q
/-- The chunk's scores under the block mask. -/
def scMs : Sc F := fun k kh q => scM (rowW k) kh q

/-- A K block and a V block copied into the chunk's buffers. -/
def copyKV (K V : Memref sig .tc .hbm S2048x1024 .bf16) (hK : K.view.WordExact) (hV : V.view.WordExact) : PG F PUnit := do
  Prog.lift (.enqueueDma K (.here kM) (.dma lS0) hK (Memref.isWhole_whole _).wordExact ⟨Or.inl rfl, trivial⟩)
  Prog.lift (.enqueueDma V (.here vM) (.dma lS1) hV (Memref.isWhole_whole _).wordExact ⟨Or.inl rfl, trivial⟩)
  Prog.lift (.waitDma2 lS0 K kM hK (Memref.isWhole_whole _).wordExact)
  Prog.lift (.waitDma2 lS1 V vM hV (Memref.isWhole_whole _).wordExact)

/-! ## Sends and waits -/

/-- The device's own blocks to the right. -/
def sendA (d0 : Dev nD) (h : k0_cond1 d0 = 1#1) : PG F PUnit := do
  Prog.lift (.enqueueDma kA (.remote (Dev.tc (⟨k0_dev1 d0, k0_dev1_lt d0 h⟩ : Dev nD)) ck0 (.dma kS0)) (.dma kR0) (Memref.isWhole_whole _).wordExact ck0_we ⟨⟨rfl, Or.inl rfl⟩, trivial⟩)
  Prog.lift (.enqueueDma vA (.remote (Dev.tc (⟨k0_dev2 d0, k0_dev2_lt d0 h⟩ : Dev nD)) cv0 (.dma vS0)) (.dma vR0) (Memref.isWhole_whole _).wordExact cv0_we ⟨⟨rfl, Or.inl rfl⟩, trivial⟩)

/-- Device 0's blocks to device 3. -/
def sendC (d0 : Dev nD) (h : k0_cond2 d0 = 1#1) : PG F PUnit := do
  Prog.lift (.enqueueDma kA (.remote (Dev.tc (⟨k0_dev3 d0, k0_dev3_lt d0 h⟩ : Dev nD)) ck2 (.dma kS2)) (.dma kR2) (Memref.isWhole_whole _).wordExact ck2_we ⟨⟨rfl, Or.inl rfl⟩, trivial⟩)
  Prog.lift (.enqueueDma vA (.remote (Dev.tc (⟨k0_dev4 d0, k0_dev4_lt d0 h⟩ : Dev nD)) cv2 (.dma vS2)) (.dma vR2) (Memref.isWhole_whole _).wordExact cv2_we ⟨⟨rfl, Or.inl rfl⟩, trivial⟩)

/-- The received blocks on to the right. -/
def sendB (d0 : Dev nD) (h : k0_cond4 d0 = 1#1) : PG F PUnit := do
  Prog.lift (.enqueueDma ck0 (.remote (Dev.tc (⟨k0_dev5 d0, k0_dev5_lt d0 h⟩ : Dev nD)) ck1 (.dma kS1)) (.dma kR1) ck0_we ck1_we ⟨⟨rfl, Or.inl rfl⟩, trivial⟩)
  Prog.lift (.enqueueDma cv0 (.remote (Dev.tc (⟨k0_dev6 d0, k0_dev6_lt d0 h⟩ : Dev nD)) cv1 (.dma vS1)) (.dma vR1) cv0_we cv1_we ⟨⟨rfl, Or.inl rfl⟩, trivial⟩)

/-- The wait for the left neighbour's blocks. -/
def waitA : PG F PUnit := do
  Prog.lift (.waitDma2 kR0 kA ck0 (Memref.isWhole_whole _).wordExact ck0_we)
  Prog.lift (.waitDma2 vR0 vA cv0 (Memref.isWhole_whole _).wordExact cv0_we)

/-- The wait for device 0's blocks. -/
def waitC : PG F PUnit := do
  Prog.lift (.waitDma2 kR2 kA ck2 (Memref.isWhole_whole _).wordExact ck2_we)
  Prog.lift (.waitDma2 vR2 vA cv2 (Memref.isWhole_whole _).wordExact cv2_we)

/-- The wait for the forwarded blocks. -/
def waitB : PG F PUnit := do
  Prog.lift (.waitDma2 kR1 ck0 ck1 ck0_we ck1_we)
  Prog.lift (.waitDma2 vR1 cv0 cv1 cv0_we cv1_we)

/-- The end of the first send. -/
def doneA : PG F PUnit := do
  Prog.lift (.waitDma2 kS0 ck0 kA ck0_we (Memref.isWhole_whole _).wordExact)
  Prog.lift (.waitDma2 vS0 cv0 vA cv0_we (Memref.isWhole_whole _).wordExact)

/-- The end of device 0's second send. -/
def doneC : PG F PUnit := do
  Prog.lift (.waitDma2 kS2 ck2 kA ck2_we (Memref.isWhole_whole _).wordExact)
  Prog.lift (.waitDma2 vS2 cv2 vA cv2_we (Memref.isWhole_whole _).wordExact)

/-- The end of the forwarding send. -/
def doneB : PG F PUnit := do
  Prog.lift (.waitDma2 kS1 ck1 ck0 ck1_we ck0_we)
  Prog.lift (.waitDma2 vS1 cv1 cv0 cv1_we cv0_we)

/-! ## The projection, the initial state, the division and the output -/

/-- One tile of the projection: rows from `o`. -/
def projT (a1 : Memref sig .tc .vmem S1024x1024 .bf16) (o : ℕ) (hi : ∀ a, (![o, 0] : Fin 2 → ℕ) a + S512x1024.size a ≤ S2048x1024.size a)
    (hw : (Rect.unit (s := S2048x1024) ![o, 0] S512x1024.size hi).WholeWords (EltTy.packing .bf16))
    (hp : View.StoreExact (qM.view.slice (Rect.unit (s := S2048x1024) ![o, 0] S512x1024.size hi)) Finset.univ) : PG F PUnit := do
  Prog.lift (.enqueueDma (xM.slice (Rect.unit (s := S2048x1024) ![o, 0] S512x1024.size hi) (fun _ => rfl)) (.here tM) (.dma lS0) ((Memref.isWhole_whole main_arg0 : xM.IsWhole).wordExact_slice rfl _ hw) (Memref.isWhole_whole _).wordExact ⟨Or.inl rfl, trivial⟩)
  Prog.lift (.waitDma2 lS0 (xM.slice (Rect.unit (s := S2048x1024) ![o, 0] S512x1024.size hi) (fun _ => rfl)) tM ((Memref.isWhole_whole main_arg0 : xM.IsWhole).wordExact_slice rfl _ hw) (Memref.isWhole_whole _).wordExact)
  let x : Vec F S512x1024 .bf16 ← Prog.lift (.load tM (Rect.unit (s := S512x1024) ![0, 0] S512x1024.size inb_S512x1024_S512x1024_0_0).toLoadRect (View.loadsAt_vmem h_S512x1024))
  let wq : Vec F S1024x1024 .bf16 ← Prog.lift (.load a1 (Rect.unit (s := S1024x1024) ![0, 0] S1024x1024.size inb_S1024x1024_S1024x1024_0_0).toLoadRect (View.loadsAt_vmem h_S1024x1024))
  let _q : Vec F S512x1024 .bf16 ← Prog.lift (.load qM (Rect.unit (s := S2048x1024) ![o, 0] S512x1024.size hi).toLoadRect (View.loadsAt_vmem h_S512x1024))
  Prog.lift (.store qM (Rect.unit (s := S2048x1024) ![o, 0] S512x1024.size hi) (shapeCast S512x1024 (truncf .bf16 (matmul dot_S512x1024_S1024x1024_S512x1024_1_0_0_1_n_n none x (shapeCast S1024x1024 wq shapeCasts_S1024x1024_S1024x1024) (constant S512x1024 .f32 0x00000000#32)) bitsLt_bf16_f32) shapeCasts_S512x1024_S512x1024) Finset.univ (View.stores_vmem h_S512x1024 hp (fun _ => rfl)) (.inl rfl))

/-- The projection of the device's rows, in four tiles. -/
def projQ (a1 : Memref sig .tc .vmem S1024x1024 .bf16) : PG F PUnit := do

  projT a1 0 inb_S2048x1024_S512x1024_0_0 wordsbf16_S2048x1024_S512x1024_0_0 ((Memref.isWhole_whole cc0_scratch0 : qM.IsWhole).storeExact_slice rfl _ packedbf16_S2048x1024_S512x1024_0_0)
  projT a1 512 inb_S2048x1024_S512x1024_512_0 wordsbf16_S2048x1024_S512x1024_512_0 ((Memref.isWhole_whole cc0_scratch0 : qM.IsWhole).storeExact_slice rfl _ packedbf16_S2048x1024_S512x1024_512_0)
  projT a1 1024 inb_S2048x1024_S512x1024_1024_0 wordsbf16_S2048x1024_S512x1024_1024_0 ((Memref.isWhole_whole cc0_scratch0 : qM.IsWhole).storeExact_slice rfl _ packedbf16_S2048x1024_S512x1024_1024_0)
  projT a1 1536 inb_S2048x1024_S512x1024_1536_0 wordsbf16_S2048x1024_S512x1024_1536_0 ((Memref.isWhole_whole cc0_scratch0 : qM.IsWhole).storeExact_slice rfl _ packedbf16_S2048x1024_S512x1024_1536_0)

/-- The initial state: no weighted values, a very small maximum, no sum. -/
def initS : PG F PUnit := do
  let _c : Vec F S2048x1024 .f32 ← Prog.lift (.load cM (Rect.unit (s := S2048x1024) ![0, 0] S2048x1024.size inb_S2048x1024_S2048x1024_0_0).toLoadRect (View.loadsAt_vmem h_S2048x1024))
  Prog.lift (.store cM (Rect.unit (s := S2048x1024) ![0, 0] S2048x1024.size inb_S2048x1024_S2048x1024_0_0) (shapeCast S2048x1024 (broadcast S2048x1024 (Scalar.ofBits .f32 0x00000000#32 : F .f32)) shapeCasts_S2048x1024_S2048x1024) Finset.univ (View.stores_vmem_bits_univ h_S2048x1024 rfl) (.inl rfl))
  let _m : Vec F S2048x8 .f32 ← Prog.lift (.load mM (Rect.unit (s := S2048x8) ![0, 0] S2048x8.size inb_S2048x8_S2048x8_0_0).toLoadRect (View.loadsAt_vmem h_S2048x8))
  Prog.lift (.store mM (Rect.unit (s := S2048x8) ![0, 0] S2048x8.size inb_S2048x8_S2048x8_0_0) (shapeCast S2048x8 (broadcast S2048x8 (Scalar.ofBits .f32 0xF149F2CA#32 : F .f32)) shapeCasts_S2048x8_S2048x8) Finset.univ (View.stores_vmem_bits_univ h_S2048x8 rfl) (.inl rfl))
  let _l : Vec F S2048x8 .f32 ← Prog.lift (.load lM (Rect.unit (s := S2048x8) ![0, 0] S2048x8.size inb_S2048x8_S2048x8_0_0).toLoadRect (View.loadsAt_vmem h_S2048x8))
  Prog.lift (.store lM (Rect.unit (s := S2048x8) ![0, 0] S2048x8.size inb_S2048x8_S2048x8_0_0) (shapeCast S2048x8 (broadcast S2048x8 (Scalar.ofBits .f32 0x00000000#32 : F .f32)) shapeCasts_S2048x8_S2048x8) Finset.univ (View.stores_vmem_bits_univ h_S2048x8 rfl) (.inl rfl))

/-- Head `h`'s weighted values divided by its sums. -/
def divH (h : ℕ) (hh : h < 8) : PG F PUnit := do
  let c : Vec F S2048x128 .f32 ← Prog.lift (.load cM (Rect.unit (s := S2048x1024) ![0, 128 * h] S2048x128.size (hC_inb hh)).toLoadRect (View.loadsAt_vmem h_S2048x128))
  let l : Vec F S2048x1 .f32 ← Prog.lift (.load lM (Rect.unit (s := S2048x8) ![0, h] S2048x1.size (hL_inb hh)).toLoadRect (View.loadsAt_vmem h_S2048x1))
  let _c : Vec F S2048x128 .f32 ← Prog.lift (.load cM (Rect.unit (s := S2048x1024) ![0, 128 * h] S2048x128.size (hC_inb hh)).toLoadRect (View.loadsAt_vmem h_S2048x128))
  Prog.lift (.store cM (Rect.unit (s := S2048x1024) ![0, 128 * h] S2048x128.size (hC_inb hh)) (shapeCast S2048x128 (divf c (broadcastTo S2048x128 l broadcasts_S2048x1_S2048x128)) shapeCasts_S2048x128_S2048x128) Finset.univ (View.stores_vmem_bits_univ h_S2048x128 rfl) (.inl rfl))

/-- The eight heads' divisions. -/
def divs : PG F PUnit := do

  divH 0 (by omega)
  divH 1 (by omega)
  divH 2 (by omega)
  divH 3 (by omega)
  divH 4 (by omega)
  divH 5 (by omega)
  divH 6 (by omega)
  divH 7 (by omega)

/-- The output product. -/
def outP (a4 : Memref sig .tc .vmem S1024x1024 .bf16) (a5 : Memref sig .tc .vmem S2048x1024 .f32) : PG F PUnit := do
  let c : Vec F S2048x1024 .f32 ← Prog.lift (.load cM (Rect.unit (s := S2048x1024) ![0, 0] S2048x1024.size inb_S2048x1024_S2048x1024_0_0).toLoadRect (View.loadsAt_vmem h_S2048x1024))
  let wo : Vec F S1024x1024 .bf16 ← Prog.lift (.load a4 (Rect.unit (s := S1024x1024) ![0, 0] S1024x1024.size inb_S1024x1024_S1024x1024_0_0).toLoadRect (View.loadsAt_vmem h_S1024x1024))
  let _o : Vec F S2048x1024 .f32 ← Prog.lift (.load a5 (Rect.unit (s := S2048x1024) ![0, 0] S2048x1024.size inb_S2048x1024_S2048x1024_0_0).toLoadRect (View.loadsAt_vmem h_S2048x1024))
  Prog.lift (.store a5 (Rect.unit (s := S2048x1024) ![0, 0] S2048x1024.size inb_S2048x1024_S2048x1024_0_0) (matmul dot_S2048x1024_S1024x1024_S2048x1024_1_0_0_1_n_n none (truncf .bf16 c bitsLt_bf16_f32) (shapeCast S1024x1024 wo shapeCasts_S1024x1024_S1024x1024) (constant S2048x1024 .f32 0x00000000#32)) Finset.univ (View.stores_vmem_bits_univ h_S2048x1024 rfl) (.inl rfl))
  pure ⟨⟩

/-! ## The whole body -/

/-- The body, in its pieces. -/
def bodyG (a1 a4 : Memref sig .tc .vmem S1024x1024 .bf16) (a5 : Memref sig .tc .vmem S2048x1024 .f32) : PG F PUnit := do
  let d0 : Dev nD ← Prog.lift .deviceId
  if h : k0_cond1 d0 = 1#1 then sendA d0 h else pure ⟨⟩
  if h : k0_cond2 d0 = 1#1 then sendC d0 h else pure ⟨⟩
  projQ a1
  initS
  copyKV kA vA (Memref.isWhole_whole _).wordExact (Memref.isWhole_whole _).wordExact
  headsG scMs
  if _h : k0_cond5 d0 = 1#1 then waitA else pure ⟨⟩
  if h : k0_cond4 d0 = 1#1 then sendB d0 h else pure ⟨⟩
  if _h : k0_cond5 d0 = 1#1 then do { copyKV ck0 cv0 ck0_we cv0_we; headsG scUs } else pure ⟨⟩
  if _h : k0_cond6 d0 = 1#1 then do { waitC; copyKV ck2 cv2 ck2_we cv2_we; headsG scUs } else pure ⟨⟩
  if _h : k0_cond7 d0 = 1#1 then do { waitB; copyKV ck1 cv1 ck1_we cv1_we; headsG scUs } else pure ⟨⟩
  if _h : k0_cond1 d0 = 1#1 then doneA else pure ⟨⟩
  if _h : k0_cond2 d0 = 1#1 then doneC else pure ⟨⟩
  if _h : k0_cond4 d0 = 1#1 then doneB else pure ⟨⟩
  divs
  outP a4 a5

end Cert.Proof
-- ==== Proof.Alg.lean ====
module

public import proofs.«01_k».proof.Proof.Prog
public import Idealize.ShloMosaic.Lib.Pipeline.Launch
public import Idealize.ShloMosaic.Lib.Tactic
public import Idealize.ShloMosaic.Lib.Transfers

/-! The resource algebra of the proof, and the contents of the chunk updates' state. -/

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- A rounds algebra over the machine's cells, its duties named by `Unit`. -/
abbrev UR (nD : Nat) (τ : Topo) : Type := URounds (GSem nD τ sig) Unit

/-- The proof's own component: one for the pipeline, one for the kernel's semaphores, and the counters of its local copies. -/
abbrev UU (nD : Nat) (τ : Topo) : Type := UR nD τ × (UR nD τ × Counters)

local notation "𝕄" => MT nD τ sig Unit (Elt F) ℕ (UU nD τ) ℕ

/-- The pipeline's part. -/
def EP : Emb (UR nD τ) (MT nD τ sig Unit (Elt F) ℕ (UU nD τ) ℕ) :=
  (Emb.inl : Emb (UR nD τ) (UU nD τ)).trans (uEmb (nD := nD) (sig := sig) (Ix := Unit) (Val := Elt F) (Name := ℕ) (U := UU nD τ) (Lvl := ℕ)).toEmb

/-- The kernel's part. -/
def ER : Emb (UR nD τ) (MT nD τ sig Unit (Elt F) ℕ (UU nD τ) ℕ) :=
  ((Emb.inl : Emb (UR nD τ) (UR nD τ × Counters)).trans (Emb.inr : Emb (UR nD τ × Counters) (UU nD τ))).trans (uEmb (nD := nD) (sig := sig) (Ix := Unit) (Val := Elt F) (Name := ℕ) (U := UU nD τ) (Lvl := ℕ)).toEmb

instance EP_lands : (EP : Emb (UR nD τ) 𝕄).LandsIn (upEmb : UEmb _ 𝕄) := by unfold EP; infer_instance
instance ER_lands : (ER : Emb (UR nD τ) 𝕄).LandsIn (upEmb : UEmb _ 𝕄) := by unfold ER; infer_instance

/-- The kernel calls nothing. -/
abbrev 𝒱₀ : Variants := Variants.none

/-! ## Contents -/

/-- A block of activations, as a buffer holds it. -/
abbrev BlkC (F : FTy → Type) [FloatOps F] : Type := Vec F S2048x1024 .bf16

/-- What a chunk update changes: the weighted values, the running maxima and the running sums. -/
structure St (F : FTy → Type) [FloatOps F] where
  /-- the weighted values -/
  c : Vec F S2048x1024 .f32
  /-- the running maxima -/
  m : Vec F S2048x8 .f32
  /-- the running sums -/
  l : Vec F S2048x8 .f32

end Cert.Proof

end
-- ==== Proof.Step.lean ====
module

public import proofs.«01_k».proof.Proof.Alg
public import Idealize.ShloMosaic.Lib.Scf

/-! The chunk updates run: a trip, a head's loop, the eight heads. Each is stated with the contents it leaves. -/

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

/-- A buffer held whole, through its memref's view. -/
abbrev pt {sp : Space} {s : Shape} {e : EltTy} (c : Dev nD) (M : Memref sig .tc sp s e) (f : BufTy.Contents (Elt F) M.view.ty) : sProp 𝕄 :=
  iprop(M.view.loc (c : Thread nD τ) ↦[M.view.set]{fullShare} f)

/-- The run of a piece of the kernel on device `c`. -/
abbrev WP {α : Type} (c : Dev nD) (p : PG F α) (Q : α → sProp 𝕄) : sProp 𝕄 :=
  wp frame (wpE (defs₀ (F := F)) 𝒱₀ (c : Thread nD τ) none) Set.univ p Q

/-- The state of the chunk updates, held. -/
def stP (c : Dev nD) (s : St F) : sProp 𝕄 := iprop(pt c cM s.c ∗ pt c mM s.m ∗ pt c lM s.l)

/-- A piece at the head of a program: what it leaves goes to the rest. -/
theorem seqW {α β : Type} (c : Dev nD) {P : sProp 𝕄} {R : α → sProp 𝕄} {p : PG F α} {k : α → PG F β} {Q : β → sProp 𝕄}
    (h : P ⊢ WP c p R) : P ⊢ iprop((∀ a, R a -∗ WP c (k a) Q) -∗ WP c (p >>= k) Q) := by
  unfold WP; rw [wp_bind]
  iintro HP HK
  iapply (wp_wand_r frame (wpE (defs₀ (F := F)) 𝒱₀ (c : Thread nD τ) none) Set.univ)
  isplitl [HP]
  · iapply h; iexact HP
  · iexact HK

/-- What a trip leaves: the tile's weighted values, maxima and sums replaced. -/
def stepF (sc : Vec F S512x128 .bf16 → FVec F S512x2048 .f32) (vh : Vec F S2048x128 .bf16)
    (o1 : Fin 2 → ℕ) (i1 : ∀ a, o1 a + S512x128.size a ≤ S2048x1024.size a)
    (o2 : Fin 2 → ℕ) (i2 : ∀ a, o2 a + S512x1.size a ≤ S2048x8.size a) (q : BlkC F) (s : St F) : St F where
  c := cM.view.writes (Elt F) s.c [⟨Rect.unit (s := S2048x1024) o1 S512x128.size i1,
    shapeCast S512x128 (newC vh (sc (qM.view.readAt (Elt F) (Rect.unit (s := S2048x1024) o1 S512x128.size i1).toLoadRect q))
      (mM.view.readAt (Elt F) (Rect.unit (s := S2048x8) o2 S512x1.size i2).toLoadRect s.m)
      (cM.view.readAt (Elt F) (Rect.unit (s := S2048x1024) o1 S512x128.size i1).toLoadRect s.c)) shapeCasts_S512x128_S512x128⟩]
  m := mM.view.writes (Elt F) s.m [⟨Rect.unit (s := S2048x8) o2 S512x1.size i2,
    shapeCast S512x1 (newM (sc (qM.view.readAt (Elt F) (Rect.unit (s := S2048x1024) o1 S512x128.size i1).toLoadRect q))
      (mM.view.readAt (Elt F) (Rect.unit (s := S2048x8) o2 S512x1.size i2).toLoadRect s.m)) shapeCasts_S512x1_S512x1⟩]
  l := lM.view.writes (Elt F) s.l [⟨Rect.unit (s := S2048x8) o2 S512x1.size i2,
    shapeCast S512x1 (newL (sc (qM.view.readAt (Elt F) (Rect.unit (s := S2048x1024) o1 S512x128.size i1).toLoadRect q))
      (mM.view.readAt (Elt F) (Rect.unit (s := S2048x8) o2 S512x1.size i2).toLoadRect s.m)
      (lM.view.readAt (Elt F) (Rect.unit (s := S2048x8) o2 S512x1.size i2).toLoadRect s.l)) shapeCasts_S512x1_S512x1⟩]

/-- A trip's run. -/
theorem genStep_run (c : Dev nD) (sc : Vec F S512x128 .bf16 → FVec F S512x2048 .f32) (vh : Vec F S2048x128 .bf16)
    (k : Fin 4) (h : Fin 8) (i1 : ∀ a, (![512 * k.val, 128 * h.val] : Fin 2 → ℕ) a + S512x128.size a ≤ S2048x1024.size a)
    (i2 : ∀ a, (![512 * k.val, h.val] : Fin 2 → ℕ) a + S512x1.size a ≤ S2048x8.size a) (q : BlkC F) (s : St F) :
    (iprop(pt c qM q ∗ stP c s) : sProp 𝕄)
      ⊢ WP c (genStep sc vh _ i1 _ i2) (fun _ => iprop(pt c qM q ∗ stP c (stepF sc vh _ i1 _ i2 q s))) := by
  unfold genStep stP WP pt
  iintro ⟨Hq, Hc, Hm, Hl⟩
  have hk := k.isLt
  have hh := h.isLt
  sl_exec
  sl_step
  unfold stepF
  isplitl [Hq]; · iexact Hq
  isplitl [Hc]; · iexact Hc
  isplitl [Hm]; · iexact Hm
  iexact Hl

/-- The state before trip `n` of a head's loop. -/
def tripsF (sc : Sc F) (kh vh : Vec F S2048x128 .bf16) (h : ℕ) (hh : h < 8) (q : BlkC F) (s : St F) : ℕ → St F
  | 0 => s
  | n + 1 => if hn : n < lpG.trips then
      stepF (sc ⟨n, hn⟩ kh) vh (gO1 h ⟨n, hn⟩) (gO1_inb hh _) (gO2 h ⟨n, hn⟩) (gO2_inb hh _) q (tripsF sc kh vh h hh q s n)
    else tripsF sc kh vh h hh q s n

/-- A head's columns of a block. -/
abbrev headOf (M : Memref sig .tc .vmem S2048x1024 .bf16) (h : ℕ) (hh : h < 8) (K : BufTy.Contents (Elt F) M.view.ty) : Vec F S2048x128 .bf16 :=
  M.view.readAt (Elt F) (Rect.unit (s := S2048x1024) ![0, 128 * h] S2048x128.size (hC_inb hh)).toLoadRect K

/-- What a head leaves. -/
def headF (sc : Sc F) (h : ℕ) (hh : h < 8) (q K V : BlkC F) (s : St F) : St F :=
  tripsF sc (headOf kM h hh K) (headOf vM h hh V) h hh q s lpG.trips

/-- The buffers a chunk update runs on: the queries, the chunk's keys and values, the state. -/
def chP (c : Dev nD) (q K V : BlkC F) (s : St F) : sProp 𝕄 := iprop(pt c kM K ∗ pt c vM V ∗ pt c qM q ∗ stP c s)

theorem step_gen (c : Dev nD) (sc : Vec F S512x128 .bf16 → FVec F S512x2048 .f32) (vh : Vec F S2048x128 .bf16)
    (k : Fin lpG.trips) (h : ℕ) (hh : h < 8) (q : BlkC F) (s : St F) :
    (iprop(pt c qM q ∗ stP c s) : sProp 𝕄)
      ⊢ WP c (genStep sc vh (gO1 h k) (gO1_inb hh k) (gO2 h k) (gO2_inb hh k))
        (fun _ => iprop(pt c qM q ∗ stP c (stepF sc vh (gO1 h k) (gO1_inb hh k) (gO2 h k) (gO2_inb hh k) q s))) := by
  generalize gO1_inb hh k = i1
  generalize gO2_inb hh k = i2
  revert i1 i2
  rw [gO1_eq, gO2_eq]
  intro i1 i2
  exact genStep_run c sc vh k ⟨h, hh⟩ i1 i2 q s

/-- A head's loop, run. -/
theorem loop_run (c : Dev nD) (sc : Sc F) (kh vh : Vec F S2048x128 .bf16) (h : ℕ) (hh : h < 8) (q : BlkC F) (s : St F) :
    (iprop(pt c qM q ∗ stP c s) : sProp 𝕄)
      ⊢ WP c (Scf.Loop.for lpG k0_t1_ok (⟨⟩ : Unit) fun k _ => genStep (sc k kh) vh (gO1 h k) (gO1_inb hh k) (gO2 h k) (gO2_inb hh k))
        (fun _ => iprop(pt c qM q ∗ stP c (tripsF sc kh vh h hh q s lpG.trips))) := by
  unfold WP Scf.Loop.for
  iintro HI
  iapply (Scf.wp_for frame (wpE (defs₀ (F := F)) 𝒱₀ (c : Thread nD τ) none) Set.univ _ _ _ _ _ _
    (fun n _ => iprop(pt c qM q ∗ stP c (tripsF sc kh vh h hh q s n))) (fun k acc => by
      have := step_gen c (sc k kh) vh k h hh q (tripsF sc kh vh h hh q s k.val)
      refine this.trans ?_
      have e : tripsF sc kh vh h hh q s (k.val + 1) = stepF (sc k kh) vh (gO1 h k) (gO1_inb hh k) (gO2 h k) (gO2_inb hh k) q (tripsF sc kh vh h hh q s k.val) := by
        rw [tripsF, dif_pos k.isLt]
      rw [e]))
  isplitl [HI]
  · iexact HI
  · iintro %a H; iexact H

/-- A head's run. -/
theorem headG_run (c : Dev nD) (sc : Sc F) (h : ℕ) (hh : h < 8) (q K V : BlkC F) (s : St F) :
    chP c q K V s ⊢ WP c (headG sc h hh) (fun _ => chP c q K V (headF sc h hh q K V s)) := by
  unfold headG chP WP
  simp only [Prog.lift, Prog.bind_op, Prog.bind_ret, Prog.pure_eq_ret]
  iintro ⟨Hk, Hv, Hr⟩
  iapply (wp_load 𝒱₀ (c : Thread nD τ) none Set.univ (m := kM) (by rw [View.set_whole]; exact Finset.subset_univ _)) $$ Hk; iintro Hk
  iapply (wp_load 𝒱₀ (c : Thread nD τ) none Set.univ (m := vM) (by rw [View.set_whole]; exact Finset.subset_univ _)) $$ Hv; iintro Hv
  iapply (wp_wand_r frame (wpE (defs₀ (F := F)) 𝒱₀ (c : Thread nD τ) none) Set.univ)
  isplitl [Hr]
  · iapply (loop_run c sc _ _ h hh q s); iexact Hr
  · iintro %a H
    unfold headF
    isplitl [Hk]; · iexact Hk
    isplitl [Hv]; · iexact Hv
    iexact H

/-- What the eight heads leave. -/
def headsF (sc : Sc F) (q K V : BlkC F) (s : St F) : St F :=
  headF sc 7 (by omega) q K V <| headF sc 6 (by omega) q K V <| headF sc 5 (by omega) q K V <| headF sc 4 (by omega) q K V <|
  headF sc 3 (by omega) q K V <| headF sc 2 (by omega) q K V <| headF sc 1 (by omega) q K V <| headF sc 0 (by omega) q K V s

/-- The eight heads' run. -/
theorem headsG_run (c : Dev nD) (sc : Sc F) (q K V : BlkC F) (s : St F) :
    chP c q K V s ⊢ WP c (headsG sc) (fun _ => chP c q K V (headsF sc q K V s)) := by
  unfold headsG
  iintro H
  iapply (seqW c (headG_run c sc 0 _ q K V s)) $$ H; iintro %_ H
  iapply (seqW c (headG_run c sc 1 _ q K V _)) $$ H; iintro %_ H
  iapply (seqW c (headG_run c sc 2 _ q K V _)) $$ H; iintro %_ H
  iapply (seqW c (headG_run c sc 3 _ q K V _)) $$ H; iintro %_ H
  iapply (seqW c (headG_run c sc 4 _ q K V _)) $$ H; iintro %_ H
  iapply (seqW c (headG_run c sc 5 _ q K V _)) $$ H; iintro %_ H
  iapply (seqW c (headG_run c sc 6 _ q K V _)) $$ H; iintro %_ H
  iapply (headG_run c sc 7 _ q K V _) $$ H

/-! ## The initial state, the division, the output product -/

/-- The initial state. -/
def initF (s : St F) : St F where
  c := cM.view.writes (Elt F) s.c [⟨Rect.unit (s := S2048x1024) ![0, 0] S2048x1024.size inb_S2048x1024_S2048x1024_0_0,
    shapeCast S2048x1024 (broadcast S2048x1024 (Scalar.ofBits .f32 0x00000000#32 : F .f32)) shapeCasts_S2048x1024_S2048x1024⟩]
  m := mM.view.writes (Elt F) s.m [⟨Rect.unit (s := S2048x8) ![0, 0] S2048x8.size inb_S2048x8_S2048x8_0_0,
    shapeCast S2048x8 (broadcast S2048x8 (Scalar.ofBits .f32 0xF149F2CA#32 : F .f32)) shapeCasts_S2048x8_S2048x8⟩]
  l := lM.view.writes (Elt F) s.l [⟨Rect.unit (s := S2048x8) ![0, 0] S2048x8.size inb_S2048x8_S2048x8_0_0,
    shapeCast S2048x8 (broadcast S2048x8 (Scalar.ofBits .f32 0x00000000#32 : F .f32)) shapeCasts_S2048x8_S2048x8⟩]

/-- The initialisation's run. -/
theorem initS_run (c : Dev nD) (s : St F) : stP c s ⊢ WP c initS (fun _ => stP c (initF s)) := by
  unfold initS stP WP pt
  iintro ⟨Hc, Hm, Hl⟩
  sl_exec
  sl_step
  unfold initF
  isplitl [Hc]; · iexact Hc
  isplitl [Hm]; · iexact Hm
  iexact Hl

/-- What a head's division leaves. -/
def divF (h : ℕ) (hh : h < 8) (s : St F) : St F where
  c := cM.view.writes (Elt F) s.c [⟨Rect.unit (s := S2048x1024) ![0, 128 * h] S2048x128.size (hC_inb hh),
    shapeCast S2048x128 (divf (cM.view.readAt (Elt F) (Rect.unit (s := S2048x1024) ![0, 128 * h] S2048x128.size (hC_inb hh)).toLoadRect s.c)
      (broadcastTo S2048x128 (lM.view.readAt (Elt F) (Rect.unit (s := S2048x8) ![0, h] S2048x1.size (hL_inb hh)).toLoadRect s.l) broadcasts_S2048x1_S2048x128))
      shapeCasts_S2048x128_S2048x128⟩]
  m := s.m
  l := s.l

/-- A head's division, run. -/
theorem divH_run (c : Dev nD) (h : ℕ) (hh : h < 8) (s : St F) : stP c s ⊢ WP c (divH h hh) (fun _ => stP c (divF h hh s)) := by
  unfold divH stP WP pt
  iintro ⟨Hc, Hm, Hl⟩
  sl_exec
  sl_step
  unfold divF
  isplitl [Hc]; · iexact Hc
  isplitl [Hm]; · iexact Hm
  iexact Hl

/-- What the eight divisions leave. -/
def divsF (s : St F) : St F :=
  divF 7 (by omega) <| divF 6 (by omega) <| divF 5 (by omega) <| divF 4 (by omega) <|
  divF 3 (by omega) <| divF 2 (by omega) <| divF 1 (by omega) <| divF 0 (by omega) s

/-- The eight divisions' run. -/
theorem divs_run (c : Dev nD) (s : St F) : stP c s ⊢ WP c divs (fun _ => stP c (divsF s)) := by
  unfold divs
  iintro H
  iapply (seqW c (divH_run c 0 _ s)) $$ H; iintro %_ H
  iapply (seqW c (divH_run c 1 _ _)) $$ H; iintro %_ H
  iapply (seqW c (divH_run c 2 _ _)) $$ H; iintro %_ H
  iapply (seqW c (divH_run c 3 _ _)) $$ H; iintro %_ H
  iapply (seqW c (divH_run c 4 _ _)) $$ H; iintro %_ H
  iapply (seqW c (divH_run c 5 _ _)) $$ H; iintro %_ H
  iapply (seqW c (divH_run c 6 _ _)) $$ H; iintro %_ H
  iapply (divH_run c 7 _ _) $$ H

/-- The staging buffers of the two weight matrices and of the result. -/
abbrev wqM : Memref sig .tc .vmem S1024x1024 .bf16 := Memref.whole cc0_stg0_0
abbrev woM : Memref sig .tc .vmem S1024x1024 .bf16 := Memref.whole cc0_stg1_0
abbrev oM : Memref sig .tc .vmem S2048x1024 .f32 := Memref.whole cc0_stg2_0

/-- The result: the divided values times the output weights. -/
def outF (wo : Vec F S1024x1024 .bf16) (s : St F) : Vec F S2048x1024 .f32 :=
  matmul dot_S2048x1024_S1024x1024_S2048x1024_1_0_0_1_n_n none
    (truncf .bf16 (cM.view.readAt (Elt F) (Rect.unit (s := S2048x1024) ![0, 0] S2048x1024.size inb_S2048x1024_S2048x1024_0_0).toLoadRect s.c) bitsLt_bf16_f32)
    (shapeCast S1024x1024 (woM.view.readAt (Elt F) (Rect.unit (s := S1024x1024) ![0, 0] S1024x1024.size inb_S1024x1024_S1024x1024_0_0).toLoadRect wo) shapeCasts_S1024x1024_S1024x1024)
    (constant S2048x1024 .f32 0x00000000#32)

/-- The output product's run. -/
theorem outP_run (c : Dev nD) (wo : Vec F S1024x1024 .bf16) (o : Vec F S2048x1024 .f32) (s : St F) :
    (iprop(pt c woM wo ∗ pt c oM o ∗ stP c s) : sProp 𝕄) ⊢ WP c (outP woM oM) (fun _ => iprop(pt c woM wo
      ∗ pt c oM (oM.view.writes (Elt F) o [⟨Rect.unit (s := S2048x1024) ![0, 0] S2048x1024.size inb_S2048x1024_S2048x1024_0_0, outF wo s⟩]) ∗ stP c s)) := by
  unfold outP stP WP pt
  iintro ⟨Hw, Ho, Hc, Hm, Hl⟩
  sl_exec
  sl_step
  unfold outF
  isplitl [Hw]; · iexact Hw
  isplitl [Ho]; · iexact Ho
  isplitl [Hc]; · iexact Hc
  isplitl [Hm]; · iexact Hm
  iexact Hl

end Cert.Proof

end
-- ==== Proof.Copy.lean ====
module

public import proofs.«01_k».proof.Proof.Step
public import Idealize.ShloMosaic.Lib.SparseCore.FromWhole

/-! The local copies run: the chunk's keys and values copied in, and the projection's tiles. -/

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

/-- The counters' part of the algebra. -/
def EC : UEmb Counters (MT nD τ sig Unit (Elt F) ℕ (UU nD τ) ℕ) := countersEmb

instance EC_lands : (EC (F := F)).LandsIn (upEmb : UEmb _ 𝕄) := by unfold EC; infer_instance

/-- What the core owes and has waited for, with the evidence that it may wait for its local copies. -/
def owL (c : Dev nD) (O : CellTallies nD τ sig Unit) : sProp 𝕄 :=
  iprop((∃ W, owes (c : Thread nD τ) O W) ∗ MayWait (c : Thread nD τ) (.dma lS0) () O ∗ MayWait (c : Thread nD τ) (.dma lS1) () O
    ∗ semVal ((c : Thread nD τ), .dma lS0) 0 ∗ semVal ((c : Thread nD τ), .dma lS1) 0)

/-- A memref's elements at a share. -/
abbrev ptq {sp : Space} {s : Shape} {e : EltTy} (c : Dev nD) (M : Memref sig .tc sp s e) (q : PosShare TreeShare) (f : BufTy.Contents (Elt F) M.view.ty) : sProp 𝕄 :=
  iprop(M.view.loc (c : Thread nD τ) ↦[M.view.set]{q} f)

theorem write_kM (fd : BlkC F) (w : BlkC F) : kM.view.write (Elt F) fd w Finset.univ = w := View.write_whole_univ _ _ _
theorem write_vM (fd : BlkC F) (w : BlkC F) : vM.view.write (Elt F) fd w Finset.univ = w := View.write_whole_univ _ _ _

/-- The chunk's blocks copied in. -/
theorem copyKV_run (c : Dev nD) (O : CellTallies nD τ sig Unit) (K V : Memref sig .tc .hbm S2048x1024 .bf16) (hK : K.view.WordExact) (hV : V.view.WordExact)
    (qK qV : PosShare TreeShare) (fK : BufTy.Contents (Elt F) K.view.ty) (fV : BufTy.Contents (Elt F) V.view.ty) (k v : BlkC F) :
    (iprop(owL c O ∗ ptq c K qK fK ∗ ptq c V qV fV ∗ pt c kM k ∗ pt c vM v) : sProp 𝕄)
      ⊢ WP c (copyKV K V hK hV) (fun _ => iprop(owL c O ∗ ptq c K qK fK ∗ ptq c V qV fV ∗ pt c kM (K.view.read (Elt F) fK) ∗ pt c vM (V.view.read (Elt F) fV))) := by
  unfold copyKV owL WP
  simp only [Prog.lift, Prog.bind_op, Prog.bind_ret, Prog.pure_eq_ret]
  iintro ⟨⟨⟨%W, HO⟩, #Hm0, #Hm1, H0, H1⟩, HK, HV, Hk, Hv⟩
  iapply (Transfers.wp_dmaLocal EC 𝒱₀ (c : Thread nD τ) none (src := K) (dst := kM) () _ rfl (View.dmaCredit_pos _ (by decide)) (Finset.Subset.refl _)) $$ [HK Hk H0]
  · isplitl [HK]; · iexact HK
    isplitl [Hk] <;> iassumption
  iintro HF0
  iapply (Transfers.wp_dmaLocal EC 𝒱₀ (c : Thread nD τ) none (src := V) (dst := vM) () _ rfl (View.dmaCredit_pos _ (by decide)) (Finset.Subset.refl _)) $$ [HV Hv H1]
  · isplitl [HV]; · iexact HV
    isplitl [Hv] <;> iassumption
  iintro HF1
  iapply (Transfers.wp_waitLocalO EC 𝒱₀ (c : Thread nD τ) none () rfl) $$ [HF0 HO]
  · isplitl [HF0]; · iexact HF0
    isplitl [HO]; · iexact HO
    iexact Hm0
  iintro ⟨⟨Hk, HK⟩, H0, HO⟩
  iapply (Transfers.wp_waitLocalO EC 𝒱₀ (c : Thread nD τ) none () rfl) $$ [HF1 HO]
  · isplitl [HF1]; · iexact HF1
    isplitl [HO]; · iexact HO
    iexact Hm1
  iintro ⟨⟨Hv, HV⟩, H1, HO⟩
  rw [wp_ret]; imodintro
  isplitl [HO H0 H1]
  · isplitl [HO]; · iexists _; iexact HO
    isplitr; · iexact Hm0
    isplitr; · iexact Hm1
    isplitl [H0] <;> iassumption
  isplitl [HK]; · iexact HK
  isplitl [HV]; · iexact HV
  isplitl [Hk]
  · ihave H := (Entails.of_eq (congrArg (fun f => pt c kM f) (write_kM k (K.view.read (Elt F) fK)))) $$ Hk
    iexact H
  · ihave H := (Entails.of_eq (congrArg (fun f => pt c vM f) (write_vM v (V.view.read (Elt F) fV)))) $$ Hv
    iexact H

/-- A tile's product, from the tile's rows. -/
def projV (w : Vec F S1024x1024 .bf16) (x : Vec F S512x1024 .bf16) : Vec F S512x1024 .bf16 :=
  shapeCast S512x1024 (truncf .bf16 (matmul dot_S512x1024_S1024x1024_S512x1024_1_0_0_1_n_n none
    (tM.view.readAt (Elt F) (Rect.unit (s := S512x1024) ![0, 0] S512x1024.size inb_S512x1024_S512x1024_0_0).toLoadRect x)
    (shapeCast S1024x1024 (wqM.view.readAt (Elt F) (Rect.unit (s := S1024x1024) ![0, 0] S1024x1024.size inb_S1024x1024_S1024x1024_0_0).toLoadRect w) shapeCasts_S1024x1024_S1024x1024)
    (constant S512x1024 .f32 0x00000000#32)) bitsLt_bf16_f32) shapeCasts_S512x1024_S512x1024

/-- The queries after a tile. -/
def projF (o : ℕ) (hi : ∀ a, (![o, 0] : Fin 2 → ℕ) a + S512x1024.size a ≤ S2048x1024.size a) (X : BlkC F) (w : Vec F S1024x1024 .bf16) (q : BlkC F) : BlkC F :=
  qM.view.writes (Elt F) q [⟨Rect.unit (s := S2048x1024) ![o, 0] S512x1024.size hi,
    projV w ((xM.slice (Rect.unit (s := S2048x1024) ![o, 0] S512x1024.size hi) (fun _ => rfl)).view.read (Elt F) X)⟩]

theorem write_tM (fd w : Vec F S512x1024 .bf16) : tM.view.write (Elt F) fd w Finset.univ = w := View.write_whole_univ _ _ _

/-- What the projection's pieces hold. -/
def prP (c : Dev nD) (O : CellTallies nD τ sig Unit) (X : BlkC F) (w : Vec F S1024x1024 .bf16) (q : BlkC F) : sProp 𝕄 :=
  iprop(owL c O ∗ (xM.view.loc (c : Thread nD τ) ↦{fullShare} X) ∗ pt c wqM w ∗ (∃ t, pt c tM t) ∗ pt c qM q)

/-- A tile of the projection, run. -/
theorem projT_run (c : Dev nD) (O : CellTallies nD τ sig Unit) (o : ℕ) (hi : ∀ a, (![o, 0] : Fin 2 → ℕ) a + S512x1024.size a ≤ S2048x1024.size a)
    (hw : (Rect.unit (s := S2048x1024) ![o, 0] S512x1024.size hi).WholeWords (EltTy.packing .bf16))
    (hp : View.StoreExact (qM.view.slice (Rect.unit (s := S2048x1024) ![o, 0] S512x1024.size hi)) Finset.univ)
    (X : BlkC F) (w : Vec F S1024x1024 .bf16) (q : BlkC F) :
    prP c O X w q ⊢ WP c (projT wqM o hi hw hp) (fun _ => prP c O X w (projF o hi X w q)) := by
  unfold projT prP owL WP
  simp only [Prog.lift, Prog.bind_op, Prog.bind_ret, Prog.pure_eq_ret]
  iintro ⟨⟨⟨%W, HO⟩, #Hm0, #Hm1, H0, H1⟩, HX, Hw, ⟨%t, Ht⟩, Hq⟩
  iapply (Transfers.wp_dmaFromWhole EC 𝒱₀ (c : Thread nD τ) none (src := xM.slice (Rect.unit (s := S2048x1024) ![o, 0] S512x1024.size hi) (fun _ => rfl)) (dst := tM) () _ rfl (View.dmaCredit_pos _ (by decide)) (Finset.Subset.refl _)) $$ [HX Ht H0]
  · isplitl [HX]; · iexact HX
    isplitl [Ht] <;> iassumption
  iintro HF0
  iapply (Transfers.wp_waitLocalO EC 𝒱₀ (c : Thread nD τ) none () rfl) $$ [HF0 HO]
  · isplitl [HF0]; · iexact HF0
    isplitl [HO]; · iexact HO
    iexact Hm0
  iintro ⟨⟨Ht, HX⟩, H0, HO⟩
  ihave Ht := (Entails.of_eq (congrArg (fun f => pt c tM f) (write_tM t _))) $$ Ht
  iapply (wp_load 𝒱₀ (c : Thread nD τ) none Set.univ (m := tM) (by rw [View.set_whole]; exact Finset.subset_univ _)) $$ Ht; iintro Ht
  iapply (wp_load 𝒱₀ (c : Thread nD τ) none Set.univ (m := wqM) (by rw [View.set_whole]; exact Finset.subset_univ _)) $$ Hw; iintro Hw
  iapply (wp_load 𝒱₀ (c : Thread nD τ) none Set.univ (m := qM) (by rw [View.set_whole]; exact Finset.subset_univ _)) $$ Hq; iintro Hq
  sl_exec
  rw [wp_ret]; imodintro
  isplitl [HO H0 H1]
  · isplitl [HO]; · iexists _; iexact HO
    isplitr; · iexact Hm0
    isplitr; · iexact Hm1
    isplitl [H0] <;> iassumption
  isplitl [HX]; · iexact HX
  isplitl [Hw]; · iexact Hw
  isplitl [Ht]; · iexists _; iexact Ht
  iexact Hq

/-- The queries after the projection. -/
def projsF (X : BlkC F) (w : Vec F S1024x1024 .bf16) (q : BlkC F) : BlkC F :=
  projF 1536 inb_S2048x1024_S512x1024_1536_0 X w <| projF 1024 inb_S2048x1024_S512x1024_1024_0 X w <|
  projF 512 inb_S2048x1024_S512x1024_512_0 X w <| projF 0 inb_S2048x1024_S512x1024_0_0 X w q

/-- The projection's run. -/
theorem projQ_run (c : Dev nD) (O : CellTallies nD τ sig Unit) (X : BlkC F) (w : Vec F S1024x1024 .bf16) (q : BlkC F) :
    prP c O X w q ⊢ WP c (projQ wqM) (fun _ => prP c O X w (projsF X w q)) := by
  unfold projQ
  iintro H
  iapply (seqW c (projT_run c O 0 _ _ _ X w q)) $$ H; iintro %_ H
  iapply (seqW c (projT_run c O 512 _ _ _ X w _)) $$ H; iintro %_ H
  iapply (seqW c (projT_run c O 1024 _ _ _ X w _)) $$ H; iintro %_ H
  iapply (projT_run c O 1536 _ _ _ X w _) $$ H

end Cert.Proof

end
-- ==== Proof.Common.lean ====
module

public import proofs.«01_k».proof.Proof.Copy
public import proofs.«01_k».proof.Proof.Gen.KernelIdeal.Launch
public import Idealize.ShloMosaic.Lib.ReshapeSlab

/-! The ring's cells, their schedule, what each device owes at launch and the levels of the waits. -/

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

variable (m : (ℓ : Loc nD τ sig) → Buf (Elt F) ℓ)

/-! ## The ring -/

set_option backward.proofsInPublic true in
/-- The device to the right. -/
def nxt (c : Dev nD) : Dev nD := ⟨(c.val + 1) % 4, Nat.mod_lt _ (by decide)⟩
set_option backward.proofsInPublic true in
/-- The device to the left. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

/-- The ring as a permutation of the devices. -/
def ring : Dev nD ≃ Dev nD := ⟨nxt, prv, prv_nxt, nxt_prv⟩

/-! ## The cells -/

/-- The kernel's own semaphores in order: the sends and receives of the key blocks, of the value
    blocks (three slots each), and the two of the local copies. -/
def dsem (k : Fin 14) : DmaSem sig := ⟨k.val + 3, by have := k.isLt; show k.val + 3 < 17; omega⟩

/-- The same as semaphore locations. -/
abbrev osem (k : Fin 14) : SemLoc sig := .dma (dsem k)

/-- Device and semaphore. -/
abbrev kcell (ck : Dev nD × Fin 14) : GSem nD τ sig := ((ck.1 : Thread nD τ), osem ck.2)

theorem kS0_eq : kS0 = dsem 0 := rfl
theorem kS1_eq : kS1 = dsem 1 := rfl
theorem kS2_eq : kS2 = dsem 2 := rfl
theorem kR0_eq : kR0 = dsem 3 := rfl
theorem kR1_eq : kR1 = dsem 4 := rfl
theorem kR2_eq : kR2 = dsem 5 := rfl
theorem vS0_eq : vS0 = dsem 6 := rfl
theorem vS1_eq : vS1 = dsem 7 := rfl
theorem vS2_eq : vS2 = dsem 8 := rfl
theorem vR0_eq : vR0 = dsem 9 := rfl
theorem vR1_eq : vR1 = dsem 10 := rfl
theorem vR2_eq : vR2 = dsem 11 := rfl
theorem lS0_eq : lS0 = dsem 12 := rfl
theorem lS1_eq : lS1 = dsem 13 := rfl

/-- The number of a semaphore location. -/
def semIx : SemLoc sig → ℕ
  | .dma q => q.val
  | .reg _ => 0

theorem semIx_osem (k : Fin 14) : semIx (osem k) = k.val + 3 := rfl

/-- What one block's copy credits. -/
abbrev N : ℕ := (ck0 : Memref sig .tc .hbm S2048x1024 .bf16).view.dmaCredit

theorem N_pos : 0 < N := View.dmaCredit_pos _ (by decide)

/-- Whether a copy credits a device's cell: the sends of the devices that send, the receives of those
    that receive. -/
def used (d : Dev nD) (n : ℕ) : Bool :=
  match n with
  | 3 | 9 => d.val < 3
  | 4 | 10 => d.val == 1 || d.val == 2
  | 5 | 11 => d.val == 0
  | 6 | 12 => 1 ≤ d.val
  | 7 | 13 => 2 ≤ d.val
  | 8 | 14 => d.val == 3
  | _ => false

/-! ## The payloads -/

/-- A device's block of the keys. -/
def Kof (c : Dev nD) : BlkC F := m ((c : Thread nD τ).loc main_arg2)
/-- A device's block of the values. -/
def Vof (c : Dev nD) : BlkC F := m ((c : Thread nD τ).loc main_arg3)

/-- The share of a block that the first send reads, -/
abbrev qA : PosShare TreeShare := fullShare.right.left
/-- and the one that device 0's second send reads. -/
abbrev qC : PosShare TreeShare := fullShare.right.right

/-- A slot at a share, holding a block. -/
def landP (c : Dev nD) (M : Memref sig .tc .hbm S2048x1024 .bf16) (q : PosShare TreeShare) (k : BlkC F) : sProp 𝕄 :=
  iprop(∃ f : BufTy.Contents (Elt F) M.view.ty, ⌜M.view.read (Elt F) f = k⌝ ∗ ptq c M q f)

omit [Named F] in
instance landP_storable (c : Dev nD) (M : Memref sig .tc .hbm S2048x1024 .bf16) (q : PosShare TreeShare) (k : BlkC F) :
    BI.Storable (upEmb : UEmb _ 𝕄) (landP c M q k) := by unfold landP; infer_instance

/-- What the credit of a cell hands its owner: a receive the slot with the sender's block, a send the
    share it read. -/
def payOf (d : Dev nD) (n : ℕ) : sProp 𝕄 :=
  match n with
  | 3 => ptq d kA qA (Kof m d)
  | 4 => landP d ck0 fullShare.right (Kof m (prv d))
  | 5 => ptq d kA qC (Kof m d)
  | 6 => landP d ck0 fullShare (Kof m (prv d))
  | 7 => landP d ck1 fullShare (Kof m (prv (prv d)))
  | 8 => landP d ck2 fullShare (Kof m (nxt d))
  | 9 => ptq d vA qA (Vof m d)
  | 10 => landP d cv0 fullShare.right (Vof m (prv d))
  | 11 => ptq d vA qC (Vof m d)
  | 12 => landP d cv0 fullShare (Vof m (prv d))
  | 13 => landP d cv1 fullShare (Vof m (prv (prv d)))
  | 14 => landP d cv2 fullShare (Vof m (nxt d))
  | _ => iprop(emp)

omit [Named F] in
instance payOf_storable (d : Dev nD) (n : ℕ) : BI.Storable (upEmb : UEmb _ 𝕄) (payOf m d n) := by
  unfold payOf; split <;> infer_instance

/-- The schedule: one round of one duty on every used cell. -/
def Rd : Rounds.Schedule (GSem nD τ sig) Unit 𝕄 where
  duties g r := if r = 0 ∧ g.1.2 = .tc ∧ used g.1.1 (semIx g.2) = true then {()} else ∅
  unitless _ := False
  amount _ _ _ := N
  payload g _ _ := payOf m g.1.1 (semIx g.2)
  amount_pos _ _ _ _ := N_pos

omit [Named F] in
instance Rd_payload_storable (g : GSem nD τ sig) (r : ℕ) (d : Unit) : BI.Storable (upEmb : UEmb _ 𝕄) ((Rd m).payload g r d) :=
  payOf_storable m _ _

omit [Named F] in
theorem duties_used (c : Dev nD) (k : Fin 14) (h : used c (k.val + 3) = true) : (Rd m).duties (kcell (c, k)) 0 = {()} :=
  if_pos ⟨rfl, rfl, h⟩
omit [Named F] in
theorem duties_unused (c : Dev nD) (k : Fin 14) (h : used c (k.val + 3) = false) (r : ℕ) : (Rd m).duties (kcell (c, k)) r = ∅ :=
  if_neg fun h' => by
    have := h'.2.2
    rw [show used (kcell (c, k)).1.1 (semIx (kcell (c, k)).2) = used c (k.val + 3) from rfl, h] at this
    exact absurd this (by decide)
omit [Named F] in
theorem duties_later (g : GSem nD τ sig) : ∀ r, 1 ≤ r → (Rd m).duties g r = ∅ := fun r hr => if_neg fun h => by omega
omit [Named F] in
theorem expect_used (c : Dev nD) (k : Fin 14) (h : used c (k.val + 3) = true) : (Rd m).expect (kcell (c, k)) 0 = N := by
  unfold Schedule.expect Schedule.amountOf; rw [duties_used m c k h, Finset.sum_singleton]; rfl
omit [Named F] in
theorem rest_used (c : Dev nD) (k : Fin 14) (h : used c (k.val + 3) = true) :
    bigSep ((Rd m).duties (kcell (c, k)) 0 \ ∅) (fun u => (Rd m).payload (kcell (c, k)) 0 u) = payOf m c (k.val + 3) := by
  rw [Finset.sdiff_empty, duties_used m c k h, bigSep_singleton]; rfl

/-! ## What each device owes at launch, and the levels -/

/-- The first send's credits at the right neighbour, -/
def tA (c : Dev nD) : CellTallies nD τ sig Unit := tallyAt (kcell (nxt c, 9)) () N + tallyAt (kcell (nxt c, 3)) () N
/-- device 0's second send's at device 3, -/
def tC (c : Dev nD) : CellTallies nD τ sig Unit := tallyAt (kcell (prv c, 11)) () N + tallyAt (kcell (prv c, 5)) () N
/-- the forwarding send's. -/
def tB (c : Dev nD) : CellTallies nD τ sig Unit := tallyAt (kcell (nxt c, 10)) () N + tallyAt (kcell (nxt c, 4)) () N

/-- What is owed after the first sends: the forwarding, by devices 1 and 2. -/
def O₁ (c : Dev nD) : CellTallies nD τ sig Unit := if c.val = 1 ∨ c.val = 2 then tB c else 0
/-- What is owed after device 0's second send. -/
def O₀ (c : Dev nD) : CellTallies nD τ sig Unit :=
  (O₁ c + if c.val = 0 then tC c else 0) + if c.val < 3 then tA c else 0

/-- Every TensorCore cell has the one index. -/
def L (g : GSem nD τ sig) : Finset Unit := if g.1.2 = .tc then {()} else ∅
/-- The first receives at 1, the forwarded ones at 2, everything else at 0. -/
def lvN (n : ℕ) : ℕ := match n with
  | 6 | 8 | 12 | 14 => 1
  | 7 | 13 => 2
  | _ => 0
def lv (g : GSem nD τ sig) (_ : Unit) : ℕ := lvN (semIx g.2)

theorem L_of_ne (g : GSem nD τ sig) (h : g.1.2 ≠ .tc) : L g = ∅ := if_neg h
theorem L_tc (c : Dev nD) (sm : SemLoc sig) : L ((c : Thread nD τ), sm) = {()} := if_pos rfl

/-- A wait on a cell below everything owed. -/
theorem mayWait (c : Dev nD) (sm : SemLoc sig) (n : ℕ) (O : CellTallies nD τ sig Unit)
    (hn : lvN (semIx sm) = n) (h : ∀ g u, 0 < O g u → g.1.2 = .tc ∧ n < lvN (semIx g.2)) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by show u ∈ L g; unfold L; rw [if_pos (h g u hg).1]; exact Finset.mem_singleton_self _)
    (fun p hp => by rw [Finset.mem_singleton.mp hp]; exact le_of_eq hn)
    (fun g u hg => (h g u hg).2)

theorem tally_pos {g₁ g : GSem nD τ sig} {u : Unit} (h : 0 < (tallyAt g₁ () N : CellTallies nD τ sig Unit) g u) : g = g₁ := by
  rw [tallyAt_apply] at h
  by_contra hn
  rw [if_neg (fun h' => hn h'.1)] at h
  exact Nat.lt_irrefl 0 h

theorem add_pos_or {a b : CellTallies nD τ sig Unit} {g : GSem nD τ sig} {u : Unit} (h : 0 < (a + b) g u) : 0 < a g u ∨ 0 < b g u := by
  rw [Pi.add_apply, Finsupp.add_apply] at h; omega

theorem tA_pos {c : Dev nD} {g : GSem nD τ sig} {u : Unit} (h : 0 < tA c g u) : g.1.2 = .tc ∧ lvN (semIx g.2) = 1 := by
  rcases add_pos_or h with h | h <;> (rw [tally_pos h]; exact ⟨rfl, rfl⟩)
theorem tC_pos {c : Dev nD} {g : GSem nD τ sig} {u : Unit} (h : 0 < tC c g u) : g.1.2 = .tc ∧ lvN (semIx g.2) = 1 := by
  rcases add_pos_or h with h | h <;> (rw [tally_pos h]; exact ⟨rfl, rfl⟩)
theorem tB_pos {c : Dev nD} {g : GSem nD τ sig} {u : Unit} (h : 0 < tB c g u) : g.1.2 = .tc ∧ lvN (semIx g.2) = 2 := by
  rcases add_pos_or h with h | h <;> (rw [tally_pos h]; exact ⟨rfl, rfl⟩)
theorem zero_pos {g : GSem nD τ sig} {u : Unit} (h : 0 < (0 : CellTallies nD τ sig Unit) g u) : False := by
  exact Nat.lt_irrefl 0 h

theorem O₁_pos {c : Dev nD} {g : GSem nD τ sig} {u : Unit} (h : 0 < O₁ c g u) : g.1.2 = .tc ∧ 1 < lvN (semIx g.2) := by
  unfold O₁ at h
  split at h
  · exact ⟨(tB_pos h).1, by rw [(tB_pos h).2]; decide⟩
  · exact (zero_pos h).elim

theorem O₀_pos {c : Dev nD} {g : GSem nD τ sig} {u : Unit} (h : 0 < O₀ c g u) : g.1.2 = .tc ∧ 0 < lvN (semIx g.2) := by
  unfold O₀ at h
  rcases add_pos_or h with h | h
  · rcases add_pos_or h with h | h
    · exact ⟨(O₁_pos h).1, by have := (O₁_pos h).2; omega⟩
    · split at h
      · exact ⟨(tC_pos h).1, by rw [(tC_pos h).2]; decide⟩
      · exact (zero_pos h).elim
  · split at h
    · exact ⟨(tA_pos h).1, by rw [(tA_pos h).2]; decide⟩
    · exact (zero_pos h).elim

/-! ## The records -/

/-- All the cells' invariants under one map of names, and that each is at round 0 at least. -/
def records (K : Dev nD × Fin 14 → ℕ) : sProp 𝕄 :=
  iprop((bigSep Finset.univ fun ck : Dev nD × Fin 14 => cellInv ER (Rd m) (K ck) (kcell ck))
    ∗ bigSep Finset.univ fun ck : Dev nD × Fin 14 => reached ER (kcell ck) 0)

omit [Named F] in
instance records_persistent (K : Dev nD × Fin 14 → ℕ) : BI.Persistent (records m K) := by unfold records; infer_instance

omit [Named F] in
theorem inv_at (K : Dev nD × Fin 14 → ℕ) (ck : Dev nD × Fin 14) : records m K ⊢ cellInv ER (Rd m) (K ck) (kcell ck) := by
  unfold records
  exact sep_elim_left.trans (bigSep_elim (Finset.mem_univ ck))
omit [Named F] in
theorem reached_at (K : Dev nD × Fin 14 → ℕ) (ck : Dev nD × Fin 14) : records m K ⊢ reached ER (kcell ck) 0 := by
  unfold records
  exact sep_elim_right.trans (bigSep_elim (Finset.mem_univ ck))

/-! ## A send, a wait, a close -/

/-- A cell no copy credits closes at once. -/
theorem close_unused (K : Dev nD × Fin 14 → ℕ) (c : Dev nD) (k : Fin 14) (h : used c (k.val + 3) = false) :
    iprop(records m K ∗ atPos ER (kcell (c, k)) 0 ∅ 0) ⊢ iprop(|={Set.univ}=> semVal (kcell (c, k)) 0 : sProp 𝕄) := by
  iintro ⟨#HR, Hat⟩
  iapply (Rounds.cell_close ER (Rd m) (Set.mem_univ (K (c, k))) (fun h => h) (R := 0) (fun r _ => duties_unused m c k h r))
  isplitr
  · iapply (inv_at m K (c, k)); iexact HR
  · iexact Hat

/-- A copy to another device: it pays the receiver's credit, and will pay the sender's. -/
theorem send_run (K : Dev nD × Fin 14 → ℕ) (c n n' : Dev nD) (hn : n = n') (k₁ k₂ : Fin 14) {s₁ s₂ : DmaSem sig} (e₁ : s₁ = dsem k₁) (e₂ : s₂ = dsem k₂)
    (u₁ : used c (k₁.val + 3) = true) (u₂ : used n' (k₂.val + 3) = true)
    {src dst : Memref sig .tc .hbm S2048x1024 .bf16} {hsc : dst.view.ref.isScScratch = false} {hsrc : src.view.WordExact} {hdst : dst.view.WordExact}
    {hsem : DmaTarget.Typed .hbm (.dma s₂) (.remote (Dev.tc n : Thread nD τ) dst (.dma s₁) hsc)}
    (hN : dst.view.amount (.dma (dsem k₂)) = N)
    (q : PosShare TreeShare) (fs : BufTy.Contents (Elt F) src.view.ty) (fd : BufTy.Contents (Elt F) dst.view.ty) (O₀ O : CellTallies nD τ sig Unit)
    (hO : O₀ = O + tallyAt (kcell (n', k₂)) () N)
    (p₁ : ptq c src q fs ⊢ payOf m c (k₁.val + 3))
    (p₂ : pt n' dst (dst.view.write (Elt F) fd (src.view.read (Elt F) fs) Finset.univ) ⊢ payOf m n' (k₂.val + 3)) :
    iprop(records m K ∗ ptq c src q fs ∗ pt n' dst fd ∗ (∃ W, owes (c : Thread nD τ) O₀ W) ∗ dutyTok ER (kcell (c, k₁)) 0 () ∗ dutyTok ER (kcell (n', k₂)) 0 ())
      ⊢ WP c (Prog.lift (.enqueueDma src (.remote (Dev.tc n : Thread nD τ) dst (.dma s₁) hsc) (.dma s₂) hsrc hdst hsem))
        (fun _ => iprop(cred (tallyAt (kcell (c, k₁)) () N) ∗ (∃ W, owes (c : Thread nD τ) O W))) := by
  subst hn e₁ e₂
  have d₁ : () ∈ (Rd m).duties (kcell (c, k₁)) 0 := by rw [duties_used m c k₁ u₁]; exact Finset.mem_singleton_self _
  have d₂ : () ∈ (Rd m).duties (kcell (n, k₂)) 0 := by rw [duties_used m n k₂ u₂]; exact Finset.mem_singleton_self _
  have a₁ : (Rd m).amount (kcell (c, k₁)) 0 () = N := rfl
  have a₂ : (Rd m).amount (kcell (n, k₂)) 0 () = N := rfl
  have p₁' : ptq c src q fs ⊢ (Rd m).payload (kcell (c, k₁)) 0 () := p₁
  have p₂' : pt n dst (dst.view.write (Elt F) fd (src.view.read (Elt F) fs) Finset.univ) ⊢ (Rd m).payload (kcell (n, k₂)) 0 () := p₂
  have i₁ := inv_at m K (c, k₁)
  have i₂ := inv_at m K (n, k₂)
  have st : ∀ g r d, BI.Storable (upEmb : UEmb _ 𝕄) ((Rd m).payload g r d) := fun g r d => Rd_payload_storable m g r d
  clear p₁ p₂
  generalize Rd m = R at *
  generalize N = NN at *
  unfold WP; simp only [Prog.lift]
  iintro ⟨#HR, Hs, Hd, ⟨%W, HO⟩, Ht1, Ht2⟩
  iapply (Rounds.wp_send_pointsTo 𝒱₀ ER R (c : Thread nD τ) none (c' := (n : Thread nD τ)) (src := src) (dst := dst) (κ₁ := K (c, k₁)) (κ₂ := K (n, k₂))
    (sS := osem k₁) (sem := osem k₂) (r₁ := 0) (r₂ := 0) (d₁ := ()) (d₂ := ()) (fd := fd) (q := q) (fs := fs) (hsrc := hsrc) (hdst := hdst) (hsem := hsem)
    (k := Prog.ret) (Es := Set.univ) d₁ d₂ () () NN hN a₁ a₂ O hO (W := W) p₁' p₂') $$ [Hs Hd HO Ht1 Ht2]
  · isplitr; · iapply i₁; iexact HR
    isplitr; · iapply i₂; iexact HR
    isplitl [Hs]; · iexact Hs
    isplitl [Hd]; · iexact Hd
    isplitl [HO]; · iexact HO
    isplitl [Ht1]; · iexact Ht1
    isplitr; · iapply (reached_at m K (c, k₁)); iexact HR
    isplitl [Ht2]; · iexact Ht2
    iapply (reached_at m K (n, k₂)); iexact HR
  iintro ⟨Hc, HO⟩
  rw [wp_ret]; imodintro
  isplitl [Hc]; · iexact Hc
  iexists W; iexact HO

/-- A wait for a copy's credit: the payload, and the cell closed. -/
theorem wait_run (K : Dev nD × Fin 14 → ℕ) (c : Dev nD) (k : Fin 14) {s : DmaSem sig} (e : s = dsem k) (u : used c (k.val + 3) = true)
    {src dst : Memref sig .tc .hbm S2048x1024 .bf16} {hsrc : src.view.WordExact} {hdst : dst.view.WordExact}
    (hN : dst.view.dmaCredit = N) (O : CellTallies nD τ sig Unit) :
    iprop(records m K ∗ cred (tallyAt (kcell (c, k)) () N) ∗ (∃ W, owes (c : Thread nD τ) O W) ∗ MayWait (c : Thread nD τ) (osem k) () O ∗ atPos ER (kcell (c, k)) 0 ∅ 0)
      ⊢ WP c (Prog.lift (.waitDma2 s src dst hsrc hdst))
        (fun _ => iprop((∃ W, owes (c : Thread nD τ) O W) ∗ payOf m c (k.val + 3) ∗ semVal (kcell (c, k)) 0)) := by
  subst e
  unfold WP; simp only [Prog.lift]
  iintro ⟨#HR, Hc, ⟨%W, HO⟩, Hm, Hat⟩
  iapply (Rounds.wp_wait_rest_token 𝒱₀ ER (Rd m) (c : Thread nD τ) none (κ := K (c, k))
      (wpE_waitDma2_eq 𝒱₀ (c : Thread nD τ) none Set.univ) (Set.mem_univ _) () (O := O) (W := W) (R := 0) (m := 0) (T := ∅)
      ((Nat.zero_add _).trans (hN.trans (expect_used m c k u).symm))) $$ [Hc HO Hm Hat]
  · isplitr; · iapply (inv_at m K (c, k)); iexact HR
    isplitl [Hc]; · rw [hN]; iexact Hc
    isplitl [HO]; · iexact HO
    isplitl [Hm]; · iexact Hm
    iexact Hat
  iintro ⟨HO, Hat, -, Hpay⟩
  ihave Hp := (Entails.of_eq (rest_used m c k u)) $$ Hpay
  rw [wp_ret]
  imod (Rounds.cell_close ER (Rd m) (Set.mem_univ (K (c, k))) (fun h => h) (R := 0 + 1) (duties_later m (kcell (c, k)))) $$ [Hat] with Hz
  · isplitr; · iapply (inv_at m K (c, k)); iexact HR
    iexact Hat
  imodintro
  isplitl [HO]; · iexists _; iexact HO
  isplitl [Hp] <;> iassumption

end Cert.Proof

end
-- ==== Proof.Pieces.lean ====
module

public import proofs.«01_k».proof.Proof.Common

/-! The sends and the waits of the kernel, run on any device that makes them. -/

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

variable (m : (ℓ : Loc nD τ sig) → Buf (Elt F) ℓ)

/-- The right to pay a cell's one credit, -/
abbrev tok (ck : Dev nD × Fin 14) : sProp 𝕄 := dutyTok ER (kcell ck) 0 ()
/-- the right to wait for it, -/
abbrev crd (ck : Dev nD × Fin 14) : sProp 𝕄 := cred (tallyAt (kcell ck) () N)
/-- the position at its first round, -/
abbrev at0 (ck : Dev nD × Fin 14) : sProp 𝕄 := atPos ER (kcell ck) 0 ∅ 0
/-- and its counter at zero. -/
abbrev zr (ck : Dev nD × Fin 14) : sProp 𝕄 := semVal (kcell ck) 0
/-- What a device owes, whatever it has waited for. -/
abbrev owe (c : Dev nD) (O : CellTallies nD τ sig Unit) : sProp 𝕄 := iprop(∃ W, owes (c : Thread nD τ) O W)

omit [Named F] in
theorem land_intro (c : Dev nD) (M : Memref sig .tc .hbm S2048x1024 .bf16) (q : PosShare TreeShare) (f : BufTy.Contents (Elt F) M.view.ty) (k : BlkC F)
    (h : M.view.read (Elt F) f = k) : ptq c M q f ⊢ landP c M q k := by
  unfold landP
  iintro H
  iexists f
  isplitr; · ipureintro; exact h
  iexact H

/-- Two copies to another device, one block of keys and one of values. -/
theorem send2_run (K : Dev nD × Fin 14 → ℕ) (c n₁ n₂ n' : Dev nD) (h₁ : n₁ = n') (h₂ : n₂ = n') (i₁ j₁ i₂ j₂ : Fin 14)
    {si₁ sj₁ si₂ sj₂ : DmaSem sig} (ei₁ : si₁ = dsem i₁) (ej₁ : sj₁ = dsem j₁) (ei₂ : si₂ = dsem i₂) (ej₂ : sj₂ = dsem j₂)
    (u : used c (i₁.val + 3) = true ∧ used n' (j₁.val + 3) = true ∧ used c (i₂.val + 3) = true ∧ used n' (j₂.val + 3) = true)
    {s₁ d₁ s₂ d₂ : Memref sig .tc .hbm S2048x1024 .bf16} {hsc₁ : d₁.view.ref.isScScratch = false} {hsc₂ : d₂.view.ref.isScScratch = false}
    {ws₁ : s₁.view.WordExact} {wd₁ : d₁.view.WordExact} {ws₂ : s₂.view.WordExact} {wd₂ : d₂.view.WordExact}
    {ht₁ : DmaTarget.Typed .hbm (.dma sj₁) (.remote (Dev.tc n₁ : Thread nD τ) d₁ (.dma si₁) hsc₁)}
    {ht₂ : DmaTarget.Typed .hbm (.dma sj₂) (.remote (Dev.tc n₂ : Thread nD τ) d₂ (.dma si₂) hsc₂)}
    (hN₁ : d₁.view.amount (.dma (dsem j₁)) = N) (hN₂ : d₂.view.amount (.dma (dsem j₂)) = N)
    (q₁ q₂ : PosShare TreeShare) (f₁ : BufTy.Contents (Elt F) s₁.view.ty) (f₂ : BufTy.Contents (Elt F) s₂.view.ty)
    (g₁ : BufTy.Contents (Elt F) d₁.view.ty) (g₂ : BufTy.Contents (Elt F) d₂.view.ty) (O : CellTallies nD τ sig Unit)
    (p₁ : ptq c s₁ q₁ f₁ ⊢ payOf m c (i₁.val + 3)) (p₂ : ptq c s₂ q₂ f₂ ⊢ payOf m c (i₂.val + 3))
    (r₁ : pt n' d₁ (d₁.view.write (Elt F) g₁ (s₁.view.read (Elt F) f₁) Finset.univ) ⊢ payOf m n' (j₁.val + 3))
    (r₂ : pt n' d₂ (d₂.view.write (Elt F) g₂ (s₂.view.read (Elt F) f₂) Finset.univ) ⊢ payOf m n' (j₂.val + 3)) :
    iprop(records m K ∗ ptq c s₁ q₁ f₁ ∗ ptq c s₂ q₂ f₂ ∗ pt n' d₁ g₁ ∗ pt n' d₂ g₂
        ∗ owe c (O + (tallyAt (kcell (n', j₂)) () N + tallyAt (kcell (n', j₁)) () N))
        ∗ tok (c, i₁) ∗ tok (c, i₂) ∗ tok (n', j₁) ∗ tok (n', j₂))
      ⊢ WP c (Prog.lift (.enqueueDma s₁ (.remote (Dev.tc n₁ : Thread nD τ) d₁ (.dma si₁) hsc₁) (.dma sj₁) ws₁ wd₁ ht₁) >>= fun _ =>
          Prog.lift (.enqueueDma s₂ (.remote (Dev.tc n₂ : Thread nD τ) d₂ (.dma si₂) hsc₂) (.dma sj₂) ws₂ wd₂ ht₂))
        (fun _ => iprop(crd (c, i₁) ∗ crd (c, i₂) ∗ owe c O)) := by
  have a := send_run m K c n₁ n' h₁ i₁ j₁ ei₁ ej₁ u.1 u.2.1 (hsc := hsc₁) (hsrc := ws₁) (hdst := wd₁) (hsem := ht₁) hN₁ q₁ f₁ g₁
    (O + (tallyAt (kcell (n', j₂)) () N + tallyAt (kcell (n', j₁)) () N)) (O + tallyAt (kcell (n', j₂)) () N) (add_assoc _ _ _).symm p₁ r₁
  have b := send_run m K c n₂ n' h₂ i₂ j₂ ei₂ ej₂ u.2.2.1 u.2.2.2 (hsc := hsc₂) (hsrc := ws₂) (hdst := wd₂) (hsem := ht₂) hN₂ q₂ f₂ g₂
    (O + tallyAt (kcell (n', j₂)) () N) O rfl p₂ r₂
  iintro ⟨#HR, Hk, Hv, Dk, Dv, HO, T0, T6, T3, T9⟩
  iapply (seqW c a) $$ [Hk Dk HO T0 T3]
  · isplitr; · iexact HR
    isplitl [Hk]; · iexact Hk
    isplitl [Dk]; · iexact Dk
    isplitl [HO]; · iexact HO
    isplitl [T0] <;> iassumption
  iintro %_ ⟨C0, HO⟩
  iapply (wp_wand_r frame (wpE (defs₀ (F := F)) 𝒱₀ (c : Thread nD τ) none) Set.univ)
  isplitr [C0]
  · iapply b
    isplitr; · iexact HR
    isplitl [Hv]; · iexact Hv
    isplitl [Dv]; · iexact Dv
    isplitl [HO]; · iexact HO
    isplitl [T6] <;> iassumption
  iintro %_ ⟨C6, HO⟩
  isplitl [C0]; · iexact C0
  isplitl [C6]; · iexact C6
  iexact HO

/-- Two waits, for a block of keys and one of values. -/
theorem wait2_run (K : Dev nD × Fin 14 → ℕ) (c : Dev nD) (i j : Fin 14) {si sj : DmaSem sig} (ei : si = dsem i) (ej : sj = dsem j)
    (u : used c (i.val + 3) = true ∧ used c (j.val + 3) = true)
    {s₁ d₁ s₂ d₂ : Memref sig .tc .hbm S2048x1024 .bf16} {ws₁ : s₁.view.WordExact} {wd₁ : d₁.view.WordExact} {ws₂ : s₂.view.WordExact} {wd₂ : d₂.view.WordExact}
    (hN₁ : d₁.view.dmaCredit = N) (hN₂ : d₂.view.dmaCredit = N) (O : CellTallies nD τ sig Unit) :
    iprop(records m K ∗ crd (c, i) ∗ crd (c, j) ∗ owe c O ∗ MayWait (c : Thread nD τ) (osem i) () O ∗ MayWait (c : Thread nD τ) (osem j) () O
        ∗ at0 (c, i) ∗ at0 (c, j))
      ⊢ WP c (Prog.lift (.waitDma2 si s₁ d₁ ws₁ wd₁) >>= fun _ => Prog.lift (.waitDma2 sj s₂ d₂ ws₂ wd₂))
        (fun _ => iprop(owe c O ∗ payOf m c (i.val + 3) ∗ payOf m c (j.val + 3) ∗ zr (c, i) ∗ zr (c, j))) := by
  have a := wait_run m K c i ei u.1 (hsrc := ws₁) (hdst := wd₁) hN₁ O
  have b := wait_run m K c j ej u.2 (hsrc := ws₂) (hdst := wd₂) hN₂ O
  iintro ⟨#HR, C1, C2, HO, M1, M2, A1, A2⟩
  iapply (seqW c a) $$ [C1 HO M1 A1]
  · isplitr; · iexact HR
    isplitl [C1]; · iexact C1
    isplitl [HO]; · iexact HO
    isplitl [M1] <;> iassumption
  iintro %_ ⟨HO, P1, Z1⟩
  iapply (wp_wand_r frame (wpE (defs₀ (F := F)) 𝒱₀ (c : Thread nD τ) none) Set.univ)
  isplitr [P1 Z1]
  · iapply b
    isplitr; · iexact HR
    isplitl [C2]; · iexact C2
    isplitl [HO]; · iexact HO
    isplitl [M2] <;> iassumption
  iintro %_ ⟨HO, P2, Z2⟩
  isplitl [HO]; · iexact HO
  isplitl [P1]; · iexact P1
  isplitl [P2]; · iexact P2
  isplitl [Z1] <;> iassumption

theorem used_A : ∀ d : Dev nD, d.val < 3 → used d 3 = true ∧ used (nxt d) 6 = true ∧ used d 9 = true ∧ used (nxt d) 12 = true := by decide
theorem used_B : ∀ d : Dev nD, (d.val = 1 ∨ d.val = 2) → used d 4 = true ∧ used (nxt d) 7 = true ∧ used d 10 = true ∧ used (nxt d) 13 = true := by decide
theorem used_C : ∀ d : Dev nD, d.val = 0 → used d 5 = true ∧ used (prv d) 8 = true ∧ used d 11 = true ∧ used (prv d) 14 = true := by decide
theorem nxt_prv_eq (d : Dev nD) : nxt (prv d) = d := nxt_prv d

/-- The first send, run. -/
theorem sendA_run (K : Dev nD × Fin 14 → ℕ) (d : Dev nD) (h : k0_cond1 d = 1#1) (hd : d.val < 3) (O : CellTallies nD τ sig Unit) (fk fv) :
    iprop(records m K ∗ ptq d kA qA (Kof m d) ∗ ptq d vA qA (Vof m d) ∗ pt (nxt d) ck0 fk ∗ pt (nxt d) cv0 fv ∗ owe d (O + tA d)
        ∗ tok (d, 0) ∗ tok (d, 6) ∗ tok (nxt d, 3) ∗ tok (nxt d, 9))
      ⊢ WP d (sendA d h) (fun _ => iprop(crd (d, 0) ∗ crd (d, 6) ∗ owe d O)) :=
  send2_run m K d ⟨k0_dev1 d, k0_dev1_lt d h⟩ ⟨k0_dev2 d, k0_dev2_lt d h⟩ (nxt d) (Fin.ext (k0_dev1_eq d)) (Fin.ext (k0_dev2_eq d)) 0 3 6 9
    kS0_eq kR0_eq vS0_eq vR0_eq (used_A d hd) (hsc₁ := rfl) (hsc₂ := rfl) (s₁ := kA) (d₁ := ck0) (s₂ := vA) (d₂ := cv0) rfl rfl qA qA (Kof m d) (Vof m d) fk fv O .rfl .rfl
    (land_intro (nxt d) ck0 fullShare _ _ ((View.read_write_univ _ _).trans (by rw [prv_nxt]; rfl)))
    (land_intro (nxt d) cv0 fullShare _ _ ((View.read_write_univ _ _).trans (by rw [prv_nxt]; rfl)))

/-- Device 0's second send, run. -/
theorem sendC_run (K : Dev nD × Fin 14 → ℕ) (d : Dev nD) (h : k0_cond2 d = 1#1) (hd : d.val = 0) (O : CellTallies nD τ sig Unit) (fk fv) :
    iprop(records m K ∗ ptq d kA qC (Kof m d) ∗ ptq d vA qC (Vof m d) ∗ pt (prv d) ck2 fk ∗ pt (prv d) cv2 fv ∗ owe d (O + tC d)
        ∗ tok (d, 2) ∗ tok (d, 8) ∗ tok (prv d, 5) ∗ tok (prv d, 11))
      ⊢ WP d (sendC d h) (fun _ => iprop(crd (d, 2) ∗ crd (d, 8) ∗ owe d O)) :=
  send2_run m K d ⟨k0_dev3 d, k0_dev3_lt d h⟩ ⟨k0_dev4 d, k0_dev4_lt d h⟩ (prv d) (Fin.ext (k0_dev3_eq d)) (Fin.ext (k0_dev4_eq d)) 2 5 8 11
    kS2_eq kR2_eq vS2_eq vR2_eq (used_C d hd) (hsc₁ := rfl) (hsc₂ := rfl) (s₁ := kA) (d₁ := ck2) (s₂ := vA) (d₂ := cv2) rfl rfl qC qC (Kof m d) (Vof m d) fk fv O .rfl .rfl
    (land_intro (prv d) ck2 fullShare _ _ ((View.read_write_univ _ _).trans (by rw [nxt_prv]; rfl)))
    (land_intro (prv d) cv2 fullShare _ _ ((View.read_write_univ _ _).trans (by rw [nxt_prv]; rfl)))

/-- The forwarding send, run. -/
theorem sendB_run (K : Dev nD × Fin 14 → ℕ) (d : Dev nD) (h : k0_cond4 d = 1#1) (hd : d.val = 1 ∨ d.val = 2) (O : CellTallies nD τ sig Unit) (f₁ f₂ fk fv)
    (hf₁ : ck0.view.read (Elt F) f₁ = Kof m (prv d)) (hf₂ : cv0.view.read (Elt F) f₂ = Vof m (prv d)) :
    iprop(records m K ∗ ptq d ck0 fullShare.right f₁ ∗ ptq d cv0 fullShare.right f₂ ∗ pt (nxt d) ck1 fk ∗ pt (nxt d) cv1 fv ∗ owe d (O + tB d)
        ∗ tok (d, 1) ∗ tok (d, 7) ∗ tok (nxt d, 4) ∗ tok (nxt d, 10))
      ⊢ WP d (sendB d h) (fun _ => iprop(crd (d, 1) ∗ crd (d, 7) ∗ owe d O)) :=
  send2_run m K d ⟨k0_dev5 d, k0_dev5_lt d h⟩ ⟨k0_dev6 d, k0_dev6_lt d h⟩ (nxt d) (Fin.ext (k0_dev5_eq d)) (Fin.ext (k0_dev6_eq d)) 1 4 7 10
    kS1_eq kR1_eq vS1_eq vR1_eq (used_B d hd) (hsc₁ := rfl) (hsc₂ := rfl) (s₁ := ck0) (d₁ := ck1) (s₂ := cv0) (d₂ := cv1) rfl rfl _ _ f₁ f₂ fk fv O
    (land_intro d ck0 _ f₁ _ hf₁) (land_intro d cv0 _ f₂ _ hf₂)
    (land_intro (nxt d) ck1 fullShare _ _ ((View.read_write_univ _ _).trans (hf₁.trans (by rw [prv_nxt]))))
    (land_intro (nxt d) cv1 fullShare _ _ ((View.read_write_univ _ _).trans (hf₂.trans (by rw [prv_nxt]))))

/-- What a pair of waits needs, -/
def wNeed (K : Dev nD × Fin 14 → ℕ) (d : Dev nD) (i j : Fin 14) (O : CellTallies nD τ sig Unit) : sProp 𝕄 :=
  iprop(records m K ∗ crd (d, i) ∗ crd (d, j) ∗ owe d O ∗ MayWait (d : Thread nD τ) (osem i) () O ∗ MayWait (d : Thread nD τ) (osem j) () O
    ∗ at0 (d, i) ∗ at0 (d, j))
/-- and what it gives. -/
def wGive (d : Dev nD) (i j : Fin 14) (O : CellTallies nD τ sig Unit) : sProp 𝕄 :=
  iprop(owe d O ∗ payOf m d (i.val + 3) ∗ payOf m d (j.val + 3) ∗ zr (d, i) ∗ zr (d, j))

theorem waitA_run (K : Dev nD × Fin 14 → ℕ) (d : Dev nD) (u : used d 6 = true ∧ used d 12 = true) (O) :
    wNeed m K d 3 9 O ⊢ WP d waitA (fun _ => wGive m d 3 9 O) :=
  wait2_run m K d 3 9 kR0_eq vR0_eq u (s₁ := kA) (d₁ := ck0) (s₂ := vA) (d₂ := cv0) rfl rfl O
theorem waitB_run (K : Dev nD × Fin 14 → ℕ) (d : Dev nD) (u : used d 7 = true ∧ used d 13 = true) (O) :
    wNeed m K d 4 10 O ⊢ WP d waitB (fun _ => wGive m d 4 10 O) :=
  wait2_run m K d 4 10 kR1_eq vR1_eq u (s₁ := ck0) (d₁ := ck1) (s₂ := cv0) (d₂ := cv1) rfl rfl O
theorem waitC_run (K : Dev nD × Fin 14 → ℕ) (d : Dev nD) (u : used d 8 = true ∧ used d 14 = true) (O) :
    wNeed m K d 5 11 O ⊢ WP d waitC (fun _ => wGive m d 5 11 O) :=
  wait2_run m K d 5 11 kR2_eq vR2_eq u (s₁ := kA) (d₁ := ck2) (s₂ := vA) (d₂ := cv2) rfl rfl O
theorem doneA_run (K : Dev nD × Fin 14 → ℕ) (d : Dev nD) (u : used d 3 = true ∧ used d 9 = true) (O) :
    wNeed m K d 0 6 O ⊢ WP d doneA (fun _ => wGive m d 0 6 O) :=
  wait2_run m K d 0 6 kS0_eq vS0_eq u (s₁ := ck0) (d₁ := kA) (s₂ := cv0) (d₂ := vA) rfl rfl O
theorem doneB_run (K : Dev nD × Fin 14 → ℕ) (d : Dev nD) (u : used d 4 = true ∧ used d 10 = true) (O) :
    wNeed m K d 1 7 O ⊢ WP d doneB (fun _ => wGive m d 1 7 O) :=
  wait2_run m K d 1 7 kS1_eq vS1_eq u (s₁ := ck1) (d₁ := ck0) (s₂ := cv1) (d₂ := cv0) rfl rfl O
theorem doneC_run (K : Dev nD × Fin 14 → ℕ) (d : Dev nD) (u : used d 5 = true ∧ used d 11 = true) (O) :
    wNeed m K d 2 8 O ⊢ WP d doneC (fun _ => wGive m d 2 8 O) :=
  wait2_run m K d 2 8 kS2_eq vS2_eq u (s₁ := ck2) (d₁ := kA) (s₂ := cv2) (d₂ := vA) rfl rfl O

/-! ## The chunks -/

/-- What the rest of the body runs on: the queries' pieces, the chunk's buffers and the state. -/
def coreP (c : Dev nD) (O : CellTallies nD τ sig Unit) (X : BlkC F) (w : Vec F S1024x1024 .bf16) (q : BlkC F) (s : St F) : sProp 𝕄 :=
  iprop(prP c O X w q ∗ (∃ k, pt c kM k) ∗ (∃ v, pt c vM v) ∗ stP c s)

/-- A chunk copied in and taken into the state. -/
theorem chunk_run (c : Dev nD) (O : CellTallies nD τ sig Unit) (X : BlkC F) (w : Vec F S1024x1024 .bf16) (q : BlkC F) (s : St F) (sc : Sc F)
    (K V : Memref sig .tc .hbm S2048x1024 .bf16) (hK : K.view.WordExact) (hV : V.view.WordExact)
    (qK qV : PosShare TreeShare) (fK : BufTy.Contents (Elt F) K.view.ty) (fV : BufTy.Contents (Elt F) V.view.ty) :
    iprop(coreP c O X w q s ∗ ptq c K qK fK ∗ ptq c V qV fV)
      ⊢ WP c (copyKV K V hK hV >>= fun _ => headsG sc)
        (fun _ => iprop(coreP c O X w q (headsF sc q (K.view.read (Elt F) fK) (V.view.read (Elt F) fV) s) ∗ ptq c K qK fK ∗ ptq c V qV fV)) := by
  unfold coreP prP
  iintro ⟨⟨⟨HL, HX, Hw, Ht, Hq⟩, ⟨%k, Hk⟩, ⟨%v, Hv⟩, Hs⟩, HK, HV⟩
  iapply (seqW c (copyKV_run c O K V hK hV qK qV fK fV k v)) $$ [HL HK HV Hk Hv]
  · isplitl [HL]; · iexact HL
    isplitl [HK]; · iexact HK
    isplitl [HV]; · iexact HV
    isplitl [Hk] <;> iassumption
  iintro %_ ⟨HL, HK, HV, Hk, Hv⟩
  iapply (wp_wand_r frame (wpE (defs₀ (F := F)) 𝒱₀ (c : Thread nD τ) none) Set.univ)
  isplitl [Hk Hv Hq Hs]
  · iapply (headsG_run c sc q (K.view.read (Elt F) fK) (V.view.read (Elt F) fV) s)
    unfold chP
    isplitl [Hk]; · iexact Hk
    isplitl [Hv]; · iexact Hv
    isplitl [Hq] <;> iassumption
  iintro %_ H
  unfold chP
  icases H with ⟨Hk, Hv, Hq, Hs⟩
  isplitr [HK HV]
  · isplitl [HL HX Hw Ht Hq]
    · isplitl [HL]; · iexact HL
      isplitl [HX]; · iexact HX
      isplitl [Hw]; · iexact Hw
      isplitl [Ht] <;> iassumption
    isplitl [Hk]; · iexists _; iexact Hk
    isplitl [Hv]; · iexists _; iexact Hv
    iexact Hs
  isplitl [HK] <;> iassumption

end Cert.Proof

end
-- ==== Proof.Start.lean ====
module

public import proofs.«01_k».proof.Proof.Common
public import Idealize.ShloMosaic.Lib.Quiescent

/-! The launch: from the whole machine's memory to every device's run of the region. The elements of the
    receiving buffers change hands before any device starts, so the step in which all devices take
    part is given the buffers as well as the semaphores. -/

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F] [Named F]

local notation "𝕄" => MT nD τ sig Unit (Elt F) ℕ (UU nD τ) ℕ

variable (m : (ℓ : Loc nD τ sig) → Buf (Elt F) ℓ) (ρ : Dev nD → PrngReg)

theorem ownSemFacts : Pipeline.OwnSemFacts spec0 osem := by decide

/-- The pipeline's proof data, one region. -/
abbrev PD (F : FTy → Type) [FloatOps F] : Type _ :=
  (p : Fin 1) → (c : Dev nD) → Dat τ (Elt F) Unit ℕ (UU nD τ) ℕ (cfgs p) c

/-- The arguments no window stages, whole and as they were. -/
def keptArgs (c : Dev nD) : sProp 𝕄 :=
  iprop((((c : Thread nD τ).loc main_arg0) ↦{fullShare} m ((c : Thread nD τ).loc main_arg0))
    ∗ (((c : Thread nD τ).loc main_arg2) ↦{fullShare} m ((c : Thread nD τ).loc main_arg2))
    ∗ (((c : Thread nD τ).loc main_arg3) ↦{fullShare} m ((c : Thread nD τ).loc main_arg3)))

/-- A device's buffers outside the kernel that no window stages. -/
abbrev restBufs (c : Dev nD) : sProp 𝕄 :=
  Pipeline.unscopedRest (Ix := Unit) (Name := ℕ) (U := UU nD τ) (Lvl := ℕ) spec0 c (fun b => m ((c : Thread nD τ).loc b))

/-- The arrays of the windows, whole. -/
abbrev winArrs (A : (c : Dev nD) → (w : Fin 3) → Buf (Elt F) ((spec0 w).arr.view.loc (c : Thread nD τ))) (c : Dev nD) : sProp 𝕄 :=
  bigSep Finset.univ fun w : Fin 3 => (((c : Thread nD τ).loc (Pipeline.arrRef spec0 w)) ↦{fullShare} A c w : sProp 𝕄)

/-- A semaphore the kernel never names, for each of them. -/
abbrev idle0 (c : Dev nD) : sProp 𝕄 :=
  Pipeline.idleSems0 (τ := τ) (Ix := Unit) (Val := Elt F) (Name := ℕ) (U := UU nD τ) (Lvl := ℕ) cfgs cellOf_inj (0 : Fin 1) ownSemFacts c

/-- What a device holds when its program starts. -/
def held (X : Dev nD → sProp 𝕄) (c : Dev nD) : sProp 𝕄 :=
  iprop(scopedBufs (c : Thread nD τ) ∗ Pipeline.cellsSems0 cfgs (0 : Fin 1) c ∗ idle0 c
    ∗ winArrs (fun c w => m ((c : Thread nD τ).loc (Pipeline.arrRef spec0 w))) c
    ∗ owes (c : Thread nD τ) (O₀ c) ∅ ∗ levAts L lv ∗ Pipeline.launchCred O₀ c
    ∗ Pipeline.cellsGhost cfgs EP (0 : Fin 1) c ∗ Pipeline.toksInit cfgs EP (0 : Fin 1) c ∗ X c)

/-- What it holds when its program is over. -/
def left (pd : PD F) (c : Dev nD) : sProp 𝕄 :=
  iprop(winArrs (fun c w => (pd 0 c).arrAt w grid0.N) c ∗ keptArgs m c ∗ scopedSems0 (c : Thread nD τ))

omit [Named F] in
/-- All devices' levels, assigned at once. -/
theorem levels_all : (bigSep Finset.univ fun c : Dev nD => levels0 (Ix := Unit) (Val := Elt F) (Name := ℕ) (U := UU nD τ) (Lvl := ℕ) (τ := τ) (sig := sig) c)
    ⊢ (|==> levAts L lv : sProp 𝕄) := by
  refine (bigSep_mono fun c _ => lev_assign_cells (c.tc : Thread nD τ) L lv).trans ((BI.bigSep_bupd _ _).trans (BI.bupd_mono ?_))
  have other : ∀ (d : Dev nD) (p : Proc τ), p ∈ Finset.univ.erase Proc.tc → (coreLevAts ((d, p) : Thread nD τ) L lv : sProp 𝕄) = BI.emp := fun d p hp => by
    unfold coreLevAts
    rw [bigSep_congr (Ψ := fun _ : SemLoc sig => (BI.emp : sProp 𝕄)) fun sm _ => by
      rw [L_of_ne (((d, p) : Thread nD τ), sm) (Finset.ne_of_mem_erase hp), BI.bigSep_empty], BI.bigSep_emp_const]
  have others : (bigSep Finset.univ fun d : Dev nD => bigSep (Finset.univ.erase Proc.tc) fun p => (coreLevAts ((d, p) : Thread nD τ) L lv : sProp 𝕄)) = BI.emp := by
    rw [bigSep_congr (Ψ := fun _ : Dev nD => (BI.emp : sProp 𝕄)) fun d _ => (bigSep_congr (other d)).trans (BI.bigSep_emp_const _), BI.bigSep_emp_const]
  rw [show (levAts L lv : sProp 𝕄) = bigSep Finset.univ fun c : Thread nD τ => coreLevAts c L lv
      from bigSep_univ_prod fun g : GSem nD τ sig => bigSep (L g) fun ι => levAt g ι (lv g ι),
    bigSep_threads (fun c : Thread nD τ => coreLevAts c L lv), bigSep_sep', others]
  exact sep_elim_right.trans (sep_emp (PROP := sProp 𝕄)).2

omit [Named F] in
/-- One device's share of the machine at launch, sorted: what its program starts from, and what goes
    into the common step. -/
theorem core_sorted (c : Dev nD) :
    coreInit (Ix := Unit) (Name := ℕ) (U := UU nD τ) (Lvl := ℕ) (Pipeline.owing O₀) 0 (⟨m, fun _ => 0, ρ⟩ : MemSt nD τ sig (Elt F)) (c.tc : Thread nD τ)
      ⊢ iprop((scopedBufs (c : Thread nD τ) ∗ Pipeline.cellsSems0 cfgs (0 : Fin 1) c ∗ idle0 c
            ∗ winArrs (fun c w => m ((c : Thread nD τ).loc (Pipeline.arrRef spec0 w))) c
            ∗ owes (c : Thread nD τ) (O₀ c) ∅ ∗ Pipeline.launchCred O₀ c)
          ∗ (Pipeline.ownSems0 osem c ∗ restBufs m c) ∗ levels0 c : sProp 𝕄) := by
  refine (Pipeline.coreInit_boundary_owing O₀ m ρ c).trans ?_
  unfold boundary
  rw [Pipeline.scopedSems0_split (τ := τ) (Ix := Unit) (Val := Elt F) (Name := ℕ) (U := UU nD τ) (Lvl := ℕ) cfgs cellOf_inj (0 : Fin 1) winFacts0.to₀ ownSemFacts c,
    Pipeline.unscopedBufs_split (τ := τ) (Ix := Unit) (Val := Elt F) (Name := ℕ) (U := UU nD τ) (Lvl := ℕ) cfgs (0 : Fin 1) winFacts0.arr_unscoped winFacts0.arr_inj c]
  iintro ⟨⟨Hb, ⟨⟨Hcells, Hown⟩, Hidle⟩, -⟩, ⟨Harr, Hrest⟩, -, HO, Hlev, -, Hcr⟩
  isplitl [Hb Hcells Hidle Harr HO Hcr]
  · isplitl [Hb]; · iexact Hb
    isplitl [Hcells]; · iexact Hcells
    isplitl [Hidle]; · iexact Hidle
    isplitl [Harr]; · iexact Harr
    isplitl [HO]; · iexact HO
    iexact Hcr
  isplitr [Hlev]
  · isplitl [Hown]; · iexact Hown
    iexact Hrest
  iexact Hlev

/-- The whole launch: all devices start from `held`, given the common step. -/
theorem all_held (G X : Dev nD → sProp 𝕄) (u₀ : UU nD τ)
    (hu₀ : (ownU u₀ : sProp 𝕄) ⊢ |={Set.univ}=> iprop(BI.own (EP (initOf (Pipeline.cells cfgs cellOf_inj) (Pipeline.launchToks cfgs cellOf_inj))) ∗ bigSep Finset.univ G))
    (hglob : (bigSep Finset.univ fun c => iprop((Pipeline.ownSems0 osem c ∗ restBufs m c) ∗ G c) : sProp 𝕄) ⊢ |={Set.univ}=> bigSep Finset.univ X) :
    iprop((bigSep Finset.univ fun d : Dev nD =>
        coreInit (Ix := Unit) (Name := ℕ) (U := UU nD τ) (Lvl := ℕ) (Pipeline.owing O₀) 0 (⟨m, fun _ => 0, ρ⟩ : MemSt nD τ sig (Elt F)) (d.tc : Thread nD τ)) ∗ ownU u₀)
      ⊢ (|={Set.univ}=> bigSep Finset.univ (held m X) : sProp 𝕄) := by
  have hg1 : (bigSep Finset.univ fun c : Dev nD => bigSep Finset.univ fun p : Fin 1 => (Pipeline.cellsGhost cfgs EP p c : sProp 𝕄))
      ⊢ bigSep Finset.univ fun c : Dev nD => (Pipeline.cellsGhost cfgs EP (0 : Fin 1) c : sProp 𝕄) :=
    bigSep_mono fun c _ => BI.bigSep_elim (Finset.mem_univ (0 : Fin 1))
  have ht1 : (bigSep Finset.univ fun c : Dev nD => bigSep Finset.univ fun p : Fin 1 => (Pipeline.toksInit cfgs EP p c : sProp 𝕄))
      ⊢ bigSep Finset.univ fun c : Dev nD => (Pipeline.toksInit cfgs EP (0 : Fin 1) c : sProp 𝕄) :=
    bigSep_mono fun c _ => BI.bigSep_elim (Finset.mem_univ (0 : Fin 1))
  refine (sep_mono_left (bigSep_mono fun c _ => core_sorted m ρ c)).trans ?_
  simp only [bigSep_sep']
  iintro ⟨⟨⟨Hb, Hcells, Hidle, Harr, HO, Hcr⟩, ⟨Hown, Hrest⟩, Hlev⟩, Hu⟩
  imod (levels_all (F := F)) $$ Hlev with Hla
  imod hu₀ $$ Hu with ⟨HP, HG⟩
  imod (Pipeline.fund_ghost cfgs EP cellOf_inj) $$ HP with ⟨Hg, Ht⟩
  imod hglob $$ [Hown Hrest HG] with HX
  · simp only [bigSep_sep']
    isplitl [Hown Hrest]
    · isplitl [Hown] <;> iassumption
    · iexact HG
  imodintro
  unfold held
  simp only [bigSep_sep']
  isplitl [Hb]; · iexact Hb
  isplitl [Hcells]; · iexact Hcells
  isplitl [Hidle]; · iexact Hidle
  isplitl [Harr]; · iexact Harr
  isplitl [HO]; · iexact HO
  isplitl [Hla]; · iapply (BI.bigSep_intro_persistent (S := Finset.univ) fun (c : Dev nD) _ => (BI.Entails.refl (levAts L lv : sProp 𝕄))); iexact Hla
  isplitl [Hcr]; · iexact Hcr
  isplitl [Hg]; · iapply hg1; iexact Hg
  isplitl [Ht]; · iapply ht1; iexact Ht
  iexact HX

section Any

variable (cf : Fin 1 → Cfg sig Λ₀) (hinj : Function.Injective (cellOf (nD := nD) (τ := τ) cf))
  (hw : Pipeline.WinFacts (cf 0).spec) (ho : Pipeline.OwnSemFacts (cf 0).spec osem)
  (df : Defs nD τ sig (Elt F) Λ₀)
  (pd : (p : Fin 1) → (c : Dev nD) → Dat τ (Elt F) Unit ℕ (UU nD τ) ℕ (cf p) c)

include hw in
omit [Named F] in
/-- One device's region under any one-region configuration: from the arrays, the cells and what the
    body starts from, to the arrays and what the body ends with. -/
theorem any_region (c : Dev nD) (X Y : sProp 𝕄) (Ow : CellTallies nD τ sig Unit)
    (hbody : BodyObligationLoose (pd 0 c) df 𝒱₀ () Set.univ)
    (hpos : ∀ w : Fin (cf 0).W, 0 < ((cf 0).spec w).block.numel)
    (hwhole : ∀ w, ((cf 0).spec w).arr.IsWhole) (hstage : ∀ w s, (((cf 0).spec w).stage s).IsWhole)
    (hshare : ∀ w, (pd 0 c).share w = fullShare)
    (howed₀ : (pd 0 c).owed 0 = Ow) (howedN : (pd 0 c).owed (Fin.last _) = 0)
    (A : (w : Fin (cf 0).W) → Buf (Elt F) (((cf 0).spec w).arr.view.loc (c.tc : Thread nD τ))) (hA : ∀ w, A w = (pd 0 c).A w)
    (hin : iprop(X ∗ Pipeline.scopedRest (cf 0).spec c) ⊢ (pd 0 c).Φ 0)
    (hout : (pd 0 c).Φ (Fin.last (cf 0).N) ⊢ iprop(Y ∗ Pipeline.ownSems0 osem c ∗ Pipeline.scopedRest (cf 0).spec c)) :
    iprop(scopedBufs (c : Thread nD τ) ∗ Pipeline.cellsSems0 cf (0 : Fin 1) c ∗ Pipeline.idleSems0 cf hinj (0 : Fin 1) ho c
      ∗ (bigSep Finset.univ fun w => (((c : Thread nD τ).loc (Pipeline.arrRef (cf 0).spec w)) ↦{fullShare} A w : sProp 𝕄))
      ∗ owes (c : Thread nD τ) Ow ∅ ∗ Pipeline.cellsWaits cf pd () 0 c
      ∗ Pipeline.cellsGhost cf EP (0 : Fin 1) c ∗ Pipeline.toksInit cf EP (0 : Fin 1) c ∗ X)
    ⊢ wp frame (wpE (Pipeline.defs (fun p => (cf p).toPCfg) df) (Variants.lift 𝒱₀) (c.tc : Thread nD τ) none) Set.univ
      (.op (.customCall (Pipeline.entry 0) ()) fun _ => .ret ⟨⟩ : Prog (TpuEff nD τ sig (Elt F) (Pipeline.Sig Λ₀ (Fin 1) fun p => ((cf p).toPCfg (Val := Elt F)).Adm) .tc) PUnit)
      (fun _ => iprop(((bigSep Finset.univ fun w => (((c : Thread nD τ).loc (Pipeline.arrRef (cf 0).spec w)) ↦{fullShare} (pd 0 c).arrAt w (cf 0).N : sProp 𝕄))
        ∗ Y ∗ scopedSems0 (c : Thread nD τ)) ∗ ∃ W, owes (c.tc : Thread nD τ) (0 : CellTallies nD τ sig Unit) W)) := by
  have hs := Pipeline.scopedSems0_split (τ := τ) (Ix := Unit) (Val := Elt F) (Name := ℕ) (U := UU nD τ) (Lvl := ℕ) cf hinj (0 : Fin 1) hw.to₀ ho c
  have hb := Pipeline.scopedBufs_split (τ := τ) (Ix := Unit) (Val := Elt F) (Name := ℕ) (U := UU nD τ) (Lvl := ℕ) cf (0 : Fin 1) hw.stage_scoped hw.stage_inj hstage c
  have ha₀ : (bigSep Finset.univ fun w => (((c : Thread nD τ).loc (Pipeline.arrRef (cf 0).spec w)) ↦{fullShare} A w : sProp 𝕄)) = (pd 0 c).arrays ((pd 0 c).arrAt · 0) := by
    rw [Pipeline.arrays_eq cf pd 0 c hwhole hshare]
    exact bigSep_congr fun w _ => by rw [show (pd 0 c).arrAt w 0 = (pd 0 c).A w from rfl, hA]
  have ha₁ := Pipeline.arrays_eq cf pd 0 c hwhole hshare ((pd 0 c).arrAt · (cf 0).N)
  have hin' : iprop(X ∗ Pipeline.prefHeld ((cf 0).toPCfg (Val := Elt F)).pre c (fun _ => fullShare.right) ((cf 0).toPCfg_adm (Val := Elt F)).1 ∗ Pipeline.scopedRest (cf 0).spec c) ⊢ (pd 0 c).Φ 0 :=
    (sep_mono_right sep_elim_right).trans hin
  have hout' : iprop((pd 0 c).Φ (Fin.last (cf 0).N) ∗ Pipeline.cellsSems0 cf (0 : Fin 1) c ∗ Dat.staging (cf 0) c ∗ Pipeline.idleSems0 cf hinj (0 : Fin 1) ho c)
      ⊢ iprop(Y ∗ scopedSems0 (c.tc : Thread nD τ) ∗ scopedBufs (c.tc : Thread nD τ)) := by
    rw [hs, hb]
    iintro ⟨HΦ, Hcells, Hst, Hidle⟩
    ihave H := hout $$ HΦ
    icases H with ⟨HY, Hos, Hrest⟩
    isplitl [HY]; · iexact HY
    isplitl [Hcells Hos Hidle]
    · isplitl [Hcells Hos]; · isplitl [Hcells] <;> iassumption
      iexact Hidle
    isplitl [Hst] <;> iassumption
  iintro ⟨Hsc, Hcells, Hidle, Harr, HO, Hw, Hg, Ht, HX⟩
  iapply (fupd_wp frame (wpE (Pipeline.defs (fun p => (cf p).toPCfg) df) (Variants.lift 𝒱₀) (c.tc : Thread nD τ) none) Set.univ _ _)
  imod (Pipeline.cellsInit_alloc cf pd EP hinj (0 : Fin 1) c) $$ [Hcells Hg] with ⟨%κ, -, Hinit⟩
  · isplitl [Hcells] <;> iassumption
  imodintro
  iapply (Pipeline.wp_customCall_entry_frame (fun p => (cf p).toPCfg) (fun p => (cf p).toPCfg_adm) pd () EP κ hinj (0 : Fin 1) df 𝒱₀ (fun _ => fullShare.right) c Set.univ (fun _ _ => Set.mem_univ _)
      hbody hpos none (fun u h => nomatch h) (X := X) (Y := Y)
      (R := Pipeline.scopedRest (cf 0).spec c) (I := Pipeline.idleSems0 cf hinj (0 : Fin 1) ho c) (Entails.of_eq hb) hin' hout' (k := fun _ => .ret ⟨⟩)) $$ [Harr HO Hw Hinit Ht HX Hidle Hsc]
  · isplitl [Harr HO Hw Hinit Ht]
    · unfold Pipeline.EntryPre Pipeline.PerCore.EntryPre Dat.owesAt Pipeline.owesWithin
      rw [howed₀]
      isplitl [Harr]; · iapply (Entails.of_eq ha₀); iexact Harr
      isplitl [HO]
      · iexists ∅; isplitr; · ipureintro; rw [Finset.coe_empty]; exact Set.empty_subset _
        iexact HO
      isplitl [Hw]; · iexact Hw
      isplitl [Hinit] <;> iassumption
    isplitr
    · unfold Pipeline.prefHeld
      rw [show (Finset.univ : Finset (Fin ((cf 0).toPCfg (Val := Elt F)).pre.K)) = ∅ from rfl, BI.bigSep_empty]; iempintro
    isplitl [HX]; · iexact HX
    isplitl [Hidle] <;> iassumption
  unfold Pipeline.EntryPost Pipeline.PerCore.EntryPost Dat.owesAt Pipeline.owesWithin
  rw [howedN]
  iintro ⟨⟨Ha, ⟨%W, -, HW⟩⟩, HY, Hss, -⟩
  rw [wp_ret]; imodintro
  isplitr [HW]
  · isplitl [Ha]; · iapply (Entails.of_eq ha₁); iexact Ha
    isplitl [HY] <;> iassumption
  · iexists W; iexact HW

end Any

/-- One device's program, from `held` to `left`. -/
theorem core_region (pd : PD F) (X : Dev nD → sProp 𝕄)
    (hbody : ∀ c, BodyObligationLoose (pd 0 c) (defs₀ (F := F)) 𝒱₀ () Set.univ)
    (hshare : ∀ c w, (pd 0 c).share w = fullShare)
    (howed₀ : ∀ c, (pd 0 c).owed 0 = O₀ c) (howedN : ∀ c, (pd 0 c).owed (Fin.last _) = 0)
    (hwaits : ∀ c, (levAts L lv : sProp 𝕄) ⊢ Pipeline.cellsWaits cfgs pd () 0 c)
    (hA : ∀ c w, (pd 0 c).A w = m ((spec0 w).arr.view.loc (c.tc : Thread nD τ)))
    (hin : ∀ c, iprop((levAts L lv ∗ Pipeline.launchCred O₀ c ∗ X c) ∗ Pipeline.scopedRest spec0 c) ⊢ (pd 0 c).Φ 0)
    (hout : ∀ c, (pd 0 c).Φ (Fin.last grid0.N) ⊢ iprop(keptArgs m c ∗ Pipeline.ownSems0 osem c ∗ Pipeline.scopedRest spec0 c))
    (c : Dev nD) :
    held m X c ⊢ wp frame (wpE (defs (F := F)) (Variants.lift 𝒱₀) (c.tc : Thread nD τ) none) Set.univ (main (F := F) c)
      (fun _ => post (liftTc (left m pd) BI.emp) (c.tc : Thread nD τ)) := by
  have H := any_region cfgs cellOf_inj winFacts0 ownSemFacts (defs₀ (F := F)) pd c
    iprop(levAts L lv ∗ Pipeline.launchCred O₀ c ∗ X c) (keptArgs m c) (O₀ c) (hbody c) block_pos0 arr_whole0 stage_whole0 (hshare c) (howed₀ c) (howedN c)
    (fun w => m ((c : Thread nD τ).loc (Pipeline.arrRef spec0 w))) (fun w => (hA c w).symm) (hin c) (hout c)
  refine BIBase.Entails.trans ?_ (BIBase.Entails.trans H ?_)
  · unfold held
    iintro ⟨Hsc, Hcells, Hidle, Harr, HO, #Hla, Hcr, Hg, Ht, HX⟩
    ihave Hw := (hwaits c) $$ Hla
    isplitl [Hsc]; · iexact Hsc
    isplitl [Hcells]; · iexact Hcells
    isplitl [Hidle]; · iexact Hidle
    isplitl [Harr]; · iexact Harr
    isplitl [HO]; · iexact HO
    isplitl [Hw]; · iexact Hw
    isplitl [Hg]; · iexact Hg
    isplitl [Ht]; · iexact Ht
    isplitr; · iexact Hla
    isplitl [Hcr] <;> iassumption
  · exact Entails.of_eq rfl

/-- What a device ends with, read off the final memory. -/
theorem left_read (pd : PD F) (c : Dev nD) (s' : Phys nD τ sig (Elt F)) :
    iprop(left m pd c ∗ SI s') ⊢ |={Set.univ}=>
      iprop(⌜((∀ w, s'.mem.mem ((spec0 w).arr.view.loc (c.tc : Thread nD τ)) = (pd 0 c).arrAt w grid0.N)
          ∧ s'.mem.mem ((c : Thread nD τ).loc main_arg0) = m ((c : Thread nD τ).loc main_arg0)
          ∧ s'.mem.mem ((c : Thread nD τ).loc main_arg2) = m ((c : Thread nD τ).loc main_arg2)
          ∧ s'.mem.mem ((c : Thread nD τ).loc main_arg3) = m ((c : Thread nD τ).loc main_arg3))
        ∧ ∀ sm : SemLoc sig, sm.isScoped .tc = true → s'.mem.sem ((c.tc : Thread nD τ), sm) = 0⌝ ∗ SI s' : sProp 𝕄) := by
  unfold left keptArgs
  iintro ⟨⟨Ha, ⟨H0, H2, H3⟩, Hss⟩, HSI⟩
  ihave %hz := (tcScoped_read_pers c s') $$ [Hss HSI]
  · isplitl [Hss] <;> iassumption
  ihave Hr := (pointsTo_read_all Finset.univ (fun w : Fin 3 => (c.tc : Thread nD τ).loc (Pipeline.arrRef spec0 w)) (fun w => (pd 0 c).arrAt w grid0.N) s' fullShare) $$ [Ha HSI]
  · isplitl [Ha] <;> iassumption
  icases Hr with ⟨%ha, HSI⟩
  icombine HSI H0 gives %h0
  icombine HSI H2 gives %h2
  icombine HSI H3 gives %h3
  imodintro
  isplitr
  · ipureintro
    exact ⟨⟨fun w => ha w (Finset.mem_univ w), Buf.eq_of_forall_mem_univ h0, Buf.eq_of_forall_mem_univ h2, Buf.eq_of_forall_mem_univ h3⟩, hz⟩
  · iexact HSI

/-- The launch theorem of the program. -/
theorem launch_run (pd : PD F) (G X : Dev nD → sProp 𝕄) (u₀ : UU nD τ)
    (hu₀ : (ownU u₀ : sProp 𝕄) ⊢ |={Set.univ}=> iprop(BI.own (EP (initOf (Pipeline.cells cfgs cellOf_inj) (Pipeline.launchToks cfgs cellOf_inj))) ∗ bigSep Finset.univ G))
    (hglob : (bigSep Finset.univ fun c => iprop((Pipeline.ownSems0 osem c ∗ restBufs m c) ∗ G c) : sProp 𝕄) ⊢ |={Set.univ}=> bigSep Finset.univ X)
    (hbody : ∀ c, BodyObligationLoose (pd 0 c) (defs₀ (F := F)) 𝒱₀ () Set.univ)
    (hshare : ∀ c w, (pd 0 c).share w = fullShare)
    (howed₀ : ∀ c, (pd 0 c).owed 0 = O₀ c) (howedN : ∀ c, (pd 0 c).owed (Fin.last _) = 0)
    (hwaits : ∀ c, (levAts L lv : sProp 𝕄) ⊢ Pipeline.cellsWaits cfgs pd () 0 c)
    (hA : ∀ c w, (pd 0 c).A w = m ((spec0 w).arr.view.loc (c.tc : Thread nD τ)))
    (hin : ∀ c, iprop((levAts L lv ∗ Pipeline.launchCred O₀ c ∗ X c) ∗ Pipeline.scopedRest spec0 c) ⊢ (pd 0 c).Φ 0)
    (hout : ∀ c, (pd 0 c).Φ (Fin.last grid0.N) ⊢ iprop(keptArgs m c ∗ Pipeline.ownSems0 osem c ∗ Pipeline.scopedRest spec0 c)) :
    θ_run (defs (F := F)) (onTc (τ := τ) (main (F := F))) ⟨m, fun _ => 0, ρ⟩ (fun r =>
      (∀ c : Dev nD, (∀ w, r.2.mem ((spec0 w).arr.view.loc (c.tc : Thread nD τ)) = (pd 0 c).arrAt w grid0.N)
        ∧ r.2.mem ((c : Thread nD τ).loc main_arg0) = m ((c : Thread nD τ).loc main_arg0)
        ∧ r.2.mem ((c : Thread nD τ).loc main_arg2) = m ((c : Thread nD τ).loc main_arg2)
        ∧ r.2.mem ((c : Thread nD τ).loc main_arg3) = m ((c : Thread nD τ).loc main_arg3))
      ∧ r.2.sem = fun _ => 0) := by
  classical
  refine (θ_run (defs (F := F)) _ _).mono (Q := fun r => (∀ c : Dev nD, ((∀ w, r.2.mem ((spec0 w).arr.view.loc (c.tc : Thread nD τ)) = (pd 0 c).arrAt w grid0.N)
        ∧ r.2.mem ((c : Thread nD τ).loc main_arg0) = m ((c : Thread nD τ).loc main_arg0)
        ∧ r.2.mem ((c : Thread nD τ).loc main_arg2) = m ((c : Thread nD τ).loc main_arg2)
        ∧ r.2.mem ((c : Thread nD τ).loc main_arg3) = m ((c : Thread nD τ).loc main_arg3))
      ∧ ∀ sm : SemLoc sig, sm.isScoped .tc = true → r.2.sem ((c.tc : Thread nD τ), sm) = 0)
      ∧ ∀ g' : GSem nD τ sig, g'.1.2 ≠ .tc → r.2.sem g' = 0)
    (fun r hr => ⟨fun c => (hr.1 c).1, Idealize.ShloMosaic.sem_eq_zero_of_scoped (by decide) (sems_of_reads (fun c => (hr.1 c).2) hr.2)⟩) (adequate_tpu (defs (F := F)) _ _ _
    (reflect_intro_fupd_tc_sems (X := Unit) (Variants.lift 𝒱₀) (Pipeline.owing O₀) 0 (noBookings fun _ => le_rfl) (Pipeline.owing_of_ne O₀) u₀
      (fun _ => held m X) (fun _ => left m pd) (fun _ => iprop(emp)) Set.univ ?_
      (fun _ c => core_region m pd X hbody hshare howed₀ howedN hwaits hA hin hout c) fun _ => ?_))
  · iintro H
    imod (all_held m ρ G X u₀ hu₀ hglob) $$ H with H
    imodintro
    iexists ()
    isplitl; · iexact H
    iempintro
  · iintro ⟨H, -, Hsc⟩ %s' HSI
    ihave %hsc := (scSems_read_zero m ρ s') $$ [Hsc HSI]
    · isplitl [Hsc] <;> iassumption
    imod (posts_fupd Finset.univ (left_read m pd) s') $$ [H HSI] with %h
    · isplitl [H] <;> iassumption
    imodintro
    ipureintro
    exact ⟨fun c => h c (Finset.mem_univ c), hsc⟩

end Cert.Proof

end
-- ==== Proof.Core.lean ====
module

public import proofs.«01_k».proof.Proof.Pieces
public import proofs.«01_k».proof.Proof.Start

/-! The kernel's body between its copies to other devices: the projection, the chunks, the division and
    the output, with what the device owes carried beside. -/

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

variable (m : (ℓ : Loc nD τ sig) → Buf (Elt F) ℓ)

/-- Everything owed is to a TensorCore's cell above a level. -/
def Above (n : ℕ) (O : CellTallies nD τ sig Unit) : Prop := ∀ g u, 0 < O g u → g.1.2 = .tc ∧ n < lvN (semIx g.2)

theorem above_zero (n : ℕ) : Above n 0 := fun _ _ h => (zero_pos h).elim
theorem above_tB (c : Dev nD) (n : ℕ) (hn : n < 2) : Above n (0 + tB c) := fun g u h => by
  rcases add_pos_or h with h | h
  · exact (zero_pos h).elim
  · exact ⟨(tB_pos h).1, by rw [(tB_pos h).2]; exact hn⟩

/-- What the body holds between its copies to other devices, beside what it owes: the local copies'
    counters at zero, the device's rows, the query weights, the tile, the queries, the chunk and the state. -/
def coreR (c : Dev nD) (X : BlkC F) (w : Vec F S1024x1024 .bf16) (q : BlkC F) (s : St F) : sProp 𝕄 :=
  iprop(zr (c, 12) ∗ zr (c, 13) ∗ (xM.view.loc (c : Thread nD τ) ↦{fullShare} X) ∗ pt c wqM w ∗ (∃ t, pt c tM t) ∗ pt c qM q
    ∗ (∃ k, pt c kM k) ∗ (∃ v, pt c vM v) ∗ stP c s)

theorem core_close (c : Dev nD) (O : CellTallies nD τ sig Unit) (hO : Above 0 O) (X : BlkC F) (w : Vec F S1024x1024 .bf16) (q : BlkC F) (s : St F) :
    iprop(levAts L lv ∗ owe c O ∗ coreR c X w q s) ⊢ coreP c O X w q s := by
  have h0 : (levAts L lv : sProp 𝕄) ⊢ MayWait (c : Thread nD τ) (.dma (dsem 12)) () O := mayWait c _ 0 O rfl hO
  have h1 : (levAts L lv : sProp 𝕄) ⊢ MayWait (c : Thread nD τ) (.dma (dsem 13)) () O := mayWait c _ 0 O rfl hO
  unfold coreR coreP prP owL
  rw [lS0_eq, lS1_eq]
  iintro ⟨#HL, HO, Z0, Z1, HX, Hw, Ht, Hq, Hk, Hv, Hs⟩
  isplitl [HO Z0 Z1 HX Hw Ht Hq]
  · isplitl [HO Z0 Z1]
    · isplitl [HO]; · iexact HO
      isplitr; · iapply h0; iexact HL
      isplitr; · iapply h1; iexact HL
      isplitl [Z0] <;> iassumption
    isplitl [HX]; · iexact HX
    isplitl [Hw]; · iexact Hw
    isplitl [Ht] <;> iassumption
  isplitl [Hk]; · iexact Hk
  isplitl [Hv] <;> iassumption

theorem core_open (c : Dev nD) (O : CellTallies nD τ sig Unit) (X : BlkC F) (w : Vec F S1024x1024 .bf16) (q : BlkC F) (s : St F) :
    coreP c O X w q s ⊢ iprop(owe c O ∗ coreR c X w q s) := by
  unfold coreR coreP prP owL
  rw [lS0_eq, lS1_eq]
  iintro ⟨⟨⟨HO, -, -, Z0, Z1⟩, HX, Hw, Ht, Hq⟩, Hk, Hv, Hs⟩
  isplitl [HO]; · iexact HO
  isplitl [Z0]; · iexact Z0
  isplitl [Z1]; · iexact Z1
  isplitl [HX]; · iexact HX
  isplitl [Hw]; · iexact Hw
  isplitl [Ht]; · iexact Ht
  isplitl [Hq]; · iexact Hq
  isplitl [Hk]; · iexact Hk
  isplitl [Hv] <;> iassumption

/-- What a piece of the core leaves, what is owed shown apart. -/
theorem core_post {α : Type} (c : Dev nD) (O : CellTallies nD τ sig Unit) (X : BlkC F) (w : Vec F S1024x1024 .bf16) (q : BlkC F) (s : St F)
    {P R : sProp 𝕄} {p : PG F α} (h : P ⊢ WP c p (fun _ => iprop(coreP c O X w q s ∗ R))) :
    P ⊢ WP c p (fun _ => iprop(owe c O ∗ coreR c X w q s ∗ R)) := by
  refine h.trans (wp_mono _ _ _ fun _ => ?_)
  iintro ⟨Hc, HR⟩
  ihave H := (core_open c O X w q s) $$ Hc
  icases H with ⟨HO, Hc⟩
  isplitl [HO]; · iexact HO
  isplitl [Hc] <;> iassumption

/-- A chunk taken into the state. -/
theorem chunk_step (c : Dev nD) (O : CellTallies nD τ sig Unit) (hO : Above 0 O) (X : BlkC F) (w : Vec F S1024x1024 .bf16) (q : BlkC F) (s : St F) (sc : Sc F)
    (K V : Memref sig .tc .hbm S2048x1024 .bf16) (hK : K.view.WordExact) (hV : V.view.WordExact)
    (qK qV : PosShare TreeShare) (fK : BufTy.Contents (Elt F) K.view.ty) (fV : BufTy.Contents (Elt F) V.view.ty) :
    iprop(levAts L lv ∗ owe c O ∗ coreR c X w q s ∗ ptq c K qK fK ∗ ptq c V qV fV)
      ⊢ WP c (copyKV K V hK hV >>= fun _ => headsG sc)
        (fun _ => iprop(owe c O ∗ coreR c X w q (headsF sc q (K.view.read (Elt F) fK) (V.view.read (Elt F) fV) s) ∗ ptq c K qK fK ∗ ptq c V qV fV)) := by
  refine core_post c O X w q _ ?_
  iintro ⟨#HL, HO, HR, HK, HV⟩
  iapply (chunk_run c O X w q s sc K V hK hV qK qV fK fV)
  isplitl [HO HR]
  · iapply (core_close c O hO X w q s)
    isplitr; · iexact HL
    isplitl [HO] <;> iassumption
  isplitl [HK] <;> iassumption

/-- A pair of waits and the chunk they bring. -/
theorem wait_chunk {c : Dev nD} {O : CellTallies nD τ sig Unit} (hO : Above 0 O) (X : BlkC F) (w : Vec F S1024x1024 .bf16) (q : BlkC F) (s : St F) (sc : Sc F)
    (K V : Memref sig .tc .hbm S2048x1024 .bf16) (hK : K.view.WordExact) (hV : V.view.WordExact) (k v : BlkC F)
    {P Z : sProp 𝕄} {p : PG F PUnit} (h : P ⊢ WP c p (fun _ => iprop(owe c O ∗ landP c K fullShare k ∗ landP c V fullShare v ∗ Z))) :
    iprop(levAts L lv ∗ P ∗ coreR c X w q s)
      ⊢ WP c (p >>= fun _ => copyKV K V hK hV >>= fun _ => headsG sc)
        (fun _ => iprop(owe c O ∗ coreR c X w q (headsF sc q k v s) ∗ Z)) := by
  iintro ⟨#HL, HP, HR⟩
  iapply (seqW c h) $$ HP
  unfold landP
  iintro %_ ⟨HO, ⟨%fK, %eK, HK⟩, ⟨%fV, %eV, HV⟩, HZ⟩
  iapply (wp_wand_r frame (wpE (defs₀ (F := F)) 𝒱₀ (c : Thread nD τ) none) Set.univ)
  isplitr [HZ]
  · iapply (chunk_step c O hO X w q s sc K V hK hV fullShare fullShare fK fV)
    isplitr; · iexact HL
    isplitl [HO]; · iexact HO
    isplitl [HR]; · iexact HR
    isplitl [HK] <;> iassumption
  rw [eK, eV]
  iintro %_ ⟨HO, HR, -, -⟩
  isplitl [HO]; · iexact HO
  isplitl [HR] <;> iassumption

/-- The first part: the projection, the initial state, the device's own chunk. -/
def midF (X : BlkC F) (w : Vec F S1024x1024 .bf16) (q₀ : BlkC F) (s₀ : St F) (k v : BlkC F) : St F :=
  headsF scMs (projsF X w q₀) k v (initF s₀)

theorem mid_step (c : Dev nD) (O : CellTallies nD τ sig Unit) (hO : Above 0 O) (X : BlkC F) (w : Vec F S1024x1024 .bf16) (q₀ : BlkC F) (s₀ : St F)
    (qK qV : PosShare TreeShare) (k v : BlkC F) {β : Type} (rest : PG F β) (Q : β → sProp 𝕄) :
    iprop(levAts L lv ∗ owe c O ∗ coreR c X w q₀ s₀ ∗ ptq c kA qK k ∗ ptq c vA qV v)
      ⊢ iprop((iprop(owe c O ∗ coreR c X w (projsF X w q₀) (midF X w q₀ s₀ k v) ∗ ptq c kA qK k ∗ ptq c vA qV v) -∗ WP c rest Q)
        -∗ WP c (projQ wqM >>= fun _ => initS >>= fun _ =>
          copyKV kA vA (Memref.isWhole_whole _).wordExact (Memref.isWhole_whole _).wordExact >>= fun _ => headsG scMs >>= fun _ => rest) Q) := by
  iintro ⟨#HL, HO, HR, HK, HV⟩ Hk
  ihave HC := (core_close c O hO X w q₀ s₀) $$ [HO HR]
  · isplitr; · iexact HL
    isplitl [HO] <;> iassumption
  unfold coreP
  icases HC with ⟨HP, Hkk, Hvv, Hs⟩
  iapply (seqW c (projQ_run c O X w q₀)) $$ HP
  iintro %_ HP
  iapply (seqW c (initS_run c s₀)) $$ Hs
  iintro %_ Hs
  have hc := chunk_run c O X w (projsF X w q₀) (initF s₀) scMs kA vA (Memref.isWhole_whole _).wordExact (Memref.isWhole_whole _).wordExact qK qV k v
  have e : (copyKV (F := F) kA vA (Memref.isWhole_whole _).wordExact (Memref.isWhole_whole _).wordExact >>= fun _ => headsG scMs >>= fun _ => rest)
      = ((copyKV kA vA (Memref.isWhole_whole _).wordExact (Memref.isWhole_whole _).wordExact >>= fun _ => headsG scMs) >>= fun _ => rest) := (bind_assoc _ _ _).symm
  rw [e]
  iapply (seqW c hc) $$ [HP Hkk Hvv Hs HK HV]
  · unfold coreP
    isplitl [HP Hkk Hvv Hs]
    · isplitl [HP]; · iexact HP
      isplitl [Hkk]; · iexact Hkk
      isplitl [Hvv] <;> iassumption
    isplitl [HK] <;> iassumption
  iintro %_ ⟨HC, HK, HV⟩
  ihave H := (core_open c O X w _ _) $$ HC
  icases H with ⟨HO, HR⟩
  iapply Hk
  unfold midF
  isplitl [HO]; · iexact HO
  isplitl [HR]; · iexact HR
  isplitl [HK] <;> iassumption

/-- What the result's staging buffer holds at the end. -/
def outS (wo : Vec F S1024x1024 .bf16) (o : Vec F S2048x1024 .f32) (s : St F) : Vec F S2048x1024 .f32 :=
  oM.view.writes (Elt F) o [⟨Rect.unit (s := S2048x1024) ![0, 0] S2048x1024.size inb_S2048x1024_S2048x1024_0_0, outF wo (divsF s)⟩]

/-- The last part: the division and the output product. -/
theorem tail_step (c : Dev nD) (X : BlkC F) (w wo : Vec F S1024x1024 .bf16) (q : BlkC F) (s : St F) (o : Vec F S2048x1024 .f32) :
    iprop(coreR c X w q s ∗ pt c woM wo ∗ pt c oM o)
      ⊢ WP c (divs >>= fun _ => outP woM oM) (fun _ => iprop(coreR c X w q (divsF s) ∗ pt c woM wo ∗ pt c oM (outS wo o s))) := by
  unfold coreR
  iintro ⟨⟨Z0, Z1, HX, Hw, Ht, Hq, Hk, Hv, Hs⟩, Hwo, Ho⟩
  iapply (seqW c (divs_run c s)) $$ Hs
  iintro %_ Hs
  iapply (wp_wand_r frame (wpE (defs₀ (F := F)) 𝒱₀ (c : Thread nD τ) none) Set.univ)
  isplitl [Hwo Ho Hs]
  · iapply (outP_run c wo o (divsF s))
    isplitl [Hwo]; · iexact Hwo
    isplitl [Ho] <;> iassumption
  iintro %_ ⟨Hwo, Ho, Hs⟩
  unfold outS
  isplitr [Hwo Ho]
  · isplitl [Z0]; · iexact Z0
    isplitl [Z1]; · iexact Z1
    isplitl [HX]; · iexact HX
    isplitl [Hw]; · iexact Hw
    isplitl [Ht]; · iexact Ht
    isplitl [Hq]; · iexact Hq
    isplitl [Hk]; · iexact Hk
    isplitl [Hv] <;> iassumption
  isplitl [Hwo] <;> iassumption

/-- A pair of waits, from the levels. -/
theorem wneed_intro (K : Dev nD × Fin 14 → ℕ) (d : Dev nD) (i j : Fin 14) (O : CellTallies nD τ sig Unit) (n : ℕ) (hi : lvN (i.val + 3) = n) (hj : lvN (j.val + 3) = n)
    (hO : Above n O) :
    iprop(records m K ∗ levAts L lv ∗ crd (d, i) ∗ crd (d, j) ∗ owe d O ∗ at0 (d, i) ∗ at0 (d, j)) ⊢ wNeed m K d i j O := by
  have h0 : (levAts L lv : sProp 𝕄) ⊢ MayWait (d : Thread nD τ) (osem i) () O := mayWait d _ n O hi hO
  have h1 : (levAts L lv : sProp 𝕄) ⊢ MayWait (d : Thread nD τ) (osem j) () O := mayWait d _ n O hj hO
  unfold wNeed
  iintro ⟨#HR, #HL, C1, C2, HO, A1, A2⟩
  isplitr; · iexact HR
  isplitl [C1]; · iexact C1
  isplitl [C2]; · iexact C2
  isplitl [HO]; · iexact HO
  isplitr; · iapply h0; iexact HL
  isplitr; · iapply h1; iexact HL
  isplitl [A1] <;> iassumption

/-- A device's keys and values at a share. -/
def kvP (d : Dev nD) (q : PosShare TreeShare) : sProp 𝕄 := iprop(ptq d kA q (Kof m d) ∗ ptq d vA q (Vof m d))

theorem whole_split {sp : Space} {s : Shape} {e : EltTy} (c : Dev nD) (M : Memref sig .tc sp s e) (q : PosShare TreeShare) (f : BufTy.Contents (Elt F) M.view.ty) :
    (ptq c M q f : sProp 𝕄) = iprop(ptq c M q.left f ∗ ptq c M q.right f) :=
  BI.Entails.antisymm (pointsTo_share (PosShare.mem_left_op_right q)).1 (pointsTo_share (PosShare.mem_left_op_right q)).2

/-- The device's keys and values cut into the share kept and the two that copies read. -/
theorem kv_split (d : Dev nD) : (kvP m d fullShare : sProp 𝕄) = iprop(kvP m d fullShare.left ∗ kvP m d qA ∗ kvP m d qC) := by
  unfold kvP
  rw [whole_split d kA fullShare, whole_split d kA fullShare.right, whole_split d vA fullShare, whole_split d vA fullShare.right]
  have perm : ∀ A B C D E G : sProp 𝕄, iprop((A ∗ B ∗ C) ∗ D ∗ E ∗ G) ⊢ iprop((A ∗ D) ∗ (B ∗ E) ∗ C ∗ G) := by
    intro A B C D E G
    iintro ⟨⟨A, B, C⟩, D, E, G⟩
    isplitl [A D]; · isplitl [A] <;> iassumption
    isplitl [B E]; · isplitl [B] <;> iassumption
    isplitl [C] <;> iassumption
  have perm' : ∀ A B C D E G : sProp 𝕄, iprop((A ∗ D) ∗ (B ∗ E) ∗ C ∗ G) ⊢ iprop((A ∗ B ∗ C) ∗ D ∗ E ∗ G) := by
    intro A B C D E G
    iintro ⟨⟨A, D⟩, ⟨B, E⟩, C, G⟩
    isplitl [A B C]
    · isplitl [A]; · iexact A
      isplitl [B] <;> iassumption
    isplitl [D]; · iexact D
    isplitl [E] <;> iassumption
  exact BI.Entails.antisymm (perm _ _ _ _ _ _) (perm' _ _ _ _ _ _)

/-- A landed slot cut in two. -/
theorem land_split (c : Dev nD) (M : Memref sig .tc .hbm S2048x1024 .bf16) (k : BlkC F) :
    landP c M fullShare k ⊢ iprop(∃ f : BufTy.Contents (Elt F) M.view.ty, ⌜M.view.read (Elt F) f = k⌝ ∗ ptq c M fullShare.left f ∗ ptq c M fullShare.right f) := by
  unfold landP
  iintro ⟨%f, %e, H⟩
  iexists f
  isplitr; · ipureintro; exact e
  ihave H2 := (Entails.of_eq (whole_split c M fullShare f)) $$ H
  iexact H2

end Cert.Proof

end
-- ==== Proof.Body.lean ====
module

public import proofs.«01_k».proof.Proof.Core

/-! The kernel's body run on each of the four devices. -/

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

variable (m : (ℓ : Loc nD τ sig) → Buf (Elt F) ℓ)

/-- A cell as the body finds it: at its first round if a copy credits it, closed otherwise. -/
def cellAt (d : Dev nD) (k : Fin 14) : sProp 𝕄 := cond (used d (k.val + 3)) (at0 (d, k)) (zr (d, k))

/-- The fourteen cells' assertions, one by one. -/
def all14 (Φ : Fin 14 → sProp 𝕄) : sProp 𝕄 :=
  iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13)

theorem bigSep_14 (Φ : Fin 14 → sProp 𝕄) : bigSep Finset.univ Φ = all14 Φ :=
  bigSep_univ_eq_bigSepL [(0 : Fin 14), 1, 2, 3, 4, 5, 6, 7, 8, 9, 10, 11, 12, 13] (by decide) (by decide) Φ

/-- The right to wait on a receive, where there is one. -/
def credAt (d : Dev nD) (k : Fin 14) : sProp 𝕄 := cond (used d (k.val + 3)) (crd (d, k)) iprop(emp)

/-- The rights to wait on the receives. -/
def credsP (d : Dev nD) : sProp 𝕄 :=
  iprop(credAt d 3 ∗ credAt d 4 ∗ credAt d 5 ∗ credAt d 9 ∗ credAt d 10 ∗ credAt d 11)

/-- The rights to pay: a device's own sends, the right neighbour's first and forwarded receives, and
    the left neighbour's third. -/
def toksP (d : Dev nD) : sProp 𝕄 :=
  iprop(tok (d, 0) ∗ tok (d, 1) ∗ tok (d, 2) ∗ tok (d, 6) ∗ tok (d, 7) ∗ tok (d, 8)
    ∗ tok (nxt d, 3) ∗ tok (nxt d, 4) ∗ tok (nxt d, 9) ∗ tok (nxt d, 10) ∗ tok (prv d, 5) ∗ tok (prv d, 11))

/-- A slot, whatever it holds. -/
def slot (d : Dev nD) (M : Memref sig .tc .hbm S2048x1024 .bf16) : sProp 𝕄 := iprop(∃ f : BufTy.Contents (Elt F) M.view.ty, pt d M f)

/-- The slots a device's copies write. -/
def slotsP (d : Dev nD) : sProp 𝕄 :=
  iprop(slot (nxt d) ck0 ∗ slot (nxt d) cv0 ∗ slot (nxt d) ck1 ∗ slot (nxt d) cv1 ∗ slot (prv d) ck2 ∗ slot (prv d) cv2)

/-- The core's buffers. -/
def coreQ (c : Dev nD) (X : BlkC F) (w : Vec F S1024x1024 .bf16) (q : BlkC F) (s : St F) : sProp 𝕄 :=
  iprop((xM.view.loc (c : Thread nD τ) ↦{fullShare} X) ∗ pt c wqM w ∗ (∃ t, pt c tM t) ∗ pt c qM q
    ∗ (∃ k, pt c kM k) ∗ (∃ v, pt c vM v) ∗ stP c s)

theorem coreR_eq (c : Dev nD) (X : BlkC F) (w : Vec F S1024x1024 .bf16) (q : BlkC F) (s : St F) :
    coreR c X w q s = iprop(zr (c, 12) ∗ zr (c, 13) ∗ coreQ c X w q s) := rfl

/-- What the body runs from on a device, -/
def devIn (K : Dev nD × Fin 14 → ℕ) (d : Dev nD) (X : BlkC F) (w wo : Vec F S1024x1024 .bf16) (q : BlkC F) (s : St F) (o : Vec F S2048x1024 .f32) : sProp 𝕄 :=
  iprop(records m K ∗ levAts L lv ∗ owe d (O₀ d) ∗ credsP d ∗ all14 (cellAt d) ∗ toksP d ∗ slotsP d ∗ kvP m d fullShare
    ∗ coreQ d X w q s ∗ pt d woM wo ∗ pt d oM o)

/-- and what it leaves. -/
def devOut (d : Dev nD) (X : BlkC F) (w wo : Vec F S1024x1024 .bf16) (q : BlkC F) (s : St F) (o : Vec F S2048x1024 .f32) : sProp 𝕄 :=
  iprop(owe d 0 ∗ all14 (fun k => zr (d, k)) ∗ kvP m d fullShare ∗ coreQ d X w q s ∗ pt d woM wo ∗ pt d oM o)

theorem dev_bind {β : Type} (c : Dev nD) (k : Dev nD → PG F β) (Q : β → sProp 𝕄) :
    WP c (Prog.lift .deviceId >>= k) Q = WP c (k c) Q := by
  unfold WP; simp only [Prog.lift, Prog.bind_op, Prog.bind_ret, wp_deviceId]

/-- What a pair of waits gives, the two payloads kept. -/
theorem give_kept (d : Dev nD) (i j : Fin 14) (O : CellTallies nD τ sig Unit) (A B : sProp 𝕄) (a : payOf m d (i.val + 3) ⊢ A) (b : payOf m d (j.val + 3) ⊢ B) :
    wGive m d i j O ⊢ iprop(owe d O ∗ A ∗ B ∗ zr (d, i) ∗ zr (d, j)) := by
  unfold wGive
  iintro ⟨HO, HA, HB, Z, Z'⟩
  isplitl [HO]; · iexact HO
  isplitl [HA]; · iapply a; iexact HA
  isplitl [HB]; · iapply b; iexact HB
  isplitl [Z] <;> iassumption

/-- The left neighbour's blocks, waited for. -/
theorem waitA_step (K : Dev nD × Fin 14 → ℕ) (d : Dev nD) (u : used d 6 = true ∧ used d 12 = true) (O : CellTallies nD τ sig Unit) (hO : Above 1 O) :
    iprop(records m K ∗ levAts L lv ∗ crd (d, 3) ∗ crd (d, 9) ∗ owe d O ∗ at0 (d, 3) ∗ at0 (d, 9))
      ⊢ WP d waitA (fun _ => iprop(owe d O ∗ landP d ck0 fullShare (Kof m (prv d)) ∗ landP d cv0 fullShare (Vof m (prv d)) ∗ zr (d, 3) ∗ zr (d, 9))) :=
  (wneed_intro m K d 3 9 O 1 rfl rfl hO).trans ((waitA_run m K d u O).trans (wp_mono _ _ _ fun _ => give_kept m d 3 9 O _ _ .rfl .rfl))

/-- The forwarded blocks, waited for. -/
theorem waitB_step (K : Dev nD × Fin 14 → ℕ) (d : Dev nD) (u : used d 7 = true ∧ used d 13 = true) (O : CellTallies nD τ sig Unit) (hO : Above 2 O) :
    iprop(records m K ∗ levAts L lv ∗ crd (d, 4) ∗ crd (d, 10) ∗ owe d O ∗ at0 (d, 4) ∗ at0 (d, 10))
      ⊢ WP d waitB (fun _ => iprop(owe d O ∗ landP d ck1 fullShare (Kof m (prv (prv d))) ∗ landP d cv1 fullShare (Vof m (prv (prv d))) ∗ zr (d, 4) ∗ zr (d, 10))) :=
  (wneed_intro m K d 4 10 O 2 rfl rfl hO).trans ((waitB_run m K d u O).trans (wp_mono _ _ _ fun _ => give_kept m d 4 10 O _ _ .rfl .rfl))

/-- The right neighbour's blocks, waited for. -/
theorem waitC_step (K : Dev nD × Fin 14 → ℕ) (d : Dev nD) (u : used d 8 = true ∧ used d 14 = true) (O : CellTallies nD τ sig Unit) (hO : Above 1 O) :
    iprop(records m K ∗ levAts L lv ∗ crd (d, 5) ∗ crd (d, 11) ∗ owe d O ∗ at0 (d, 5) ∗ at0 (d, 11))
      ⊢ WP d waitC (fun _ => iprop(owe d O ∗ landP d ck2 fullShare (Kof m (nxt d)) ∗ landP d cv2 fullShare (Vof m (nxt d)) ∗ zr (d, 5) ∗ zr (d, 11))) :=
  (wneed_intro m K d 5 11 O 1 rfl rfl hO).trans ((waitC_run m K d u O).trans (wp_mono _ _ _ fun _ => give_kept m d 5 11 O _ _ .rfl .rfl))

/-- The first send, over. -/
theorem doneA_step (K : Dev nD × Fin 14 → ℕ) (d : Dev nD) (u : used d 3 = true ∧ used d 9 = true) (O : CellTallies nD τ sig Unit) (hO : Above 0 O) :
    iprop(records m K ∗ levAts L lv ∗ crd (d, 0) ∗ crd (d, 6) ∗ owe d O ∗ at0 (d, 0) ∗ at0 (d, 6))
      ⊢ WP d doneA (fun _ => iprop(owe d O ∗ ptq d kA qA (Kof m d) ∗ ptq d vA qA (Vof m d) ∗ zr (d, 0) ∗ zr (d, 6))) :=
  (wneed_intro m K d 0 6 O 0 rfl rfl hO).trans ((doneA_run m K d u O).trans (wp_mono _ _ _ fun _ => give_kept m d 0 6 O _ _ .rfl .rfl))

/-- The forwarding send, over. -/
theorem doneB_step (K : Dev nD × Fin 14 → ℕ) (d : Dev nD) (u : used d 4 = true ∧ used d 10 = true) (O : CellTallies nD τ sig Unit) (hO : Above 0 O) :
    iprop(records m K ∗ levAts L lv ∗ crd (d, 1) ∗ crd (d, 7) ∗ owe d O ∗ at0 (d, 1) ∗ at0 (d, 7))
      ⊢ WP d doneB (fun _ => iprop(owe d O ∗ landP d ck0 fullShare.right (Kof m (prv d)) ∗ landP d cv0 fullShare.right (Vof m (prv d)) ∗ zr (d, 1) ∗ zr (d, 7))) :=
  (wneed_intro m K d 1 7 O 0 rfl rfl hO).trans ((doneB_run m K d u O).trans (wp_mono _ _ _ fun _ => give_kept m d 1 7 O _ _ .rfl .rfl))

/-- The second send, over. -/
theorem doneC_step (K : Dev nD × Fin 14 → ℕ) (d : Dev nD) (u : used d 5 = true ∧ used d 11 = true) (O : CellTallies nD τ sig Unit) (hO : Above 0 O) :
    iprop(records m K ∗ levAts L lv ∗ crd (d, 2) ∗ crd (d, 8) ∗ owe d O ∗ at0 (d, 2) ∗ at0 (d, 8))
      ⊢ WP d doneC (fun _ => iprop(owe d O ∗ ptq d kA qC (Kof m d) ∗ ptq d vA qC (Vof m d) ∗ zr (d, 2) ∗ zr (d, 8))) :=
  (wneed_intro m K d 2 8 O 0 rfl rfl hO).trans ((doneC_run m K d u O).trans (wp_mono _ _ _ fun _ => give_kept m d 2 8 O _ _ .rfl .rfl))

/-! ## Device 0 -/

/-- The state device 0 ends its chunks with. -/
def end0 (X : BlkC F) (w : Vec F S1024x1024 .bf16) (q : BlkC F) (s : St F) : St F :=
  (midF X w q s (Kof m 0) (Vof m 0))

/-- The body's run on device 0. -/
theorem dev0_run (K : Dev nD × Fin 14 → ℕ) (X : BlkC F) (w wo : Vec F S1024x1024 .bf16) (q : BlkC F) (s : St F) (o : Vec F S2048x1024 .f32) :
    devIn m K 0 X w wo q s o
      ⊢ WP 0 (bodyG wqM woM oM) (fun _ => devOut m 0 X w wo (projsF X w q) (divsF (end0 m X w q s)) (outS wo o (end0 m X w q s))) := by
  have c1 : k0_cond1 (0 : Dev nD) = 1#1 := by decide
  have c2 : k0_cond2 (0 : Dev nD) = 1#1 := by decide
  have c4 : ¬ k0_cond4 (0 : Dev nD) = 1#1 := by decide
  have c5 : ¬ k0_cond5 (0 : Dev nD) = 1#1 := by decide
  have c6 : ¬ k0_cond6 (0 : Dev nD) = 1#1 := by decide
  have c7 : ¬ k0_cond7 (0 : Dev nD) = 1#1 := by decide
  have eO : O₀ (0 : Dev nD) = (0 + tC 0) + tA 0 := by unfold O₀ O₁; rw [if_neg (by decide), if_pos (by decide), if_pos (by decide)]
  have eC : (all14 (cellAt (0 : Dev nD)) : sProp 𝕄) = iprop(at0 (0, 0) ∗ zr (0, 1) ∗ at0 (0, 2) ∗ zr (0, 3) ∗ zr (0, 4) ∗ zr (0, 5) ∗ at0 (0, 6) ∗ zr (0, 7) ∗ at0 (0, 8) ∗ zr (0, 9) ∗ zr (0, 10) ∗ zr (0, 11) ∗ zr (0, 12) ∗ zr (0, 13)) := rfl
  have eR : (credsP (0 : Dev nD) : sProp 𝕄) = iprop(emp ∗ emp ∗ emp ∗ emp ∗ emp ∗ emp) := rfl
  unfold bodyG
  rw [dev_bind]
  simp only [dif_pos c1, dif_pos c2, dif_neg c4, dif_neg c5, dif_neg c6, dif_neg c7, pure_bind]
  unfold devIn
  rw [eO, eC, eR, kv_split]
  unfold toksP slotsP slot kvP
  iintro ⟨#HR, #HL, HO, ⟨-, -, -, -, -, -⟩, ⟨A0, Z1, A2, Z3, Z4, Z5, A6, Z7, A8, Z9, Z10, Z11, Z12, Z13⟩, ⟨T0, -, T2, T6, -, T8, T3, -, T9, -, T5, T11⟩,
    ⟨⟨%f0, D0⟩, ⟨%f1, D1⟩, -, -, ⟨%f4, D4⟩, ⟨%f5, D5⟩⟩, ⟨⟨KL, VL⟩, ⟨KA, VA⟩, KC, VC⟩, HQ, Hwo, Ho⟩
  iapply (seqW 0 (sendA_run m K 0 c1 (by decide) (0 + tC 0) f0 f1)) $$ [KA VA D0 D1 HO T0 T6 T3 T9]
  · isplitr; · iexact HR
    isplitl [KA]; · iexact KA
    isplitl [VA]; · iexact VA
    isplitl [D0]; · iexact D0
    isplitl [D1]; · iexact D1
    isplitl [HO]; · iexact HO
    isplitl [T0]; · iexact T0
    isplitl [T6]; · iexact T6
    isplitl [T3] <;> iassumption
  iintro %_ ⟨R0, R6, HO⟩
  iapply (seqW 0 (sendC_run m K 0 c2 (by decide) 0 f4 f5)) $$ [KC VC D4 D5 HO T2 T8 T5 T11]
  · isplitr; · iexact HR
    isplitl [KC]; · iexact KC
    isplitl [VC]; · iexact VC
    isplitl [D4]; · iexact D4
    isplitl [D5]; · iexact D5
    isplitl [HO]; · iexact HO
    isplitl [T2]; · iexact T2
    isplitl [T8]; · iexact T8
    isplitl [T5] <;> iassumption
  iintro %_ ⟨R2, R8, HO⟩
  iapply (mid_step 0 0 (above_zero _) X w q s fullShare.left fullShare.left (Kof m 0) (Vof m 0) _ _) $$ [HO HQ Z12 Z13 KL VL]
  · isplitr; · iexact HL
    isplitl [HO]; · iexact HO
    isplitl [HQ Z12 Z13]
    · rw [coreR_eq]
      isplitl [Z12]; · iexact Z12
      isplitl [Z13] <;> iassumption
    isplitl [KL] <;> iassumption
  iintro ⟨HO, HQ, KL, VL⟩
  iapply (seqW 0 (doneA_step m K 0 (by decide) 0 (above_zero _))) $$ [R0 R6 HO A0 A6]
  · isplitr; · iexact HR
    isplitr; · iexact HL
    isplitl [R0]; · iexact R0
    isplitl [R6]; · iexact R6
    isplitl [HO]; · iexact HO
    isplitl [A0] <;> iassumption
  iintro %_ ⟨HO, KA, VA, Z0, Z6⟩
  iapply (seqW 0 (doneC_step m K 0 (by decide) 0 (above_zero _))) $$ [R2 R8 HO A2 A8]
  · isplitr; · iexact HR
    isplitr; · iexact HL
    isplitl [R2]; · iexact R2
    isplitl [R8]; · iexact R8
    isplitl [HO]; · iexact HO
    isplitl [A2] <;> iassumption
  iintro %_ ⟨HO, KC, VC, Z2, Z8⟩
  iapply (wp_wand_r frame (wpE (defs₀ (F := F)) 𝒱₀ ((0 : Dev nD) : Thread nD τ) none) Set.univ)
  isplitl [HQ Hwo Ho]
  · iapply (tail_step 0 X w wo (projsF X w q) _ o)
    isplitl [HQ]; · iexact HQ
    isplitl [Hwo] <;> iassumption
  rw [coreR_eq]
  iintro %_ ⟨⟨Z12, Z13, HQ⟩, Hwo, Ho⟩
  unfold devOut all14 end0
  rw [kv_split]
  unfold kvP
  isplitl [HO]; · iexact HO
  isplitl [Z0 Z1 Z2 Z3 Z4 Z5 Z6 Z7 Z8 Z9 Z10 Z11 Z12 Z13]
  · isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    isplitl [Z8]; · iexact Z8
    isplitl [Z9]; · iexact Z9
    isplitl [Z10]; · iexact Z10
    isplitl [Z11]; · iexact Z11
    isplitl [Z12]; · iexact Z12
    iexact Z13
  isplitl [KL VL KA VA KC VC]
  · isplitl [KL VL]; · isplitl [KL] <;> iassumption
    isplitl [KA VA]; · isplitl [KA] <;> iassumption
    isplitl [KC] <;> iassumption
  isplitl [HQ]; · iexact HQ
  isplitl [Hwo] <;> iassumption

/-! ## Device 1 -/

/-- The state device 1 ends its chunks with. -/
def end1 (X : BlkC F) (w : Vec F S1024x1024 .bf16) (q : BlkC F) (s : St F) : St F :=
  (headsF scUs (projsF X w q) (Kof m (prv 1)) (Vof m (prv 1)) (midF X w q s (Kof m 1) (Vof m 1)))

/-- The body's run on device 1. -/
theorem dev1_run (K : Dev nD × Fin 14 → ℕ) (X : BlkC F) (w wo : Vec F S1024x1024 .bf16) (q : BlkC F) (s : St F) (o : Vec F S2048x1024 .f32) :
    devIn m K 1 X w wo q s o
      ⊢ WP 1 (bodyG wqM woM oM) (fun _ => devOut m 1 X w wo (projsF X w q) (divsF (end1 m X w q s)) (outS wo o (end1 m X w q s))) := by
  have c1 : k0_cond1 (1 : Dev nD) = 1#1 := by decide
  have c2 : ¬ k0_cond2 (1 : Dev nD) = 1#1 := by decide
  have c4 : k0_cond4 (1 : Dev nD) = 1#1 := by decide
  have c5 : k0_cond5 (1 : Dev nD) = 1#1 := by decide
  have c6 : ¬ k0_cond6 (1 : Dev nD) = 1#1 := by decide
  have c7 : ¬ k0_cond7 (1 : Dev nD) = 1#1 := by decide
  have eO : O₀ (1 : Dev nD) = (0 + tB 1) + tA 1 := by unfold O₀ O₁; rw [if_pos (by decide), if_neg (by decide), if_pos (by decide), add_zero, zero_add]
  have eC : (all14 (cellAt (1 : Dev nD)) : sProp 𝕄) = iprop(at0 (1, 0) ∗ at0 (1, 1) ∗ zr (1, 2) ∗ at0 (1, 3) ∗ zr (1, 4) ∗ zr (1, 5) ∗ at0 (1, 6) ∗ at0 (1, 7) ∗ zr (1, 8) ∗ at0 (1, 9) ∗ zr (1, 10) ∗ zr (1, 11) ∗ zr (1, 12) ∗ zr (1, 13)) := rfl
  have eR : (credsP (1 : Dev nD) : sProp 𝕄) = iprop(crd (1, 3) ∗ emp ∗ emp ∗ crd (1, 9) ∗ emp ∗ emp) := rfl
  unfold bodyG
  rw [dev_bind]
  simp only [dif_pos c1, dif_neg c2, dif_pos c4, dif_pos c5, dif_neg c6, dif_neg c7, pure_bind]
  unfold devIn
  rw [eO, eC, eR, kv_split]
  unfold toksP slotsP slot kvP
  iintro ⟨#HR, #HL, HO, ⟨R3, -, -, R9, -, -⟩, ⟨A0, A1, Z2, A3, Z4, Z5, A6, A7, Z8, A9, Z10, Z11, Z12, Z13⟩, ⟨T0, T1, -, T6, T7, -, T3, T4, T9, T10, -, -⟩,
    ⟨⟨%f0, D0⟩, ⟨%f1, D1⟩, ⟨%f2, D2⟩, ⟨%f3, D3⟩, -, -⟩, ⟨⟨KL, VL⟩, ⟨KA, VA⟩, KC, VC⟩, HQ, Hwo, Ho⟩
  iapply (seqW 1 (sendA_run m K 1 c1 (by decide) (0 + tB 1) f0 f1)) $$ [KA VA D0 D1 HO T0 T6 T3 T9]
  · isplitr; · iexact HR
    isplitl [KA]; · iexact KA
    isplitl [VA]; · iexact VA
    isplitl [D0]; · iexact D0
    isplitl [D1]; · iexact D1
    isplitl [HO]; · iexact HO
    isplitl [T0]; · iexact T0
    isplitl [T6]; · iexact T6
    isplitl [T3] <;> iassumption
  iintro %_ ⟨R0, R6, HO⟩
  iapply (mid_step 1 (0 + tB 1) (above_tB 1 _ (by decide)) X w q s fullShare.left fullShare.left (Kof m 1) (Vof m 1) _ _) $$ [HO HQ Z12 Z13 KL VL]
  · isplitr; · iexact HL
    isplitl [HO]; · iexact HO
    isplitl [HQ Z12 Z13]
    · rw [coreR_eq]
      isplitl [Z12]; · iexact Z12
      isplitl [Z13] <;> iassumption
    isplitl [KL] <;> iassumption
  iintro ⟨HO, HQ, KL, VL⟩
  iapply (seqW 1 (waitA_step m K 1 (by decide) (0 + tB 1) (above_tB 1 _ (by decide)))) $$ [R3 R9 HO A3 A9]
  · isplitr; · iexact HR
    isplitr; · iexact HL
    isplitl [R3]; · iexact R3
    isplitl [R9]; · iexact R9
    isplitl [HO]; · iexact HO
    isplitl [A3] <;> iassumption
  iintro %_ ⟨HO, HP0, HP1, Z3, Z9⟩
  ihave HP0 := (land_split 1 ck0 _) $$ HP0
  icases HP0 with ⟨%g0, %e0, KS, KT⟩
  ihave HP1 := (land_split 1 cv0 _) $$ HP1
  icases HP1 with ⟨%g1, %e1, VS, VT⟩
  iapply (seqW 1 (sendB_run m K 1 c4 (by decide) 0 g0 g1 f2 f3 e0 e1)) $$ [KT VT D2 D3 HO T1 T7 T4 T10]
  · isplitr; · iexact HR
    isplitl [KT]; · iexact KT
    isplitl [VT]; · iexact VT
    isplitl [D2]; · iexact D2
    isplitl [D3]; · iexact D3
    isplitl [HO]; · iexact HO
    isplitl [T1]; · iexact T1
    isplitl [T7]; · iexact T7
    isplitl [T4] <;> iassumption
  iintro %_ ⟨R1, R7, HO⟩
  iapply (seqW 1 (chunk_step 1 0 (above_zero _) X w (projsF X w q) _ scUs ck0 cv0 ck0_we cv0_we fullShare.left fullShare.left g0 g1)) $$ [HO HQ KS VS]
  · isplitr; · iexact HL
    isplitl [HO]; · iexact HO
    isplitl [HQ]; · iexact HQ
    isplitl [KS] <;> iassumption
  rw [e0, e1]
  iintro %_ ⟨HO, HQ, -, -⟩
  iapply (seqW 1 (doneA_step m K 1 (by decide) 0 (above_zero _))) $$ [R0 R6 HO A0 A6]
  · isplitr; · iexact HR
    isplitr; · iexact HL
    isplitl [R0]; · iexact R0
    isplitl [R6]; · iexact R6
    isplitl [HO]; · iexact HO
    isplitl [A0] <;> iassumption
  iintro %_ ⟨HO, KA, VA, Z0, Z6⟩
  iapply (seqW 1 (doneB_step m K 1 (by decide) 0 (above_zero _))) $$ [R1 R7 HO A1 A7]
  · isplitr; · iexact HR
    isplitr; · iexact HL
    isplitl [R1]; · iexact R1
    isplitl [R7]; · iexact R7
    isplitl [HO]; · iexact HO
    isplitl [A1] <;> iassumption
  iintro %_ ⟨HO, -, -, Z1, Z7⟩
  iapply (wp_wand_r frame (wpE (defs₀ (F := F)) 𝒱₀ ((1 : Dev nD) : Thread nD τ) none) Set.univ)
  isplitl [HQ Hwo Ho]
  · iapply (tail_step 1 X w wo (projsF X w q) _ o)
    isplitl [HQ]; · iexact HQ
    isplitl [Hwo] <;> iassumption
  rw [coreR_eq]
  iintro %_ ⟨⟨Z12, Z13, HQ⟩, Hwo, Ho⟩
  unfold devOut all14 end1
  rw [kv_split]
  unfold kvP
  isplitl [HO]; · iexact HO
  isplitl [Z0 Z1 Z2 Z3 Z4 Z5 Z6 Z7 Z8 Z9 Z10 Z11 Z12 Z13]
  · isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    isplitl [Z8]; · iexact Z8
    isplitl [Z9]; · iexact Z9
    isplitl [Z10]; · iexact Z10
    isplitl [Z11]; · iexact Z11
    isplitl [Z12]; · iexact Z12
    iexact Z13
  isplitl [KL VL KA VA KC VC]
  · isplitl [KL VL]; · isplitl [KL] <;> iassumption
    isplitl [KA VA]; · isplitl [KA] <;> iassumption
    isplitl [KC] <;> iassumption
  isplitl [HQ]; · iexact HQ
  isplitl [Hwo] <;> iassumption

/-! ## Device 2 -/

/-- The state device 2 ends its chunks with. -/
def end2 (X : BlkC F) (w : Vec F S1024x1024 .bf16) (q : BlkC F) (s : St F) : St F :=
  (headsF scUs (projsF X w q) (Kof m (prv (prv 2))) (Vof m (prv (prv 2))) (headsF scUs (projsF X w q) (Kof m (prv 2)) (Vof m (prv 2)) (midF X w q s (Kof m 2) (Vof m 2))))

/-- The body's run on device 2. -/
theorem dev2_run (K : Dev nD × Fin 14 → ℕ) (X : BlkC F) (w wo : Vec F S1024x1024 .bf16) (q : BlkC F) (s : St F) (o : Vec F S2048x1024 .f32) :
    devIn m K 2 X w wo q s o
      ⊢ WP 2 (bodyG wqM woM oM) (fun _ => devOut m 2 X w wo (projsF X w q) (divsF (end2 m X w q s)) (outS wo o (end2 m X w q s))) := by
  have c1 : k0_cond1 (2 : Dev nD) = 1#1 := by decide
  have c2 : ¬ k0_cond2 (2 : Dev nD) = 1#1 := by decide
  have c4 : k0_cond4 (2 : Dev nD) = 1#1 := by decide
  have c5 : k0_cond5 (2 : Dev nD) = 1#1 := by decide
  have c6 : ¬ k0_cond6 (2 : Dev nD) = 1#1 := by decide
  have c7 : k0_cond7 (2 : Dev nD) = 1#1 := by decide
  have eO : O₀ (2 : Dev nD) = (0 + tB 2) + tA 2 := by unfold O₀ O₁; rw [if_pos (by decide), if_neg (by decide), if_pos (by decide), add_zero, zero_add]
  have eC : (all14 (cellAt (2 : Dev nD)) : sProp 𝕄) = iprop(at0 (2, 0) ∗ at0 (2, 1) ∗ zr (2, 2) ∗ at0 (2, 3) ∗ at0 (2, 4) ∗ zr (2, 5) ∗ at0 (2, 6) ∗ at0 (2, 7) ∗ zr (2, 8) ∗ at0 (2, 9) ∗ at0 (2, 10) ∗ zr (2, 11) ∗ zr (2, 12) ∗ zr (2, 13)) := rfl
  have eR : (credsP (2 : Dev nD) : sProp 𝕄) = iprop(crd (2, 3) ∗ crd (2, 4) ∗ emp ∗ crd (2, 9) ∗ crd (2, 10) ∗ emp) := rfl
  unfold bodyG
  rw [dev_bind]
  simp only [dif_pos c1, dif_neg c2, dif_pos c4, dif_pos c5, dif_neg c6, dif_pos c7, pure_bind]
  unfold devIn
  rw [eO, eC, eR, kv_split]
  unfold toksP slotsP slot kvP
  iintro ⟨#HR, #HL, HO, ⟨R3, R4, -, R9, R10, -⟩, ⟨A0, A1, Z2, A3, A4, Z5, A6, A7, Z8, A9, A10, Z11, Z12, Z13⟩, ⟨T0, T1, -, T6, T7, -, T3, T4, T9, T10, -, -⟩,
    ⟨⟨%f0, D0⟩, ⟨%f1, D1⟩, ⟨%f2, D2⟩, ⟨%f3, D3⟩, -, -⟩, ⟨⟨KL, VL⟩, ⟨KA, VA⟩, KC, VC⟩, HQ, Hwo, Ho⟩
  iapply (seqW 2 (sendA_run m K 2 c1 (by decide) (0 + tB 2) f0 f1)) $$ [KA VA D0 D1 HO T0 T6 T3 T9]
  · isplitr; · iexact HR
    isplitl [KA]; · iexact KA
    isplitl [VA]; · iexact VA
    isplitl [D0]; · iexact D0
    isplitl [D1]; · iexact D1
    isplitl [HO]; · iexact HO
    isplitl [T0]; · iexact T0
    isplitl [T6]; · iexact T6
    isplitl [T3] <;> iassumption
  iintro %_ ⟨R0, R6, HO⟩
  iapply (mid_step 2 (0 + tB 2) (above_tB 2 _ (by decide)) X w q s fullShare.left fullShare.left (Kof m 2) (Vof m 2) _ _) $$ [HO HQ Z12 Z13 KL VL]
  · isplitr; · iexact HL
    isplitl [HO]; · iexact HO
    isplitl [HQ Z12 Z13]
    · rw [coreR_eq]
      isplitl [Z12]; · iexact Z12
      isplitl [Z13] <;> iassumption
    isplitl [KL] <;> iassumption
  iintro ⟨HO, HQ, KL, VL⟩
  iapply (seqW 2 (waitA_step m K 2 (by decide) (0 + tB 2) (above_tB 2 _ (by decide)))) $$ [R3 R9 HO A3 A9]
  · isplitr; · iexact HR
    isplitr; · iexact HL
    isplitl [R3]; · iexact R3
    isplitl [R9]; · iexact R9
    isplitl [HO]; · iexact HO
    isplitl [A3] <;> iassumption
  iintro %_ ⟨HO, HP0, HP1, Z3, Z9⟩
  ihave HP0 := (land_split 2 ck0 _) $$ HP0
  icases HP0 with ⟨%g0, %e0, KS, KT⟩
  ihave HP1 := (land_split 2 cv0 _) $$ HP1
  icases HP1 with ⟨%g1, %e1, VS, VT⟩
  iapply (seqW 2 (sendB_run m K 2 c4 (by decide) 0 g0 g1 f2 f3 e0 e1)) $$ [KT VT D2 D3 HO T1 T7 T4 T10]
  · isplitr; · iexact HR
    isplitl [KT]; · iexact KT
    isplitl [VT]; · iexact VT
    isplitl [D2]; · iexact D2
    isplitl [D3]; · iexact D3
    isplitl [HO]; · iexact HO
    isplitl [T1]; · iexact T1
    isplitl [T7]; · iexact T7
    isplitl [T4] <;> iassumption
  iintro %_ ⟨R1, R7, HO⟩
  iapply (seqW 2 (chunk_step 2 0 (above_zero _) X w (projsF X w q) _ scUs ck0 cv0 ck0_we cv0_we fullShare.left fullShare.left g0 g1)) $$ [HO HQ KS VS]
  · isplitr; · iexact HL
    isplitl [HO]; · iexact HO
    isplitl [HQ]; · iexact HQ
    isplitl [KS] <;> iassumption
  rw [e0, e1]
  iintro %_ ⟨HO, HQ, -, -⟩
  iapply (seqW 2 (wait_chunk (above_zero _) X w (projsF X w q) _ scUs ck1 cv1 ck1_we cv1_we _ _ (waitB_step m K 2 (by decide) 0 (above_zero _)))) $$ [R4 R10 HO A4 A10 HQ]
  · isplitr; · iexact HL
    isplitr [HQ]
    · isplitr; · iexact HR
      isplitr; · iexact HL
      isplitl [R4]; · iexact R4
      isplitl [R10]; · iexact R10
      isplitl [HO]; · iexact HO
      isplitl [A4] <;> iassumption
    iexact HQ
  iintro %_ ⟨HO, HQ, Z4, Z10⟩
  iapply (seqW 2 (doneA_step m K 2 (by decide) 0 (above_zero _))) $$ [R0 R6 HO A0 A6]
  · isplitr; · iexact HR
    isplitr; · iexact HL
    isplitl [R0]; · iexact R0
    isplitl [R6]; · iexact R6
    isplitl [HO]; · iexact HO
    isplitl [A0] <;> iassumption
  iintro %_ ⟨HO, KA, VA, Z0, Z6⟩
  iapply (seqW 2 (doneB_step m K 2 (by decide) 0 (above_zero _))) $$ [R1 R7 HO A1 A7]
  · isplitr; · iexact HR
    isplitr; · iexact HL
    isplitl [R1]; · iexact R1
    isplitl [R7]; · iexact R7
    isplitl [HO]; · iexact HO
    isplitl [A1] <;> iassumption
  iintro %_ ⟨HO, -, -, Z1, Z7⟩
  iapply (wp_wand_r frame (wpE (defs₀ (F := F)) 𝒱₀ ((2 : Dev nD) : Thread nD τ) none) Set.univ)
  isplitl [HQ Hwo Ho]
  · iapply (tail_step 2 X w wo (projsF X w q) _ o)
    isplitl [HQ]; · iexact HQ
    isplitl [Hwo] <;> iassumption
  rw [coreR_eq]
  iintro %_ ⟨⟨Z12, Z13, HQ⟩, Hwo, Ho⟩
  unfold devOut all14 end2
  rw [kv_split]
  unfold kvP
  isplitl [HO]; · iexact HO
  isplitl [Z0 Z1 Z2 Z3 Z4 Z5 Z6 Z7 Z8 Z9 Z10 Z11 Z12 Z13]
  · isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    isplitl [Z8]; · iexact Z8
    isplitl [Z9]; · iexact Z9
    isplitl [Z10]; · iexact Z10
    isplitl [Z11]; · iexact Z11
    isplitl [Z12]; · iexact Z12
    iexact Z13
  isplitl [KL VL KA VA KC VC]
  · isplitl [KL VL]; · isplitl [KL] <;> iassumption
    isplitl [KA VA]; · isplitl [KA] <;> iassumption
    isplitl [KC] <;> iassumption
  isplitl [HQ]; · iexact HQ
  isplitl [Hwo] <;> iassumption

/-! ## Device 3 -/

/-- The state device 3 ends its chunks with. -/
def end3 (X : BlkC F) (w : Vec F S1024x1024 .bf16) (q : BlkC F) (s : St F) : St F :=
  (headsF scUs (projsF X w q) (Kof m (prv (prv 3))) (Vof m (prv (prv 3))) (headsF scUs (projsF X w q) (Kof m (nxt 3)) (Vof m (nxt 3)) (headsF scUs (projsF X w q) (Kof m (prv 3)) (Vof m (prv 3)) (midF X w q s (Kof m 3) (Vof m 3)))))

/-- The body's run on device 3. -/
theorem dev3_run (K : Dev nD × Fin 14 → ℕ) (X : BlkC F) (w wo : Vec F S1024x1024 .bf16) (q : BlkC F) (s : St F) (o : Vec F S2048x1024 .f32) :
    devIn m K 3 X w wo q s o
      ⊢ WP 3 (bodyG wqM woM oM) (fun _ => devOut m 3 X w wo (projsF X w q) (divsF (end3 m X w q s)) (outS wo o (end3 m X w q s))) := by
  have c1 : ¬ k0_cond1 (3 : Dev nD) = 1#1 := by decide
  have c2 : ¬ k0_cond2 (3 : Dev nD) = 1#1 := by decide
  have c4 : ¬ k0_cond4 (3 : Dev nD) = 1#1 := by decide
  have c5 : k0_cond5 (3 : Dev nD) = 1#1 := by decide
  have c6 : k0_cond6 (3 : Dev nD) = 1#1 := by decide
  have c7 : k0_cond7 (3 : Dev nD) = 1#1 := by decide
  have eO : O₀ (3 : Dev nD) = 0 := by unfold O₀ O₁; rw [if_neg (by decide), if_neg (by decide), if_neg (by decide), add_zero, add_zero]
  have eC : (all14 (cellAt (3 : Dev nD)) : sProp 𝕄) = iprop(zr (3, 0) ∗ zr (3, 1) ∗ zr (3, 2) ∗ at0 (3, 3) ∗ at0 (3, 4) ∗ at0 (3, 5) ∗ zr (3, 6) ∗ zr (3, 7) ∗ zr (3, 8) ∗ at0 (3, 9) ∗ at0 (3, 10) ∗ at0 (3, 11) ∗ zr (3, 12) ∗ zr (3, 13)) := rfl
  have eR : (credsP (3 : Dev nD) : sProp 𝕄) = iprop(crd (3, 3) ∗ crd (3, 4) ∗ crd (3, 5) ∗ crd (3, 9) ∗ crd (3, 10) ∗ crd (3, 11)) := rfl
  unfold bodyG
  rw [dev_bind]
  simp only [dif_neg c1, dif_neg c2, dif_neg c4, dif_pos c5, dif_pos c6, dif_pos c7, pure_bind]
  unfold devIn
  rw [eO, eC, eR, kv_split]
  unfold toksP slotsP slot kvP
  iintro ⟨#HR, #HL, HO, ⟨R3, R4, R5, R9, R10, R11⟩, ⟨Z0, Z1, Z2, A3, A4, A5, Z6, Z7, Z8, A9, A10, A11, Z12, Z13⟩, ⟨-, -, -, -, -, -, -, -, -, -, -, -⟩,
    ⟨-, -, -, -, -, -⟩, ⟨⟨KL, VL⟩, ⟨KA, VA⟩, KC, VC⟩, HQ, Hwo, Ho⟩
  iapply (mid_step 3 0 (above_zero _) X w q s fullShare.left fullShare.left (Kof m 3) (Vof m 3) _ _) $$ [HO HQ Z12 Z13 KL VL]
  · isplitr; · iexact HL
    isplitl [HO]; · iexact HO
    isplitl [HQ Z12 Z13]
    · rw [coreR_eq]
      isplitl [Z12]; · iexact Z12
      isplitl [Z13] <;> iassumption
    isplitl [KL] <;> iassumption
  iintro ⟨HO, HQ, KL, VL⟩
  iapply (seqW 3 (waitA_step m K 3 (by decide) 0 (above_zero _))) $$ [R3 R9 HO A3 A9]
  · isplitr; · iexact HR
    isplitr; · iexact HL
    isplitl [R3]; · iexact R3
    isplitl [R9]; · iexact R9
    isplitl [HO]; · iexact HO
    isplitl [A3] <;> iassumption
  iintro %_ ⟨HO, HP0, HP1, Z3, Z9⟩
  ihave HP0 := (land_split 3 ck0 _) $$ HP0
  icases HP0 with ⟨%g0, %e0, KS, KT⟩
  ihave HP1 := (land_split 3 cv0 _) $$ HP1
  icases HP1 with ⟨%g1, %e1, VS, VT⟩
  iapply (seqW 3 (chunk_step 3 0 (above_zero _) X w (projsF X w q) _ scUs ck0 cv0 ck0_we cv0_we fullShare.left fullShare.left g0 g1)) $$ [HO HQ KS VS]
  · isplitr; · iexact HL
    isplitl [HO]; · iexact HO
    isplitl [HQ]; · iexact HQ
    isplitl [KS] <;> iassumption
  rw [e0, e1]
  iintro %_ ⟨HO, HQ, -, -⟩
  iapply (seqW 3 (wait_chunk (above_zero _) X w (projsF X w q) _ scUs ck2 cv2 ck2_we cv2_we _ _ (waitC_step m K 3 (by decide) 0 (above_zero _)))) $$ [R5 R11 HO A5 A11 HQ]
  · isplitr; · iexact HL
    isplitr [HQ]
    · isplitr; · iexact HR
      isplitr; · iexact HL
      isplitl [R5]; · iexact R5
      isplitl [R11]; · iexact R11
      isplitl [HO]; · iexact HO
      isplitl [A5] <;> iassumption
    iexact HQ
  iintro %_ ⟨HO, HQ, Z5, Z11⟩
  iapply (seqW 3 (wait_chunk (above_zero _) X w (projsF X w q) _ scUs ck1 cv1 ck1_we cv1_we _ _ (waitB_step m K 3 (by decide) 0 (above_zero _)))) $$ [R4 R10 HO A4 A10 HQ]
  · isplitr; · iexact HL
    isplitr [HQ]
    · isplitr; · iexact HR
      isplitr; · iexact HL
      isplitl [R4]; · iexact R4
      isplitl [R10]; · iexact R10
      isplitl [HO]; · iexact HO
      isplitl [A4] <;> iassumption
    iexact HQ
  iintro %_ ⟨HO, HQ, Z4, Z10⟩
  iapply (wp_wand_r frame (wpE (defs₀ (F := F)) 𝒱₀ ((3 : Dev nD) : Thread nD τ) none) Set.univ)
  isplitl [HQ Hwo Ho]
  · iapply (tail_step 3 X w wo (projsF X w q) _ o)
    isplitl [HQ]; · iexact HQ
    isplitl [Hwo] <;> iassumption
  rw [coreR_eq]
  iintro %_ ⟨⟨Z12, Z13, HQ⟩, Hwo, Ho⟩
  unfold devOut all14 end3
  rw [kv_split]
  unfold kvP
  isplitl [HO]; · iexact HO
  isplitl [Z0 Z1 Z2 Z3 Z4 Z5 Z6 Z7 Z8 Z9 Z10 Z11 Z12 Z13]
  · isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    isplitl [Z8]; · iexact Z8
    isplitl [Z9]; · iexact Z9
    isplitl [Z10]; · iexact Z10
    isplitl [Z11]; · iexact Z11
    isplitl [Z12]; · iexact Z12
    iexact Z13
  isplitl [KL VL KA VA KC VC]
  · isplitl [KL VL]; · isplitl [KL] <;> iassumption
    isplitl [KA VA]; · isplitl [KA] <;> iassumption
    isplitl [KC] <;> iassumption
  isplitl [HQ]; · iexact HQ
  isplitl [Hwo] <;> iassumption

end Cert.Proof

end
-- ==== Proof.Final.lean ====
module

public import proofs.«01_k».proof.Proof.Body
public import Idealize.ShloMosaic.Lib.WritesUnit

/-! What the kernel leaves, named without what the buffers held before, and the body's run on any device. -/

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

variable (m : (ℓ : Loc nD τ sig) → Buf (Elt F) ℓ)

theorem zero2 : (![0, 0] : Fin 2 → ℕ) = fun _ => 0 := by funext a; fin_cases a <;> rfl

/-- A store over a whole buffer leaves the stored value. -/
theorem writes_all {Val : EltTy → Type} (b : Ref sig .tc) (f w : b.ty.Contents Val) {off : Fin b.ty.shape.rank → ℕ} (ho : off = fun _ => 0)
    (inb : ∀ a, off a + b.ty.shape.size a ≤ b.ty.shape.size a) :
    (Memref.whole b).view.writes Val f [⟨Rect.unit off b.ty.shape.size inb, w⟩] = w :=
  Memref.write_access_unit_zero_univ Val b ho inb f w

/-- A store of whole rows, element by element. -/
theorem writes_rows {d : Fin 2 → ℕ} {Val : EltTy → Type} {sp : Space} {e : EltTy} (v : View sig .tc sp ⟨2, d⟩ e) (f : v.ty.Contents Val)
    (o W : ℕ) {size : Fin 2 → ℕ} (hW : size (0 : Fin 2) = W) (hD : size (1 : Fin 2) = d (1 : Fin 2)) (inb : ∀ a : Fin 2, (![o, 0] : Fin 2 → ℕ) a + size a ≤ d a)
    (w : (Rect.unit (s := ⟨2, d⟩) ![o, 0] size inb).shape.Idx → Val e) (y : (⟨2, d⟩ : Shape).Idx) :
    v.read Val (v.writes Val f [⟨Rect.unit (s := ⟨2, d⟩) ![o, 0] size inb, w⟩]) y
      = if h : o ≤ (y (0 : Fin 2)).val ∧ (y (0 : Fin 2)).val < o + W then
          w (Rect.unitLocal (s := ⟨2, d⟩) (off := ![o, 0]) (size := size) y (Rect.unit_rows_mem y hW hD h))
        else v.read Val f y :=
  View.read_writes_cons_rows v f inb w [] y rfl hW hD

/-- A tile of the queries, element by element. -/
theorem projF_apply (X : BlkC F) (w : Vec F S1024x1024 .bf16) (q : BlkC F) (o : ℕ)
    (hi : ∀ a, (![o, 0] : Fin 2 → ℕ) a + S512x1024.size a ≤ S2048x1024.size a) (y : S2048x1024.Idx) :
    projF o hi X w q y = if h : o ≤ (y (0 : Fin 2)).val ∧ (y (0 : Fin 2)).val < o + 512 then
        projV w ((xM.slice (Rect.unit (s := S2048x1024) ![o, 0] S512x1024.size hi) (fun _ => rfl)).view.read (Elt F) X)
          (Rect.unitLocal (s := S2048x1024) (off := ![o, 0]) (size := S512x1024.size) y (Rect.unit_rows_mem y rfl rfl h))
      else q y := by
  have h := writes_rows (Val := Elt F) qM.view q o 512 (size := S512x1024.size) rfl rfl hi (projV w ((xM.slice (Rect.unit (s := S2048x1024) ![o, 0] S512x1024.size hi) (fun _ => rfl)).view.read (Elt F) X)) y
  unfold projF
  exact Eq.trans (congrFun (View.read_whole (Val := Elt F) cc0_scratch0 _).symm y) h

/-- Two tiles' stores agree at an element where the buffers do, or that the tile covers. -/
theorem projF_same (X : BlkC F) (w : Vec F S1024x1024 .bf16) (q q' : BlkC F) (o : ℕ)
    (hi : ∀ a, (![o, 0] : Fin 2 → ℕ) a + S512x1024.size a ≤ S2048x1024.size a) (y : S2048x1024.Idx)
    (h : ¬(o ≤ (y (0 : Fin 2)).val ∧ (y (0 : Fin 2)).val < o + 512) → q y = q' y) : projF o hi X w q y = projF o hi X w q' y := by
  rw [projF_apply X w q, projF_apply X w q']
  by_cases hh : o ≤ (y (0 : Fin 2)).val ∧ (y (0 : Fin 2)).val < o + 512
  · rw [dif_pos hh, dif_pos hh]
  · rw [dif_neg hh, dif_neg hh]; exact h hh

/-- The queries don't depend on what their buffer held. -/
theorem projsF_indep (X : BlkC F) (w : Vec F S1024x1024 .bf16) (q q' : BlkC F) : projsF X w q = projsF X w q' := by
  funext y
  have hy : (y (0 : Fin 2)).val < 2048 := (y (0 : Fin 2)).isLt
  unfold projsF
  refine projF_same X w _ _ _ _ y fun h3 => projF_same X w _ _ _ _ y fun h2 => projF_same X w _ _ _ _ y fun h1 => projF_same X w _ _ _ _ y fun h0 => ?_
  omega

/-- Nor the initial state on what its buffers held. -/
theorem initF_indep (s s' : St F) : initF s = initF s' := by
  have hc := (writes_all (Val := Elt F) cc0_scratch1 s.c (shapeCast S2048x1024 (broadcast S2048x1024 (Scalar.ofBits .f32 0x00000000#32 : F .f32)) shapeCasts_S2048x1024_S2048x1024) zero2 inb_S2048x1024_S2048x1024_0_0).trans
    (writes_all (Val := Elt F) cc0_scratch1 s'.c _ zero2 inb_S2048x1024_S2048x1024_0_0).symm
  have hm := (writes_all (Val := Elt F) cc0_scratch2 s.m (shapeCast S2048x8 (broadcast S2048x8 (Scalar.ofBits .f32 0xF149F2CA#32 : F .f32)) shapeCasts_S2048x8_S2048x8) zero2 inb_S2048x8_S2048x8_0_0).trans
    (writes_all (Val := Elt F) cc0_scratch2 s'.m _ zero2 inb_S2048x8_S2048x8_0_0).symm
  have hl := (writes_all (Val := Elt F) cc0_scratch3 s.l (shapeCast S2048x8 (broadcast S2048x8 (Scalar.ofBits .f32 0x00000000#32 : F .f32)) shapeCasts_S2048x8_S2048x8) zero2 inb_S2048x8_S2048x8_0_0).trans
    (writes_all (Val := Elt F) cc0_scratch3 s'.l _ zero2 inb_S2048x8_S2048x8_0_0).symm
  unfold initF
  exact (St.mk.injEq ..).mpr ⟨hc, hm, hl⟩

/-- The output product's buffer holds the product. -/
theorem outS_eq (wo : Vec F S1024x1024 .bf16) (o : Vec F S2048x1024 .f32) (s : St F) : outS wo o s = outF wo (divsF s) := by
  have h := writes_all (Val := Elt F) cc0_stg2_0 o (outF wo (divsF s)) zero2 inb_S2048x1024_S2048x1024_0_0
  unfold outS
  exact h

/-- The queries of a device's rows. -/
def qOf (X : BlkC F) (w : Vec F S1024x1024 .bf16) : BlkC F := projsF X w X

/-- The state before the chunks. -/
def st0 : St F := initF ⟨fun _ => Scalar.ofBits .f32 0, fun _ => Scalar.ofBits .f32 0, fun _ => Scalar.ofBits .f32 0⟩

/-- A chunk from device `e`, taken where `p` holds. -/
def addChunk (p : Prop) [Decidable p] (e : Dev nD) (q : BlkC F) (s : St F) : St F :=
  if p then headsF scUs q (Kof m e) (Vof m e) s else s

/-- The state after the chunks of device `d`: its own, masked; then its left neighbour's, then device 0's on device 3,
    then the one forwarded. -/
def endS (d : Dev nD) (X : BlkC F) (w : Vec F S1024x1024 .bf16) : St F :=
  addChunk m (2 ≤ d.val) (prv (prv d)) (qOf X w) <| addChunk m (d.val = 3) (nxt d) (qOf X w) <| addChunk m (1 ≤ d.val) (prv d) (qOf X w) <|
    headsF scMs (qOf X w) (Kof m d) (Vof m d) st0

theorem midF_eq (X : BlkC F) (w : Vec F S1024x1024 .bf16) (q : BlkC F) (s : St F) (k v : BlkC F) :
    midF X w q s k v = headsF scMs (qOf X w) k v st0 := by
  unfold midF qOf st0
  rw [projsF_indep X w q X, initF_indep s]

theorem end0_eq (X : BlkC F) (w : Vec F S1024x1024 .bf16) (q : BlkC F) (s : St F) : end0 m X w q s = endS m 0 X w := by
  unfold end0 endS addChunk; rw [midF_eq, if_neg (by decide), if_neg (by decide), if_neg (by decide)]
theorem end1_eq (X : BlkC F) (w : Vec F S1024x1024 .bf16) (q : BlkC F) (s : St F) : end1 m X w q s = endS m 1 X w := by
  unfold end1 endS addChunk; rw [midF_eq, projsF_indep X w q X, if_neg (by decide), if_neg (by decide), if_pos (by decide)]; rfl
theorem end2_eq (X : BlkC F) (w : Vec F S1024x1024 .bf16) (q : BlkC F) (s : St F) : end2 m X w q s = endS m 2 X w := by
  unfold end2 endS addChunk; rw [midF_eq, projsF_indep X w q X, if_pos (by decide), if_neg (by decide), if_pos (by decide)]; rfl
theorem end3_eq (X : BlkC F) (w : Vec F S1024x1024 .bf16) (q : BlkC F) (s : St F) : end3 m X w q s = endS m 3 X w := by
  unfold end3 endS addChunk; rw [midF_eq, projsF_indep X w q X, if_pos (by decide), if_pos (by decide), if_pos (by decide)]; rfl

/-- A device's rows of the result. -/
def outD (d : Dev nD) (X : BlkC F) (w wo : Vec F S1024x1024 .bf16) : Vec F S2048x1024 .f32 := outF wo (divsF (endS m d X w))

/-- The body's run on any device. -/
theorem dev_run (K : Dev nD × Fin 14 → ℕ) (d : Dev nD) (X : BlkC F) (w wo : Vec F S1024x1024 .bf16) (q : BlkC F) (s : St F) (o : Vec F S2048x1024 .f32) :
    devIn m K d X w wo q s o
      ⊢ WP d (bodyG wqM woM oM) (fun _ => devOut m d X w wo (qOf X w) (divsF (endS m d X w)) (outD m d X w wo)) := by
  rcases (show d = 0 ∨ d = 1 ∨ d = 2 ∨ d = 3 by revert d; decide) with rfl | rfl | rfl | rfl
  · have h := dev0_run m K X w wo q s o
    rw [outS_eq, end0_eq, projsF_indep X w q X] at h; exact h
  · have h := dev1_run m K X w wo q s o
    rw [outS_eq, end1_eq, projsF_indep X w q X] at h; exact h
  · have h := dev2_run m K X w wo q s o
    rw [outS_eq, end2_eq, projsF_indep X w q X] at h; exact h
  · have h := dev3_run m K X w wo q s o
    rw [outS_eq, end3_eq, projsF_indep X w q X] at h; exact h

end Cert.Proof

end
-- ==== Proof.Deal.lean ====
module

public import proofs.«01_k».proof.Proof.Final
public import Idealize.ShloMosaic.Lib.ReshapeSlab

/-! What the launch deals the devices: the ring's cells, their tokens carried to the devices that pay them, the slots of
    the landing buffers carried to the devices that write them. -/

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

variable (m : (ℓ : Loc nD τ sig) → Buf (Elt F) ℓ)

/-! ## The slots -/

/-- Three pairwise disjoint slots cut out of a buffer. -/
theorem slots_cut {ℓ : Loc nD τ sig} (f : Buf (Elt F) ℓ) (A B C : Finset (Idx ℓ)) (hAB : Disjoint A B) (hAC : Disjoint A C) (hBC : Disjoint B C) :
    (ℓ ↦{fullShare} f : sProp 𝕄) ⊢ iprop((ℓ ↦[A]{fullShare} f) ∗ (ℓ ↦[B]{fullShare} f) ∗ (ℓ ↦[C]{fullShare} f)) := by
  have e1 := (pointsTo_split_subset (Ix := Unit) (Name := ℕ) (U := UU nD τ) (Lvl := ℕ) (ℓ := ℓ) (q := fullShare) (f := f) (Finset.subset_univ A)).1
  have e2 := (pointsTo_split_subset (Ix := Unit) (Name := ℕ) (U := UU nD τ) (Lvl := ℕ) (ℓ := ℓ) (q := fullShare) (f := f) (S := Finset.univ \ A) (I := B)
    (fun x hx => Finset.mem_sdiff.mpr ⟨Finset.mem_univ _, fun h => (Finset.disjoint_left.mp hAB h hx)⟩)).1
  have e3 := (pointsTo_split_subset (Ix := Unit) (Name := ℕ) (U := UU nD τ) (Lvl := ℕ) (ℓ := ℓ) (q := fullShare) (f := f) (S := (Finset.univ \ A) \ B) (I := C)
    (fun x hx => Finset.mem_sdiff.mpr ⟨Finset.mem_sdiff.mpr ⟨Finset.mem_univ _, fun h => (Finset.disjoint_left.mp hAC h hx)⟩, fun h => (Finset.disjoint_left.mp hBC h hx)⟩)).1
  iintro H
  ihave H1 := e1 $$ H
  icases H1 with ⟨HA, H1⟩
  ihave H2 := e2 $$ H1
  icases H2 with ⟨HB, H2⟩
  ihave H3 := e3 $$ H2
  icases H3 with ⟨HC, -⟩
  isplitl [HA]; · iexact HA
  isplitl [HB] <;> iassumption

/-- Two slots of a buffer apart on one axis share no element. -/
theorem slots_apart {sp : Space} {s t : Shape} {e : EltTy} (v : View sig .tc sp s e) (r₁ r₂ : Rect s) (a : Fin s.rank) (h₁ : r₁.stride a = 1) (h₂ : r₂.stride a = 1)
    (hsep : r₁.off a + r₁.size a ≤ r₂.off a ∨ r₂.off a + r₂.size a ≤ r₁.off a) (n₁ : t.numel = r₁.shape.numel) (n₂ : t.numel = r₂.shape.numel) :
    Disjoint ((v.slice r₁).reshape t n₁).set ((v.slice r₂).reshape t n₂).set :=
  (View.disjoint_slice_of_sep v r₁ r₂ a h₁ h₂ hsep).mono (le_of_eq (View.set_reshape (v.slice r₁) n₁)) (le_of_eq (View.set_reshape (v.slice r₂) n₂))

theorem ck01 : Disjoint ck0.view.set ck1.view.set := by
  exact slots_apart _ _ _ (0 : Fin 3) rfl rfl (Or.inl (by decide)) _ _
theorem ck02 : Disjoint ck0.view.set ck2.view.set := by
  exact slots_apart _ _ _ (0 : Fin 3) rfl rfl (Or.inl (by decide)) _ _
theorem ck12 : Disjoint ck1.view.set ck2.view.set := by
  exact slots_apart _ _ _ (0 : Fin 3) rfl rfl (Or.inl (by decide)) _ _
theorem cv01 : Disjoint cv0.view.set cv1.view.set := by
  exact slots_apart _ _ _ (0 : Fin 3) rfl rfl (Or.inl (by decide)) _ _
theorem cv02 : Disjoint cv0.view.set cv2.view.set := by
  exact slots_apart _ _ _ (0 : Fin 3) rfl rfl (Or.inl (by decide)) _ _
theorem cv12 : Disjoint cv1.view.set cv2.view.set := by
  exact slots_apart _ _ _ (0 : Fin 3) rfl rfl (Or.inl (by decide)) _ _

/-- A device's own slots. -/
def slotsOwn (d : Dev nD) : sProp 𝕄 :=
  iprop(slot d ck0 ∗ slot d cv0 ∗ slot d ck1 ∗ slot d cv1 ∗ slot d ck2 ∗ slot d cv2)

/-- A device's buffers outside the kernel: the arguments as they are, and the slots. -/
theorem rest_split (c : Dev nD) : restBufs m c ⊢ (iprop(keptArgs m c ∗ slotsOwn c) : sProp 𝕄) := by
  unfold restBufs keptArgs slotsOwn slot
  rw [unscopedRest0_eq]
  iintro ⟨H0, H2, H3, HK, HV⟩
  ihave HK' := (slots_cut (ℓ := (c : Thread nD τ).loc main_v1_1) (m ((c : Thread nD τ).loc main_v1_1)) ck0.view.set ck1.view.set ck2.view.set ck01 ck02 ck12) $$ HK
  ihave HV' := (slots_cut (ℓ := (c : Thread nD τ).loc main_v1_2) (m ((c : Thread nD τ).loc main_v1_2)) cv0.view.set cv1.view.set cv2.view.set cv01 cv02 cv12) $$ HV
  icases HK' with ⟨K0, K1, K2⟩
  icases HV' with ⟨V0, V1, V2⟩
  isplitl [H0 H2 H3]
  · isplitl [H0]; · iexact H0
    isplitl [H2] <;> iassumption
  isplitl [K0]; · iexists (m ((c : Thread nD τ).loc main_v1_1)); iexact K0
  isplitl [V0]; · iexists (m ((c : Thread nD τ).loc main_v1_2)); iexact V0
  isplitl [K1]; · iexists (m ((c : Thread nD τ).loc main_v1_1)); iexact K1
  isplitl [V1]; · iexists (m ((c : Thread nD τ).loc main_v1_2)); iexact V1
  isplitl [K2]; · iexists (m ((c : Thread nD τ).loc main_v1_1)); iexact K2
  iexists (m ((c : Thread nD τ).loc main_v1_2)); iexact V2

/-- A family over the devices, handed one to the left, -/
theorem around_nxt (Φ : Dev nD → sProp 𝕄) : bigSep Finset.univ Φ = bigSep Finset.univ fun c => Φ (nxt c) := bigSep_univ_equiv ring Φ
/-- or one to the right. -/
theorem around_prv (Φ : Dev nD → sProp 𝕄) : bigSep Finset.univ Φ = bigSep Finset.univ fun c => Φ (prv c) := bigSep_univ_equiv ring.symm Φ

/-- The slots, handed to the devices that write them. -/
theorem slots_around : (bigSep Finset.univ fun c : Dev nD => (slotsOwn c : sProp 𝕄)) ⊢ bigSep Finset.univ fun c : Dev nD => slotsP c := by
  unfold slotsOwn slotsP
  simp only [bigSep_sep']
  rw [around_nxt fun c => slot c ck0, around_nxt fun c => slot c cv0, around_nxt fun c => slot c ck1, around_nxt fun c => slot c cv1,
    around_prv fun c => slot c ck2, around_prv fun c => slot c cv2]

/-! ## The tokens -/

/-- A device's own tokens. -/
def toks (c : Dev nD) : sProp 𝕄 := all14 fun k => tok (c, k)

/-- The tokens, handed to the devices that pay with them. -/
theorem toks_around : (bigSep Finset.univ fun c : Dev nD => (toks c : sProp 𝕄)) ⊢ bigSep Finset.univ fun c : Dev nD => toksP c := by
  unfold toks toksP all14
  simp only [bigSep_sep']
  rw [around_nxt fun c => tok (c, 3), around_nxt fun c => tok (c, 4), around_nxt fun c => tok (c, 9), around_nxt fun c => tok (c, 10),
    around_prv fun c => tok (c, 5), around_prv fun c => tok (c, 11)]
  iintro ⟨T0, T1, T2, T3, T4, T5, T6, T7, T8, T9, T10, T11, -, -⟩
  isplitl [T0]; · iexact T0
  isplitl [T1]; · iexact T1
  isplitl [T2]; · iexact T2
  isplitl [T6]; · iexact T6
  isplitl [T7]; · iexact T7
  isplitl [T8]; · iexact T8
  isplitl [T3]; · iexact T3
  isplitl [T4]; · iexact T4
  isplitl [T9]; · iexact T9
  isplitl [T10]; · iexact T10
  isplitl [T5]; · iexact T5
  iexact T11

/-! ## The launch element and the common step -/

/-- One duty on each of a device's cells. -/
abbrev duties : Dev nD → Finset (Fin 14 × ℕ × Unit) := fun _ => Finset.univ.map ⟨fun k => (k, 0, ()), fun _ _ h => congrArg Prod.fst h⟩

/-- The launch element. -/
def u₀ : UU nD τ :=
  (initOf (Pipeline.cells cfgs cellOf_inj) (Pipeline.launchToks cfgs cellOf_inj),
    (initOf (Pipeline.ownCells cfgs (0 : Fin 1) ownSemFacts) (Pipeline.ownToksOf cfgs (0 : Fin 1) ownSemFacts duties), 1))

theorem ownU_split (a b : UR nD τ) : (ownU ((a, (b, 1)) : UU nD τ) : sProp 𝕄) ⊢ iprop(BI.own (EP a) ∗ BI.own (ER b)) :=
  BI.own_op_elim ((uEmb (nD := nD) (sig := sig) (Ix := Unit) (Val := Elt F) (Name := ℕ) (U := UU nD τ) (Lvl := ℕ)).toEmb.op_of_mem
    (Prod.mk_mem_op (URA.mem_op_one a) (URA.mem_one_op (b, (1 : Counters)))))

/-- What the launch element deals a device. -/
def G (c : Dev nD) : sProp 𝕄 := iprop(Pipeline.ownGhost cfgs (0 : Fin 1) ownSemFacts ER (Rd m) c ∗ toks c)

theorem toks_eq (c : Dev nD) :
    (bigSep (duties c) fun x => (dutyTok ER ((c : Thread nD τ), osem x.1) x.2.1 x.2.2 : sProp 𝕄)) = toks c := by
  unfold toks; rw [← bigSep_14, bigSep_map]; rfl

theorem deal : (ownU u₀ : sProp 𝕄) ⊢ |={Set.univ}=> iprop(BI.own (EP (initOf (Pipeline.cells cfgs cellOf_inj) (Pipeline.launchToks cfgs cellOf_inj)))
    ∗ bigSep Finset.univ (G m)) := by
  unfold u₀
  iintro Hu
  ihave H := (ownU_split _ _) $$ Hu
  icases H with ⟨HP, HX⟩
  imod (Pipeline.fund_own cfgs (0 : Fin 1) ownSemFacts ER (Rd m) (Pipeline.ownToksOf cfgs (0 : Fin 1) ownSemFacts duties)) $$ HX with ⟨Hx, Htok⟩
  ihave Htk := (Entails.of_eq (Pipeline.bigSep_ownToksOf cfgs (0 : Fin 1) ownSemFacts ER duties)) $$ Htok
  imodintro
  isplitl [HP]; · iexact HP
  unfold G; rw [bigSep_sep', ← bigSep_congr (s := Finset.univ) fun (c : Dev nD) _ => toks_eq (F := F) c]
  isplitl [Hx] <;> iassumption

/-- What a device starts from. -/
def X₀ (c : Dev nD) : sProp 𝕄 :=
  iprop(∃ K, records m K ∗ (bigSep Finset.univ fun k : Fin 14 => at0 (c, k)) ∗ toksP c ∗ slotsP c ∗ keptArgs m c)

/-- A device's cells allocated, its buffers cut. -/
theorem core_alloc (c : Dev nD) :
    iprop((Pipeline.ownSems0 osem c ∗ restBufs m c) ∗ G m c)
      ⊢ |={Set.univ}=> (iprop((bigSep Finset.univ fun k => iprop(∃ κ : ℕ, cellInv ER (Rd m) κ (kcell (c, k))))
          ∗ (bigSep Finset.univ fun k => iprop(at0 (c, k) ∗ reached ER (kcell (c, k)) 0)) ∗ toks c ∗ keptArgs m c ∗ slotsOwn c) : sProp 𝕄) := by
  unfold G
  rw [Pipeline.ownGhost_eq]
  iintro ⟨⟨Hos, Hb⟩, ⟨Hst, Hat⟩, Htok⟩
  ihave Hs := (rest_split m c) $$ Hb
  icases Hs with ⟨Ha, Hs⟩
  imod (Pipeline.ownCells_alloc cfgs (0 : Fin 1) ownSemFacts ER (Rd m) c) $$ [Hos Hst] with Hinv
  · isplitl [Hos] <;> iassumption
  imodintro
  isplitl [Hinv]; · iexact Hinv
  isplitl [Hat]; · iexact Hat
  isplitl [Htok]; · iexact Htok
  isplitl [Ha] <;> iassumption

/-- A persistent assertion serves every device. -/
theorem share_out {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

/-- All of it regrouped. -/
theorem regroup :
    (bigSep Finset.univ fun c : Dev nD => iprop((bigSep Finset.univ fun k => iprop(∃ κ : ℕ, cellInv ER (Rd m) κ (kcell (c, k))))
          ∗ (bigSep Finset.univ fun k => iprop(at0 (c, k) ∗ reached ER (kcell (c, k)) 0)) ∗ toks c ∗ keptArgs m c ∗ slotsOwn c) : sProp 𝕄)
      ⊢ bigSep Finset.univ (X₀ m) := by
  rw [bigSep_sep', bigSep_sep', bigSep_sep', bigSep_sep', ← bigSep_univ_prod (fun ck : Dev nD × Fin 14 => iprop(∃ κ : ℕ, cellInv ER (Rd m) κ (kcell ck))),
    bigSep_congr (s := Finset.univ) (fun (c : Dev nD) _ => bigSep_sep' Finset.univ (fun k : Fin 14 => (at0 (c, k) : sProp 𝕄)) (fun k => reached ER (kcell (c, k)) 0)),
    bigSep_sep', ← bigSep_univ_prod (fun ck : Dev nD × Fin 14 => (reached ER (kcell ck) 0 : sProp 𝕄))]
  iintro ⟨HI, ⟨Hat, #HR⟩, Htok, Ha, Hs⟩
  ihave HK := (BI.bigSep_exists_pi Finset.univ (fun (ck : Dev nD × Fin 14) (κ : ℕ) => (cellInv ER (Rd m) κ (kcell ck) : sProp 𝕄))) $$ HI
  icases HK with ⟨%K, #HI⟩
  ihave Htk := (toks_around (F := F)) $$ Htok
  ihave Hsl := (slots_around (F := F)) $$ Hs
  iapply (share_out (R := records m K) (Φ := fun c => iprop((bigSep Finset.univ fun k : Fin 14 => (at0 (c, k) : sProp 𝕄)) ∗ toksP c ∗ slotsP c ∗ keptArgs m c))
    fun c => by unfold X₀; iintro H; iexists K; iexact H)
  isplitr
  · unfold records; isplitl; · iexact HI
    iexact HR
  · rw [bigSep_sep', bigSep_sep', bigSep_sep']
    isplitl [Hat]; · iexact Hat
    isplitl [Htk]; · iexact Htk
    isplitl [Hsl] <;> iassumption

/-- The common step. -/
theorem glob : (bigSep Finset.univ fun c => iprop((Pipeline.ownSems0 osem c ∗ restBufs m c) ∗ G m c) : sProp 𝕄) ⊢ |={Set.univ}=> bigSep Finset.univ (X₀ m) :=
  ((bigSep_mono fun c _ => core_alloc m c).trans (bigSep_fupd _ _)).trans (BI.fupd_mono (regroup m))

end Cert.Proof

end
-- ==== Proof.Owed.lean ====
module

public import proofs.«01_k».proof.Proof.Deal

/-! The rights to wait that the launch gives each device, from what the devices owe. -/

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

/-- How many copies' credits device `d` owes a cell at launch. -/
def copies (d : Dev nD) (ck : Dev nD × Fin 14) : ℕ :=
  ((if d.val = 1 ∨ d.val = 2 then (if ck = (nxt d, 10) then 1 else 0) + (if ck = (nxt d, 4) then 1 else 0) else 0)
    + (if d.val = 0 then (if ck = (prv d, 11) then 1 else 0) + (if ck = (prv d, 5) then 1 else 0) else 0))
    + (if d.val < 3 then (if ck = (nxt d, 9) then 1 else 0) + (if ck = (nxt d, 3) then 1 else 0) else 0)

theorem kcell_inj {a b : Dev nD × Fin 14} (h : kcell a = kcell b) : a = b := by
  have h1 : a.1 = b.1 := congrArg (fun g : GSem nD τ sig => g.1.1) h
  have h2 : a.2.val + 3 = b.2.val + 3 := congrArg (fun g : GSem nD τ sig => semIx g.2) h
  exact Prod.ext h1 (Fin.ext (by omega))

theorem tally_kcell (a b : Dev nD × Fin 14) (n : ℕ) : (tallyAt (kcell a) () n : CellTallies nD τ sig Unit) (kcell b) () = (if b = a then 1 else 0) * n := by
  rw [tallyAt_apply]
  by_cases h : b = a
  · subst h; rw [if_pos ⟨rfl, rfl⟩, if_pos rfl, Nat.one_mul]
  · rw [if_neg fun h' => h (kcell_inj h'.1), if_neg h, Nat.zero_mul]

theorem two_tallies (a b ck : Dev nD × Fin 14) (n : ℕ) :
    (tallyAt (kcell a) () n + tallyAt (kcell b) () n : CellTallies nD τ sig Unit) (kcell ck) () = ((if ck = a then 1 else 0) + (if ck = b then 1 else 0)) * n := by
  rw [Pi.add_apply, Finsupp.add_apply, tally_kcell, tally_kcell, Nat.add_mul]

theorem ite_tally (p : Prop) [Decidable p] (T : CellTallies nD τ sig Unit) (ck : Dev nD × Fin 14) (k n : ℕ) (h : T (kcell ck) () = k * n) :
    (if p then T else 0) (kcell ck) () = (if p then k else 0) * n := by
  by_cases hp : p
  · rw [if_pos hp, if_pos hp, h]
  · rw [if_neg hp, if_neg hp, Nat.zero_mul]; rfl

theorem O₀_at (d : Dev nD) (ck : Dev nD × Fin 14) : O₀ d (kcell ck) () = copies d ck * N := by
  unfold O₀ O₁ tA tB tC copies
  rw [Pi.add_apply, Finsupp.add_apply, Pi.add_apply, Finsupp.add_apply, Nat.add_mul, Nat.add_mul,
    ite_tally _ _ _ _ _ (two_tallies _ _ _ _), ite_tally _ _ _ _ _ (two_tallies _ _ _ _), ite_tally _ _ _ _ _ (two_tallies _ _ _ _)]

/-- Over all devices every receive that is used is owed one copy's credit. -/
theorem copies_sum : ∀ (c : Dev nD) (k : Fin 14), (k.val = 3 ∨ k.val = 4 ∨ k.val = 5 ∨ k.val = 9 ∨ k.val = 10 ∨ k.val = 11) → used c (k.val + 3) = true →
    (∑ d : Dev nD, copies d (c, k)) = 1 := by decide

theorem launch_at (c : Dev nD) (k : Fin 14) (hk : k.val = 3 ∨ k.val = 4 ∨ k.val = 5 ∨ k.val = 9 ∨ k.val = 10 ∨ k.val = 11) (u : used c (k.val + 3) = true) :
    tallyOn (kcell (c, k)) (launchCredit (Pipeline.owing O₀) 0 (kcell (c, k))) = (tallyAt (kcell (c, k)) () N : CellTallies nD τ sig Unit) := by
  unfold tallyAt; refine congrArg _ (Finsupp.ext fun u => ?_); cases u
  rw [Pipeline.launchCredit_owing, Finsupp.single_eq_same, Finset.sum_congr rfl fun d _ => O₀_at d (c, k), ← Finset.sum_mul, copies_sum c k hk u, Nat.one_mul]

theorem cred_at (c : Dev nD) (k : Fin 14) (hk : k.val = 3 ∨ k.val = 4 ∨ k.val = 5 ∨ k.val = 9 ∨ k.val = 10 ∨ k.val = 11) :
    (cred (tallyOn (kcell (c, k)) (launchCredit (Pipeline.owing O₀) 0 (kcell (c, k)))) : sProp 𝕄) ⊢ credAt c k := by
  unfold credAt
  cases h : used c (k.val + 3)
  · iintro -; iempintro
  · rw [launch_at c k hk h]; exact .rfl

/-- A device's rights to wait on its receives. -/
theorem creds (c : Dev nD) : (Pipeline.launchCred O₀ c : sProp 𝕄) ⊢ credsP c := by
  have h : (Pipeline.launchCred O₀ c : sProp 𝕄) ⊢ all14 fun k => cred (tallyOn (kcell (c, k)) (launchCredit (Pipeline.owing O₀) 0 (kcell (c, k)))) := by
    unfold Pipeline.launchCred
    refine (BI.bigSep_subset (Finset.subset_univ ((Finset.univ : Finset (Fin 14)).map ⟨osem, fun a b h => Fin.ext (by
      have := congrArg semIx h; rw [semIx_osem, semIx_osem] at this; omega)⟩))).trans ?_
    rw [bigSep_map, bigSep_14]
    exact BI.Entails.refl _
  refine h.trans ?_
  unfold all14 credsP
  iintro ⟨-, -, -, H3, H4, H5, -, -, -, H9, H10, H11, -, -⟩
  isplitl [H3]; · iapply (cred_at c 3 (by decide)); iexact H3
  isplitl [H4]; · iapply (cred_at c 4 (by decide)); iexact H4
  isplitl [H5]; · iapply (cred_at c 5 (by decide)); iexact H5
  isplitl [H9]; · iapply (cred_at c 9 (by decide)); iexact H9
  isplitl [H10]; · iapply (cred_at c 10 (by decide)); iexact H10
  iapply (cred_at c 11 (by decide)); iexact H11

end Cert.Proof

end
-- ==== Proof.BodyEq.lean ====
module

public import proofs.«01_k».proof.Proof.Prog

/-! The printed body is the composition of the named pieces: part by part, then on each device. -/

@[expose] public section

noncomputable section

namespace Cert.Proof

open Cert.KernelIdeal Cert.KernelIdeal.Gen
open Idealize.ShloMosaic
open Idealize.ShloMosaic.TcCoe
open Idealize.SL Idealize.SL.RA Idealize.SL.BI
open Idealize.SL.Sem
variable {F : FTy → Type} [FloatOps F] [Named F]

/-- The device's place in the ring, as the word the kernel computes. -/
abbrev w2 (d0 : Dev nD) : BitVec 32 := Scalar.remsi (Scalar.divsi (Dev.word d0) 1#32) 4#32
/-- The right neighbour's place. -/
abbrev w4 (d0 : Dev nD) : BitVec 32 := Scalar.remsi (Scalar.addi (w2 d0) 1#32) 4#32
/-- The left neighbour's place. -/
abbrev w6 (d0 : Dev nD) : BitVec 32 := Scalar.remsi (Scalar.addi (w2 d0) 3#32) 4#32

/-- What the first part does after the device's number is read. -/
def rest23 (a1 : Memref sig .tc .vmem S1024x1024 .bf16) (d0 : Dev nD) :
    PG F (Σ' (d0 : Dev nD) (v2 : BitVec 32) (v4 : BitVec 32) (v6 : BitVec 32) (v19 : Vec F S512x1024 .bf16) (v21 : FVec F S1024x1024 .bf16), FVec F S512x1024 .f32) := do
  if h : k0_cond1 d0 = 1#1 then sendA d0 h else pure ⟨⟩
  if h : k0_cond2 d0 = 1#1 then sendC d0 h else pure ⟨⟩
  Prog.lift (.enqueueDma (xM.slice (Rect.unit (s := S2048x1024) ![0, 0] S512x1024.size inb_S2048x1024_S512x1024_0_0) (fun _ => rfl)) (.here tM) (.dma lS0) ((Memref.isWhole_whole main_arg0 : xM.IsWhole).wordExact_slice rfl _ wordsbf16_S2048x1024_S512x1024_0_0) (Memref.isWhole_whole _).wordExact ⟨Or.inl rfl, trivial⟩)
  Prog.lift (.waitDma2 lS0 (xM.slice (Rect.unit (s := S2048x1024) ![0, 0] S512x1024.size inb_S2048x1024_S512x1024_0_0) (fun _ => rfl)) tM ((Memref.isWhole_whole main_arg0 : xM.IsWhole).wordExact_slice rfl _ wordsbf16_S2048x1024_S512x1024_0_0) (Memref.isWhole_whole _).wordExact)
  let x : Vec F S512x1024 .bf16 ← Prog.lift (.load tM (Rect.unit (s := S512x1024) ![0, 0] S512x1024.size inb_S512x1024_S512x1024_0_0).toLoadRect (View.loadsAt_vmem h_S512x1024))
  let wq : Vec F S1024x1024 .bf16 ← Prog.lift (.load a1 (Rect.unit (s := S1024x1024) ![0, 0] S1024x1024.size inb_S1024x1024_S1024x1024_0_0).toLoadRect (View.loadsAt_vmem h_S1024x1024))
  pure ⟨d0, w2 d0, w4 d0, w6 d0, x, shapeCast S1024x1024 wq shapeCasts_S1024x1024_S1024x1024, constant S512x1024 .f32 0x00000000#32⟩

set_option maxRecDepth 65536 in
/-- The first part reads the device's number and goes on. -/
theorem part23_eq (a1 a4 : Memref sig .tc .vmem S1024x1024 .bf16) (h1 : a1.IsWhole) (h4 : a4.IsWhole) (a5 : Memref sig .tc .vmem S2048x1024 .f32) (ha5 : a5.IsWhole) :
  k0_part23 (F := F) (Memref.whole main_arg0) (Memref.isWhole_whole _) a1 h1 (Memref.whole main_arg2) (Memref.isWhole_whole _) (Memref.whole main_arg3) (Memref.isWhole_whole _) a4 h4 a5 ha5 (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 = (Prog.lift .deviceId >>= fun d0 => rest23 a1 d0) := by
  rw [k0_part23_eq_skeleton]
  unfold k0_part23_skel rest23
  refine congrArg (bind _) (funext fun d0 => ?_)
  rcases (show d0 = 0 ∨ d0 = 1 ∨ d0 = 2 ∨ d0 = 3 by revert d0; decide) with rfl | rfl | rfl | rfl
  · have c1 : k0_cond1 (0 : Dev nD) = 1#1 := by decide
    have c2 : k0_cond2 (0 : Dev nD) = 1#1 := by decide
    have c4 : ¬ k0_cond4 (0 : Dev nD) = 1#1 := by decide
    have c5 : ¬ k0_cond5 (0 : Dev nD) = 1#1 := by decide
    have c6 : ¬ k0_cond6 (0 : Dev nD) = 1#1 := by decide
    have c7 : ¬ k0_cond7 (0 : Dev nD) = 1#1 := by decide
    have r1 : Scalar.cmpi .ne (Scalar.extui (Scalar.cmpi .slt (w2 0) 3#32) : BitVec 32) 0#32 = 1#1 := c1
    have r2 : Scalar.cmpi .ne (Scalar.extui (Scalar.cmpi .eq (w2 0) 0#32) : BitVec 32) 0#32 = 1#1 := c2
    have r4 : ¬ Scalar.cmpi .ne (Scalar.extui (Scalar.andi (Scalar.cmpi .sge (w2 0) 1#32) (Scalar.cmpi .sle (w2 0) 2#32)) : BitVec 32) 0#32 = 1#1 := c4
    have r5 : ¬ Scalar.cmpi .ne (Scalar.extui (Scalar.cmpi .sge (w2 0) 1#32) : BitVec 32) 0#32 = 1#1 := c5
    simp only [sendA, sendC, c1, c2, c4, c5, c6, c7, r1, r2, r4, r5, dite_true, dite_false, bind_assoc, pure_bind]
    rfl
  · have c1 : k0_cond1 (1 : Dev nD) = 1#1 := by decide
    have c2 : ¬ k0_cond2 (1 : Dev nD) = 1#1 := by decide
    have c4 : k0_cond4 (1 : Dev nD) = 1#1 := by decide
    have c5 : k0_cond5 (1 : Dev nD) = 1#1 := by decide
    have c6 : ¬ k0_cond6 (1 : Dev nD) = 1#1 := by decide
    have c7 : ¬ k0_cond7 (1 : Dev nD) = 1#1 := by decide
    have r1 : Scalar.cmpi .ne (Scalar.extui (Scalar.cmpi .slt (w2 1) 3#32) : BitVec 32) 0#32 = 1#1 := c1
    have r2 : ¬ Scalar.cmpi .ne (Scalar.extui (Scalar.cmpi .eq (w2 1) 0#32) : BitVec 32) 0#32 = 1#1 := c2
    have r4 : Scalar.cmpi .ne (Scalar.extui (Scalar.andi (Scalar.cmpi .sge (w2 1) 1#32) (Scalar.cmpi .sle (w2 1) 2#32)) : BitVec 32) 0#32 = 1#1 := c4
    have r5 : Scalar.cmpi .ne (Scalar.extui (Scalar.cmpi .sge (w2 1) 1#32) : BitVec 32) 0#32 = 1#1 := c5
    simp only [sendA, sendC, c1, c2, c4, c5, c6, c7, r1, r2, r4, r5, dite_true, dite_false, bind_assoc, pure_bind]
    rfl
  · have c1 : k0_cond1 (2 : Dev nD) = 1#1 := by decide
    have c2 : ¬ k0_cond2 (2 : Dev nD) = 1#1 := by decide
    have c4 : k0_cond4 (2 : Dev nD) = 1#1 := by decide
    have c5 : k0_cond5 (2 : Dev nD) = 1#1 := by decide
    have c6 : ¬ k0_cond6 (2 : Dev nD) = 1#1 := by decide
    have c7 : k0_cond7 (2 : Dev nD) = 1#1 := by decide
    have r1 : Scalar.cmpi .ne (Scalar.extui (Scalar.cmpi .slt (w2 2) 3#32) : BitVec 32) 0#32 = 1#1 := c1
    have r2 : ¬ Scalar.cmpi .ne (Scalar.extui (Scalar.cmpi .eq (w2 2) 0#32) : BitVec 32) 0#32 = 1#1 := c2
    have r4 : Scalar.cmpi .ne (Scalar.extui (Scalar.andi (Scalar.cmpi .sge (w2 2) 1#32) (Scalar.cmpi .sle (w2 2) 2#32)) : BitVec 32) 0#32 = 1#1 := c4
    have r5 : Scalar.cmpi .ne (Scalar.extui (Scalar.cmpi .sge (w2 2) 1#32) : BitVec 32) 0#32 = 1#1 := c5
    simp only [sendA, sendC, c1, c2, c4, c5, c6, c7, r1, r2, r4, r5, dite_true, dite_false, bind_assoc, pure_bind]
    rfl
  · have c1 : ¬ k0_cond1 (3 : Dev nD) = 1#1 := by decide
    have c2 : ¬ k0_cond2 (3 : Dev nD) = 1#1 := by decide
    have c4 : ¬ k0_cond4 (3 : Dev nD) = 1#1 := by decide
    have c5 : k0_cond5 (3 : Dev nD) = 1#1 := by decide
    have c6 : k0_cond6 (3 : Dev nD) = 1#1 := by decide
    have c7 : k0_cond7 (3 : Dev nD) = 1#1 := by decide
    have r1 : ¬ Scalar.cmpi .ne (Scalar.extui (Scalar.cmpi .slt (w2 3) 3#32) : BitVec 32) 0#32 = 1#1 := c1
    have r2 : ¬ Scalar.cmpi .ne (Scalar.extui (Scalar.cmpi .eq (w2 3) 0#32) : BitVec 32) 0#32 = 1#1 := c2
    have r4 : ¬ Scalar.cmpi .ne (Scalar.extui (Scalar.andi (Scalar.cmpi .sge (w2 3) 1#32) (Scalar.cmpi .sle (w2 3) 2#32)) : BitVec 32) 0#32 = 1#1 := c4
    have r5 : Scalar.cmpi .ne (Scalar.extui (Scalar.cmpi .sge (w2 3) 1#32) : BitVec 32) 0#32 = 1#1 := c5
    simp only [sendA, sendC, c1, c2, c4, c5, c6, c7, r1, r2, r4, r5, dite_true, dite_false, bind_assoc, pure_bind]
    rfl

set_option maxRecDepth 65536 in
/-- The second part: the projection's first two tiles, and the third one's operands. -/
theorem part24_eq (a1 a4 : Memref sig .tc .vmem S1024x1024 .bf16) (h1 : a1.IsWhole) (h4 : a4.IsWhole) (a5 : Memref sig .tc .vmem S2048x1024 .f32) (ha5 : a5.IsWhole) (x : Vec F S512x1024 .bf16) (wq : Vec F S1024x1024 .bf16) :
  k0_part24 (F := F) (Memref.whole main_arg0) (Memref.isWhole_whole _) a1 h1 (Memref.whole main_arg2) (Memref.isWhole_whole _) (Memref.whole main_arg3) (Memref.isWhole_whole _) a4 h4 a5 ha5 (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 x (shapeCast S1024x1024 wq shapeCasts_S1024x1024_S1024x1024) (constant S512x1024 .f32 0x00000000#32) = (do
  let _q : Vec F S512x1024 .bf16 ← Prog.lift (.load qM (Rect.unit (s := S2048x1024) ![0, 0] S512x1024.size inb_S2048x1024_S512x1024_0_0).toLoadRect (View.loadsAt_vmem h_S512x1024))
  Prog.lift (.store qM (Rect.unit (s := S2048x1024) ![0, 0] S512x1024.size inb_S2048x1024_S512x1024_0_0) (shapeCast S512x1024 (truncf .bf16 (matmul dot_S512x1024_S1024x1024_S512x1024_1_0_0_1_n_n none x (shapeCast S1024x1024 wq shapeCasts_S1024x1024_S1024x1024) (constant S512x1024 .f32 0x00000000#32)) bitsLt_bf16_f32) shapeCasts_S512x1024_S512x1024) Finset.univ (View.stores_vmem h_S512x1024 ((Memref.isWhole_whole cc0_scratch0 : qM.IsWhole).storeExact_slice rfl _ packedbf16_S2048x1024_S512x1024_0_0) (fun _ => rfl)) (.inl rfl))
  projT a1 512 inb_S2048x1024_S512x1024_512_0 wordsbf16_S2048x1024_S512x1024_512_0 ((Memref.isWhole_whole cc0_scratch0 : qM.IsWhole).storeExact_slice rfl _ packedbf16_S2048x1024_S512x1024_512_0)
  Prog.lift (.enqueueDma (xM.slice (Rect.unit (s := S2048x1024) ![1024, 0] S512x1024.size inb_S2048x1024_S512x1024_1024_0) (fun _ => rfl)) (.here tM) (.dma lS0) ((Memref.isWhole_whole main_arg0 : xM.IsWhole).wordExact_slice rfl _ wordsbf16_S2048x1024_S512x1024_1024_0) (Memref.isWhole_whole _).wordExact ⟨Or.inl rfl, trivial⟩)
  Prog.lift (.waitDma2 lS0 (xM.slice (Rect.unit (s := S2048x1024) ![1024, 0] S512x1024.size inb_S2048x1024_S512x1024_1024_0) (fun _ => rfl)) tM ((Memref.isWhole_whole main_arg0 : xM.IsWhole).wordExact_slice rfl _ wordsbf16_S2048x1024_S512x1024_1024_0) (Memref.isWhole_whole _).wordExact)
  let x : Vec F S512x1024 .bf16 ← Prog.lift (.load tM (Rect.unit (s := S512x1024) ![0, 0] S512x1024.size inb_S512x1024_S512x1024_0_0).toLoadRect (View.loadsAt_vmem h_S512x1024))
  let wq : Vec F S1024x1024 .bf16 ← Prog.lift (.load a1 (Rect.unit (s := S1024x1024) ![0, 0] S1024x1024.size inb_S1024x1024_S1024x1024_0_0).toLoadRect (View.loadsAt_vmem h_S1024x1024))
  pure ⟨x, shapeCast S1024x1024 wq shapeCasts_S1024x1024_S1024x1024, constant S512x1024 .f32 0x00000000#32⟩) := by
  simp only [k0_part24_eq_skeleton, k0_part24_skel, projT, bind_assoc, pure_bind]
  rfl

set_option maxRecDepth 65536 in
/-- The third part: the rest of the projection, and the initial state up to the sums. -/
theorem part25_eq (a1 a4 : Memref sig .tc .vmem S1024x1024 .bf16) (h1 : a1.IsWhole) (h4 : a4.IsWhole) (a5 : Memref sig .tc .vmem S2048x1024 .f32) (ha5 : a5.IsWhole) (x : Vec F S512x1024 .bf16) (wq : Vec F S1024x1024 .bf16) :
  k0_part25 (F := F) (Memref.whole main_arg0) (Memref.isWhole_whole _) a1 h1 (Memref.whole main_arg2) (Memref.isWhole_whole _) (Memref.whole main_arg3) (Memref.isWhole_whole _) a4 h4 a5 ha5 (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 x (shapeCast S1024x1024 wq shapeCasts_S1024x1024_S1024x1024) (constant S512x1024 .f32 0x00000000#32) = (do
  let _q : Vec F S512x1024 .bf16 ← Prog.lift (.load qM (Rect.unit (s := S2048x1024) ![1024, 0] S512x1024.size inb_S2048x1024_S512x1024_1024_0).toLoadRect (View.loadsAt_vmem h_S512x1024))
  Prog.lift (.store qM (Rect.unit (s := S2048x1024) ![1024, 0] S512x1024.size inb_S2048x1024_S512x1024_1024_0) (shapeCast S512x1024 (truncf .bf16 (matmul dot_S512x1024_S1024x1024_S512x1024_1_0_0_1_n_n none x (shapeCast S1024x1024 wq shapeCasts_S1024x1024_S1024x1024) (constant S512x1024 .f32 0x00000000#32)) bitsLt_bf16_f32) shapeCasts_S512x1024_S512x1024) Finset.univ (View.stores_vmem h_S512x1024 ((Memref.isWhole_whole cc0_scratch0 : qM.IsWhole).storeExact_slice rfl _ packedbf16_S2048x1024_S512x1024_1024_0) (fun _ => rfl)) (.inl rfl))
  projT a1 1536 inb_S2048x1024_S512x1024_1536_0 wordsbf16_S2048x1024_S512x1024_1536_0 ((Memref.isWhole_whole cc0_scratch0 : qM.IsWhole).storeExact_slice rfl _ packedbf16_S2048x1024_S512x1024_1536_0)
  let _c : Vec F S2048x1024 .f32 ← Prog.lift (.load cM (Rect.unit (s := S2048x1024) ![0, 0] S2048x1024.size inb_S2048x1024_S2048x1024_0_0).toLoadRect (View.loadsAt_vmem h_S2048x1024))
  Prog.lift (.store cM (Rect.unit (s := S2048x1024) ![0, 0] S2048x1024.size inb_S2048x1024_S2048x1024_0_0) (shapeCast S2048x1024 (broadcast S2048x1024 (Scalar.ofBits .f32 0x00000000#32 : F .f32)) shapeCasts_S2048x1024_S2048x1024) Finset.univ (View.stores_vmem_bits_univ h_S2048x1024 rfl) (.inl rfl))
  let _m : Vec F S2048x8 .f32 ← Prog.lift (.load mM (Rect.unit (s := S2048x8) ![0, 0] S2048x8.size inb_S2048x8_S2048x8_0_0).toLoadRect (View.loadsAt_vmem h_S2048x8))
  Prog.lift (.store mM (Rect.unit (s := S2048x8) ![0, 0] S2048x8.size inb_S2048x8_S2048x8_0_0) (shapeCast S2048x8 (broadcast S2048x8 (Scalar.ofBits .f32 0xF149F2CA#32 : F .f32)) shapeCasts_S2048x8_S2048x8) Finset.univ (View.stores_vmem_bits_univ h_S2048x8 rfl) (.inl rfl))
  let _l : Vec F S2048x8 .f32 ← Prog.lift (.load lM (Rect.unit (s := S2048x8) ![0, 0] S2048x8.size inb_S2048x8_S2048x8_0_0).toLoadRect (View.loadsAt_vmem h_S2048x8))
  pure (broadcast S2048x8 (Scalar.ofBits .f32 0x00000000#32 : F .f32))) := by
  simp only [k0_part25_eq_skeleton, k0_part25_skel, projT, bind_assoc, pure_bind]
  rfl

set_option maxRecDepth 65536 in
/-- The fourth part: the sums' initial value, the diagonal chunk's copies and its first heads. -/
theorem part26_eq (a1 a4 : Memref sig .tc .vmem S1024x1024 .bf16) (h1 : a1.IsWhole) (h4 : a4.IsWhole) (a5 : Memref sig .tc .vmem S2048x1024 .f32) (ha5 : a5.IsWhole)  :
  k0_part26 (F := F) (Memref.whole main_arg0) (Memref.isWhole_whole _) a1 h1 (Memref.whole main_arg2) (Memref.isWhole_whole _) (Memref.whole main_arg3) (Memref.isWhole_whole _) a4 h4 a5 ha5 (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 (broadcast S2048x8 (Scalar.ofBits .f32 0x00000000#32 : F .f32)) = (do
  Prog.lift (.store lM (Rect.unit (s := S2048x8) ![0, 0] S2048x8.size inb_S2048x8_S2048x8_0_0) (shapeCast S2048x8 (broadcast S2048x8 (Scalar.ofBits .f32 0x00000000#32 : F .f32)) shapeCasts_S2048x8_S2048x8) Finset.univ (View.stores_vmem_bits_univ h_S2048x8 rfl) (.inl rfl))
  copyKV kA vA (Memref.isWhole_whole _).wordExact (Memref.isWhole_whole _).wordExact
  headG scMs 0 (by omega)
  headG scMs 1 (by omega)
  headG scMs 2 (by omega)
  let kh : Vec F S2048x128 .bf16 ← Prog.lift (.load kM (Rect.unit (s := S2048x1024) ![0, 128 * 3] S2048x128.size (hC_inb (by omega))).toLoadRect (View.loadsAt_vmem h_S2048x128))
  let vh : Vec F S2048x128 .bf16 ← Prog.lift (.load vM (Rect.unit (s := S2048x1024) ![0, 128 * 3] S2048x128.size (hC_inb (by omega))).toLoadRect (View.loadsAt_vmem h_S2048x128))
  pure ⟨kh, vh⟩) := by
  simp only [k0_part26_eq_skeleton, k0_part26_skel, copyKV, headG, bind_assoc, pure_bind, bind_pure_unit]
  rfl

set_option maxRecDepth 65536 in
/-- The fifth part: the diagonal chunk's last heads. -/
theorem part27_eq (a1 a4 : Memref sig .tc .vmem S1024x1024 .bf16) (h1 : a1.IsWhole) (h4 : a4.IsWhole) (a5 : Memref sig .tc .vmem S2048x1024 .f32) (ha5 : a5.IsWhole) (v2 : BitVec 32) (kh vh : Vec F S2048x128 .bf16) :
  k0_part27 (F := F) (Memref.whole main_arg0) (Memref.isWhole_whole _) a1 h1 (Memref.whole main_arg2) (Memref.isWhole_whole _) (Memref.whole main_arg3) (Memref.isWhole_whole _) a4 h4 a5 ha5 (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 v2 kh vh = (do
  Scf.Loop.for lpG k0_t1_ok (⟨⟩ : Unit) fun k _ => genStep (scMs k kh) vh (gO1 3 k) (gO1_inb (by omega) k) (gO2 3 k) (gO2_inb (by omega) k)
  headG scMs 4 (by omega)
  headG scMs 5 (by omega)
  headG scMs 6 (by omega)
  headG scMs 7 (by omega)
  pure (Scalar.extui (Scalar.cmpi .sge v2 1#32))) := by
  simp only [k0_part27_eq_skeleton, k0_part27_skel, headG, bind_assoc, pure_bind, bind_pure_unit]
  rfl

set_option maxRecDepth 65536 in
/-- The sixth part on device 0: the chunks it receives. -/
theorem part28_eq0 (a1 a4 : Memref sig .tc .vmem S1024x1024 .bf16) (h1 : a1.IsWhole) (h4 : a4.IsWhole) (a5 : Memref sig .tc .vmem S2048x1024 .f32) (ha5 : a5.IsWhole) :
  k0_part28 (F := F) (Memref.whole main_arg0) (Memref.isWhole_whole _) a1 h1 (Memref.whole main_arg2) (Memref.isWhole_whole _) (Memref.whole main_arg3) (Memref.isWhole_whole _) a4 h4 a5 ha5 (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 0 (w2 0) (w4 0) (w6 0) (Scalar.extui (Scalar.cmpi .sge (w2 0) 1#32)) = (do
  pure (Scalar.extui (Scalar.cmpi .slt (w2 0) 3#32))) := by
  have c1 : k0_cond1 (0 : Dev nD) = 1#1 := by decide
  have c2 : k0_cond2 (0 : Dev nD) = 1#1 := by decide
  have c4 : ¬ k0_cond4 (0 : Dev nD) = 1#1 := by decide
  have c5 : ¬ k0_cond5 (0 : Dev nD) = 1#1 := by decide
  have c6 : ¬ k0_cond6 (0 : Dev nD) = 1#1 := by decide
  have c7 : ¬ k0_cond7 (0 : Dev nD) = 1#1 := by decide
  have r1 : Scalar.cmpi .ne (Scalar.extui (Scalar.cmpi .slt (w2 0) 3#32) : BitVec 32) 0#32 = 1#1 := c1
  have r2 : Scalar.cmpi .ne (Scalar.extui (Scalar.cmpi .eq (w2 0) 0#32) : BitVec 32) 0#32 = 1#1 := c2
  have r4 : ¬ Scalar.cmpi .ne (Scalar.extui (Scalar.andi (Scalar.cmpi .sge (w2 0) 1#32) (Scalar.cmpi .sle (w2 0) 2#32)) : BitVec 32) 0#32 = 1#1 := c4
  have r5 : ¬ Scalar.cmpi .ne (Scalar.extui (Scalar.cmpi .sge (w2 0) 1#32) : BitVec 32) 0#32 = 1#1 := c5
  simp only [k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part28_eq_skeleton, k0_part28_skel, waitA, sendB, waitC, waitB, copyKV, headG, c1, c2, c4, c5, c6, c7, r1, r2, r4, r5, dite_true, dite_false, bind_assoc, pure_bind, bind_pure_unit]

set_option maxRecDepth 65536 in
/-- The sixth part on device 1: the chunks it receives. -/
theorem part28_eq1 (a1 a4 : Memref sig .tc .vmem S1024x1024 .bf16) (h1 : a1.IsWhole) (h4 : a4.IsWhole) (a5 : Memref sig .tc .vmem S2048x1024 .f32) (ha5 : a5.IsWhole) :
  k0_part28 (F := F) (Memref.whole main_arg0) (Memref.isWhole_whole _) a1 h1 (Memref.whole main_arg2) (Memref.isWhole_whole _) (Memref.whole main_arg3) (Memref.isWhole_whole _) a4 h4 a5 ha5 (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 1 (w2 1) (w4 1) (w6 1) (Scalar.extui (Scalar.cmpi .sge (w2 1) 1#32)) = (do
  waitA
  sendB 1 (by decide)
  copyKV ck0 cv0 ck0_we cv0_we
  headG scUs 0 (by omega)
  headG scUs 1 (by omega)
  headG scUs 2 (by omega)
  headG scUs 3 (by omega)
  headG scUs 4 (by omega)
  headG scUs 5 (by omega)
  headG scUs 6 (by omega)
  headG scUs 7 (by omega)
  pure (Scalar.extui (Scalar.cmpi .slt (w2 1) 3#32))) := by
  have c1 : k0_cond1 (1 : Dev nD) = 1#1 := by decide
  have c2 : ¬ k0_cond2 (1 : Dev nD) = 1#1 := by decide
  have c4 : k0_cond4 (1 : Dev nD) = 1#1 := by decide
  have c5 : k0_cond5 (1 : Dev nD) = 1#1 := by decide
  have c6 : ¬ k0_cond6 (1 : Dev nD) = 1#1 := by decide
  have c7 : ¬ k0_cond7 (1 : Dev nD) = 1#1 := by decide
  have r1 : Scalar.cmpi .ne (Scalar.extui (Scalar.cmpi .slt (w2 1) 3#32) : BitVec 32) 0#32 = 1#1 := c1
  have r2 : ¬ Scalar.cmpi .ne (Scalar.extui (Scalar.cmpi .eq (w2 1) 0#32) : BitVec 32) 0#32 = 1#1 := c2
  have r4 : Scalar.cmpi .ne (Scalar.extui (Scalar.andi (Scalar.cmpi .sge (w2 1) 1#32) (Scalar.cmpi .sle (w2 1) 2#32)) : BitVec 32) 0#32 = 1#1 := c4
  have r5 : Scalar.cmpi .ne (Scalar.extui (Scalar.cmpi .sge (w2 1) 1#32) : BitVec 32) 0#32 = 1#1 := c5
  simp only [k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part28_eq_skeleton, k0_part28_skel, waitA, sendB, waitC, waitB, copyKV, headG, c1, c2, c4, c5, c6, c7, r1, r2, r4, r5, dite_true, dite_false, bind_assoc, pure_bind, bind_pure_unit]
  rfl

set_option maxRecDepth 65536 in
/-- The sixth part on device 2: the chunks it receives. -/
theorem part28_eq2 (a1 a4 : Memref sig .tc .vmem S1024x1024 .bf16) (h1 : a1.IsWhole) (h4 : a4.IsWhole) (a5 : Memref sig .tc .vmem S2048x1024 .f32) (ha5 : a5.IsWhole) :
  k0_part28 (F := F) (Memref.whole main_arg0) (Memref.isWhole_whole _) a1 h1 (Memref.whole main_arg2) (Memref.isWhole_whole _) (Memref.whole main_arg3) (Memref.isWhole_whole _) a4 h4 a5 ha5 (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 2 (w2 2) (w4 2) (w6 2) (Scalar.extui (Scalar.cmpi .sge (w2 2) 1#32)) = (do
  waitA
  sendB 2 (by decide)
  copyKV ck0 cv0 ck0_we cv0_we
  headG scUs 0 (by omega)
  headG scUs 1 (by omega)
  headG scUs 2 (by omega)
  headG scUs 3 (by omega)
  headG scUs 4 (by omega)
  headG scUs 5 (by omega)
  headG scUs 6 (by omega)
  headG scUs 7 (by omega)
  waitB
  copyKV ck1 cv1 ck1_we cv1_we
  headG scUs 0 (by omega)
  headG scUs 1 (by omega)
  headG scUs 2 (by omega)
  headG scUs 3 (by omega)
  headG scUs 4 (by omega)
  headG scUs 5 (by omega)
  headG scUs 6 (by omega)
  headG scUs 7 (by omega)
  pure (Scalar.extui (Scalar.cmpi .slt (w2 2) 3#32))) := by
  have c1 : k0_cond1 (2 : Dev nD) = 1#1 := by decide
  have c2 : ¬ k0_cond2 (2 : Dev nD) = 1#1 := by decide
  have c4 : k0_cond4 (2 : Dev nD) = 1#1 := by decide
  have c5 : k0_cond5 (2 : Dev nD) = 1#1 := by decide
  have c6 : ¬ k0_cond6 (2 : Dev nD) = 1#1 := by decide
  have c7 : k0_cond7 (2 : Dev nD) = 1#1 := by decide
  have r1 : Scalar.cmpi .ne (Scalar.extui (Scalar.cmpi .slt (w2 2) 3#32) : BitVec 32) 0#32 = 1#1 := c1
  have r2 : ¬ Scalar.cmpi .ne (Scalar.extui (Scalar.cmpi .eq (w2 2) 0#32) : BitVec 32) 0#32 = 1#1 := c2
  have r4 : Scalar.cmpi .ne (Scalar.extui (Scalar.andi (Scalar.cmpi .sge (w2 2) 1#32) (Scalar.cmpi .sle (w2 2) 2#32)) : BitVec 32) 0#32 = 1#1 := c4
  have r5 : Scalar.cmpi .ne (Scalar.extui (Scalar.cmpi .sge (w2 2) 1#32) : BitVec 32) 0#32 = 1#1 := c5
  simp only [k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part28_eq_skeleton, k0_part28_skel, waitA, sendB, waitC, waitB, copyKV, headG, c1, c2, c4, c5, c6, c7, r1, r2, r4, r5, dite_true, dite_false, bind_assoc, pure_bind, bind_pure_unit]
  rfl

set_option maxRecDepth 65536 in
/-- The sixth part on device 3: the chunks it receives. -/
theorem part28_eq3 (a1 a4 : Memref sig .tc .vmem S1024x1024 .bf16) (h1 : a1.IsWhole) (h4 : a4.IsWhole) (a5 : Memref sig .tc .vmem S2048x1024 .f32) (ha5 : a5.IsWhole) :
  k0_part28 (F := F) (Memref.whole main_arg0) (Memref.isWhole_whole _) a1 h1 (Memref.whole main_arg2) (Memref.isWhole_whole _) (Memref.whole main_arg3) (Memref.isWhole_whole _) a4 h4 a5 ha5 (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 3 (w2 3) (w4 3) (w6 3) (Scalar.extui (Scalar.cmpi .sge (w2 3) 1#32)) = (do
  waitA
  copyKV ck0 cv0 ck0_we cv0_we
  headG scUs 0 (by omega)
  headG scUs 1 (by omega)
  headG scUs 2 (by omega)
  headG scUs 3 (by omega)
  headG scUs 4 (by omega)
  headG scUs 5 (by omega)
  headG scUs 6 (by omega)
  headG scUs 7 (by omega)
  waitC
  copyKV ck2 cv2 ck2_we cv2_we
  headG scUs 0 (by omega)
  headG scUs 1 (by omega)
  headG scUs 2 (by omega)
  headG scUs 3 (by omega)
  headG scUs 4 (by omega)
  headG scUs 5 (by omega)
  headG scUs 6 (by omega)
  headG scUs 7 (by omega)
  waitB
  copyKV ck1 cv1 ck1_we cv1_we
  headG scUs 0 (by omega)
  headG scUs 1 (by omega)
  headG scUs 2 (by omega)
  headG scUs 3 (by omega)
  headG scUs 4 (by omega)
  headG scUs 5 (by omega)
  headG scUs 6 (by omega)
  headG scUs 7 (by omega)
  pure (Scalar.extui (Scalar.cmpi .slt (w2 3) 3#32))) := by
  have c1 : ¬ k0_cond1 (3 : Dev nD) = 1#1 := by decide
  have c2 : ¬ k0_cond2 (3 : Dev nD) = 1#1 := by decide
  have c4 : ¬ k0_cond4 (3 : Dev nD) = 1#1 := by decide
  have c5 : k0_cond5 (3 : Dev nD) = 1#1 := by decide
  have c6 : k0_cond6 (3 : Dev nD) = 1#1 := by decide
  have c7 : k0_cond7 (3 : Dev nD) = 1#1 := by decide
  have r1 : ¬ Scalar.cmpi .ne (Scalar.extui (Scalar.cmpi .slt (w2 3) 3#32) : BitVec 32) 0#32 = 1#1 := c1
  have r2 : ¬ Scalar.cmpi .ne (Scalar.extui (Scalar.cmpi .eq (w2 3) 0#32) : BitVec 32) 0#32 = 1#1 := c2
  have r4 : ¬ Scalar.cmpi .ne (Scalar.extui (Scalar.andi (Scalar.cmpi .sge (w2 3) 1#32) (Scalar.cmpi .sle (w2 3) 2#32)) : BitVec 32) 0#32 = 1#1 := c4
  have r5 : Scalar.cmpi .ne (Scalar.extui (Scalar.cmpi .sge (w2 3) 1#32) : BitVec 32) 0#32 = 1#1 := c5
  simp only [k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part28_eq_skeleton, k0_part28_skel, waitA, sendB, waitC, waitB, copyKV, headG, c1, c2, c4, c5, c6, c7, r1, r2, r4, r5, dite_true, dite_false, bind_assoc, pure_bind, bind_pure_unit]
  rfl

set_option maxRecDepth 65536 in
/-- The seventh part on device 0: the ends of its sends, and the first divisions. -/
theorem part29_eq0 (a1 a4 : Memref sig .tc .vmem S1024x1024 .bf16) (h1 : a1.IsWhole) (h4 : a4.IsWhole) (a5 : Memref sig .tc .vmem S2048x1024 .f32) (ha5 : a5.IsWhole) :
  k0_part29 (F := F) (Memref.whole main_arg0) (Memref.isWhole_whole _) a1 h1 (Memref.whole main_arg2) (Memref.isWhole_whole _) (Memref.whole main_arg3) (Memref.isWhole_whole _) a4 h4 a5 ha5 (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 (w2 0) (Scalar.extui (Scalar.cmpi .slt (w2 0) 3#32)) = (do
  doneA
  doneC
  divH 0 (by omega)
  let c : Vec F S2048x128 .f32 ← Prog.lift (.load cM (Rect.unit (s := S2048x1024) ![0, 128 * 1] S2048x128.size (hC_inb (by omega))).toLoadRect (View.loadsAt_vmem h_S2048x128))
  let l : Vec F S2048x1 .f32 ← Prog.lift (.load lM (Rect.unit (s := S2048x8) ![0, 1] S2048x1.size (hL_inb (by omega))).toLoadRect (View.loadsAt_vmem h_S2048x1))
  pure (divf c (broadcastTo S2048x128 l broadcasts_S2048x1_S2048x128))) := by
  have c1 : k0_cond1 (0 : Dev nD) = 1#1 := by decide
  have c2 : k0_cond2 (0 : Dev nD) = 1#1 := by decide
  have c4 : ¬ k0_cond4 (0 : Dev nD) = 1#1 := by decide
  have c5 : ¬ k0_cond5 (0 : Dev nD) = 1#1 := by decide
  have c6 : ¬ k0_cond6 (0 : Dev nD) = 1#1 := by decide
  have c7 : ¬ k0_cond7 (0 : Dev nD) = 1#1 := by decide
  have r1 : Scalar.cmpi .ne (Scalar.extui (Scalar.cmpi .slt (w2 0) 3#32) : BitVec 32) 0#32 = 1#1 := c1
  have r2 : Scalar.cmpi .ne (Scalar.extui (Scalar.cmpi .eq (w2 0) 0#32) : BitVec 32) 0#32 = 1#1 := c2
  have r4 : ¬ Scalar.cmpi .ne (Scalar.extui (Scalar.andi (Scalar.cmpi .sge (w2 0) 1#32) (Scalar.cmpi .sle (w2 0) 2#32)) : BitVec 32) 0#32 = 1#1 := c4
  have r5 : ¬ Scalar.cmpi .ne (Scalar.extui (Scalar.cmpi .sge (w2 0) 1#32) : BitVec 32) 0#32 = 1#1 := c5
  simp only [k0_part29_eq_skeleton, k0_part29_skel, doneA, doneB, doneC, divH, c1, c2, c4, c5, c6, c7, r1, r2, r4, r5, dite_true, dite_false, bind_assoc, pure_bind, bind_pure_unit]
  rfl

set_option maxRecDepth 65536 in
/-- The seventh part on device 1: the ends of its sends, and the first divisions. -/
theorem part29_eq1 (a1 a4 : Memref sig .tc .vmem S1024x1024 .bf16) (h1 : a1.IsWhole) (h4 : a4.IsWhole) (a5 : Memref sig .tc .vmem S2048x1024 .f32) (ha5 : a5.IsWhole) :
  k0_part29 (F := F) (Memref.whole main_arg0) (Memref.isWhole_whole _) a1 h1 (Memref.whole main_arg2) (Memref.isWhole_whole _) (Memref.whole main_arg3) (Memref.isWhole_whole _) a4 h4 a5 ha5 (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 (w2 1) (Scalar.extui (Scalar.cmpi .slt (w2 1) 3#32)) = (do
  doneA
  doneB
  divH 0 (by omega)
  let c : Vec F S2048x128 .f32 ← Prog.lift (.load cM (Rect.unit (s := S2048x1024) ![0, 128 * 1] S2048x128.size (hC_inb (by omega))).toLoadRect (View.loadsAt_vmem h_S2048x128))
  let l : Vec F S2048x1 .f32 ← Prog.lift (.load lM (Rect.unit (s := S2048x8) ![0, 1] S2048x1.size (hL_inb (by omega))).toLoadRect (View.loadsAt_vmem h_S2048x1))
  pure (divf c (broadcastTo S2048x128 l broadcasts_S2048x1_S2048x128))) := by
  have c1 : k0_cond1 (1 : Dev nD) = 1#1 := by decide
  have c2 : ¬ k0_cond2 (1 : Dev nD) = 1#1 := by decide
  have c4 : k0_cond4 (1 : Dev nD) = 1#1 := by decide
  have c5 : k0_cond5 (1 : Dev nD) = 1#1 := by decide
  have c6 : ¬ k0_cond6 (1 : Dev nD) = 1#1 := by decide
  have c7 : ¬ k0_cond7 (1 : Dev nD) = 1#1 := by decide
  have r1 : Scalar.cmpi .ne (Scalar.extui (Scalar.cmpi .slt (w2 1) 3#32) : BitVec 32) 0#32 = 1#1 := c1
  have r2 : ¬ Scalar.cmpi .ne (Scalar.extui (Scalar.cmpi .eq (w2 1) 0#32) : BitVec 32) 0#32 = 1#1 := c2
  have r4 : Scalar.cmpi .ne (Scalar.extui (Scalar.andi (Scalar.cmpi .sge (w2 1) 1#32) (Scalar.cmpi .sle (w2 1) 2#32)) : BitVec 32) 0#32 = 1#1 := c4
  have r5 : Scalar.cmpi .ne (Scalar.extui (Scalar.cmpi .sge (w2 1) 1#32) : BitVec 32) 0#32 = 1#1 := c5
  simp only [k0_part29_eq_skeleton, k0_part29_skel, doneA, doneB, doneC, divH, c1, c2, c4, c5, c6, c7, r1, r2, r4, r5, dite_true, dite_false, bind_assoc, pure_bind, bind_pure_unit]
  rfl

set_option maxRecDepth 65536 in
/-- The seventh part on device 2: the ends of its sends, and the first divisions. -/
theorem part29_eq2 (a1 a4 : Memref sig .tc .vmem S1024x1024 .bf16) (h1 : a1.IsWhole) (h4 : a4.IsWhole) (a5 : Memref sig .tc .vmem S2048x1024 .f32) (ha5 : a5.IsWhole) :
  k0_part29 (F := F) (Memref.whole main_arg0) (Memref.isWhole_whole _) a1 h1 (Memref.whole main_arg2) (Memref.isWhole_whole _) (Memref.whole main_arg3) (Memref.isWhole_whole _) a4 h4 a5 ha5 (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 (w2 2) (Scalar.extui (Scalar.cmpi .slt (w2 2) 3#32)) = (do
  doneA
  doneB
  divH 0 (by omega)
  let c : Vec F S2048x128 .f32 ← Prog.lift (.load cM (Rect.unit (s := S2048x1024) ![0, 128 * 1] S2048x128.size (hC_inb (by omega))).toLoadRect (View.loadsAt_vmem h_S2048x128))
  let l : Vec F S2048x1 .f32 ← Prog.lift (.load lM (Rect.unit (s := S2048x8) ![0, 1] S2048x1.size (hL_inb (by omega))).toLoadRect (View.loadsAt_vmem h_S2048x1))
  pure (divf c (broadcastTo S2048x128 l broadcasts_S2048x1_S2048x128))) := by
  have c1 : k0_cond1 (2 : Dev nD) = 1#1 := by decide
  have c2 : ¬ k0_cond2 (2 : Dev nD) = 1#1 := by decide
  have c4 : k0_cond4 (2 : Dev nD) = 1#1 := by decide
  have c5 : k0_cond5 (2 : Dev nD) = 1#1 := by decide
  have c6 : ¬ k0_cond6 (2 : Dev nD) = 1#1 := by decide
  have c7 : k0_cond7 (2 : Dev nD) = 1#1 := by decide
  have r1 : Scalar.cmpi .ne (Scalar.extui (Scalar.cmpi .slt (w2 2) 3#32) : BitVec 32) 0#32 = 1#1 := c1
  have r2 : ¬ Scalar.cmpi .ne (Scalar.extui (Scalar.cmpi .eq (w2 2) 0#32) : BitVec 32) 0#32 = 1#1 := c2
  have r4 : Scalar.cmpi .ne (Scalar.extui (Scalar.andi (Scalar.cmpi .sge (w2 2) 1#32) (Scalar.cmpi .sle (w2 2) 2#32)) : BitVec 32) 0#32 = 1#1 := c4
  have r5 : Scalar.cmpi .ne (Scalar.extui (Scalar.cmpi .sge (w2 2) 1#32) : BitVec 32) 0#32 = 1#1 := c5
  simp only [k0_part29_eq_skeleton, k0_part29_skel, doneA, doneB, doneC, divH, c1, c2, c4, c5, c6, c7, r1, r2, r4, r5, dite_true, dite_false, bind_assoc, pure_bind, bind_pure_unit]
  rfl

set_option maxRecDepth 65536 in
/-- The seventh part on device 3: the ends of its sends, and the first divisions. -/
theorem part29_eq3 (a1 a4 : Memref sig .tc .vmem S1024x1024 .bf16) (h1 : a1.IsWhole) (h4 : a4.IsWhole) (a5 : Memref sig .tc .vmem S2048x1024 .f32) (ha5 : a5.IsWhole) :
  k0_part29 (F := F) (Memref.whole main_arg0) (Memref.isWhole_whole _) a1 h1 (Memref.whole main_arg2) (Memref.isWhole_whole _) (Memref.whole main_arg3) (Memref.isWhole_whole _) a4 h4 a5 ha5 (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 (w2 3) (Scalar.extui (Scalar.cmpi .slt (w2 3) 3#32)) = (do
  divH 0 (by omega)
  let c : Vec F S2048x128 .f32 ← Prog.lift (.load cM (Rect.unit (s := S2048x1024) ![0, 128 * 1] S2048x128.size (hC_inb (by omega))).toLoadRect (View.loadsAt_vmem h_S2048x128))
  let l : Vec F S2048x1 .f32 ← Prog.lift (.load lM (Rect.unit (s := S2048x8) ![0, 1] S2048x1.size (hL_inb (by omega))).toLoadRect (View.loadsAt_vmem h_S2048x1))
  pure (divf c (broadcastTo S2048x128 l broadcasts_S2048x1_S2048x128))) := by
  have c1 : ¬ k0_cond1 (3 : Dev nD) = 1#1 := by decide
  have c2 : ¬ k0_cond2 (3 : Dev nD) = 1#1 := by decide
  have c4 : ¬ k0_cond4 (3 : Dev nD) = 1#1 := by decide
  have c5 : k0_cond5 (3 : Dev nD) = 1#1 := by decide
  have c6 : k0_cond6 (3 : Dev nD) = 1#1 := by decide
  have c7 : k0_cond7 (3 : Dev nD) = 1#1 := by decide
  have r1 : ¬ Scalar.cmpi .ne (Scalar.extui (Scalar.cmpi .slt (w2 3) 3#32) : BitVec 32) 0#32 = 1#1 := c1
  have r2 : ¬ Scalar.cmpi .ne (Scalar.extui (Scalar.cmpi .eq (w2 3) 0#32) : BitVec 32) 0#32 = 1#1 := c2
  have r4 : ¬ Scalar.cmpi .ne (Scalar.extui (Scalar.andi (Scalar.cmpi .sge (w2 3) 1#32) (Scalar.cmpi .sle (w2 3) 2#32)) : BitVec 32) 0#32 = 1#1 := c4
  have r5 : Scalar.cmpi .ne (Scalar.extui (Scalar.cmpi .sge (w2 3) 1#32) : BitVec 32) 0#32 = 1#1 := c5
  simp only [k0_part29_eq_skeleton, k0_part29_skel, doneA, doneB, doneC, divH, c1, c2, c4, c5, c6, c7, r1, r2, r4, r5, dite_true, dite_false, bind_assoc, pure_bind, bind_pure_unit]
  rfl

set_option maxRecDepth 65536 in
/-- The eighth part: more divisions. -/
theorem part30_eq (a1 a4 : Memref sig .tc .vmem S1024x1024 .bf16) (h1 : a1.IsWhole) (h4 : a4.IsWhole) (a5 : Memref sig .tc .vmem S2048x1024 .f32) (ha5 : a5.IsWhole) (c : Vec F S2048x128 .f32) (l : Vec F S2048x1 .f32) :
  k0_part30 (F := F) (Memref.whole main_arg0) (Memref.isWhole_whole _) a1 h1 (Memref.whole main_arg2) (Memref.isWhole_whole _) (Memref.whole main_arg3) (Memref.isWhole_whole _) a4 h4 a5 ha5 (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 (divf c (broadcastTo S2048x128 l broadcasts_S2048x1_S2048x128)) = (do
  let _c : Vec F S2048x128 .f32 ← Prog.lift (.load cM (Rect.unit (s := S2048x1024) ![0, 128 * 1] S2048x128.size (hC_inb (by omega))).toLoadRect (View.loadsAt_vmem h_S2048x128))
  Prog.lift (.store cM (Rect.unit (s := S2048x1024) ![0, 128 * 1] S2048x128.size (hC_inb (by omega))) (shapeCast S2048x128 (divf c (broadcastTo S2048x128 l broadcasts_S2048x1_S2048x128)) shapeCasts_S2048x128_S2048x128) Finset.univ (View.stores_vmem_bits_univ h_S2048x128 rfl) (.inl rfl))
  divH 2 (by omega)
  divH 3 (by omega)
  divH 4 (by omega)
  divH 5 (by omega)) := by
  simp only [k0_part30_eq_skeleton, k0_part30_skel, divH, bind_assoc, pure_bind, bind_pure_unit]
  rfl

/-- The last statements of the body. -/
def tailT (a4 : Memref sig .tc .vmem S1024x1024 .bf16) (a5 : Memref sig .tc .vmem S2048x1024 .f32) : PG F PUnit := do
  divH 6 (by omega)
  divH 7 (by omega)
  outP a4 a5

set_option maxRecDepth 65536 in
/-- The body over its first eight parts. -/
theorem body_tail (a1 a4 : Memref sig .tc .vmem S1024x1024 .bf16) (h1 : a1.IsWhole) (h4 : a4.IsWhole) (a5 : Memref sig .tc .vmem S2048x1024 .f32) (ha5 : a5.IsWhole) :
  cc0_body (F := F) (Memref.whole main_arg0) (Memref.isWhole_whole _) a1 h1 (Memref.whole main_arg2) (Memref.isWhole_whole _) (Memref.whole main_arg3) (Memref.isWhole_whole _) a4 h4 a5 ha5 (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 = (do
  let x23 ← k0_part23 (Memref.whole main_arg0) (Memref.isWhole_whole _) a1 h1 (Memref.whole main_arg2) (Memref.isWhole_whole _) (Memref.whole main_arg3) (Memref.isWhole_whole _) a4 h4 a5 ha5 (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11
  let x24 ← k0_part24 (Memref.whole main_arg0) (Memref.isWhole_whole _) a1 h1 (Memref.whole main_arg2) (Memref.isWhole_whole _) (Memref.whole main_arg3) (Memref.isWhole_whole _) a4 h4 a5 ha5 (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 x23.2.2.2.2.1 x23.2.2.2.2.2.1 x23.2.2.2.2.2.2
  let v77 ← k0_part25 (Memref.whole main_arg0) (Memref.isWhole_whole _) a1 h1 (Memref.whole main_arg2) (Memref.isWhole_whole _) (Memref.whole main_arg3) (Memref.isWhole_whole _) a4 h4 a5 ha5 (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 x24.1 x24.2.1 x24.2.2
  let x26 ← k0_part26 (Memref.whole main_arg0) (Memref.isWhole_whole _) a1 h1 (Memref.whole main_arg2) (Memref.isWhole_whole _) (Memref.whole main_arg3) (Memref.isWhole_whole _) a4 h4 a5 ha5 (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 v77
  let v114 ← k0_part27 (Memref.whole main_arg0) (Memref.isWhole_whole _) a1 h1 (Memref.whole main_arg2) (Memref.isWhole_whole _) (Memref.whole main_arg3) (Memref.isWhole_whole _) a4 h4 a5 ha5 (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 x23.2.1 x26.1 x26.2
  let v131 ← k0_part28 (Memref.whole main_arg0) (Memref.isWhole_whole _) a1 h1 (Memref.whole main_arg2) (Memref.isWhole_whole _) (Memref.whole main_arg3) (Memref.isWhole_whole _) a4 h4 a5 ha5 (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 x23.1 x23.2.1 x23.2.2.1 x23.2.2.2.1 v114
  let v151 ← k0_part29 (Memref.whole main_arg0) (Memref.isWhole_whole _) a1 h1 (Memref.whole main_arg2) (Memref.isWhole_whole _) (Memref.whole main_arg3) (Memref.isWhole_whole _) a4 h4 a5 ha5 (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 x23.2.1 v131
  k0_part30 (Memref.whole main_arg0) (Memref.isWhole_whole _) a1 h1 (Memref.whole main_arg2) (Memref.isWhole_whole _) (Memref.whole main_arg3) (Memref.isWhole_whole _) a4 h4 a5 ha5 (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 v151
  tailT a4 a5) := by
  unfold tailT
  simp only [cc0_body_eq_skeleton, cc0_body_skel, divH, outP, bind_assoc, pure_bind]
  rfl

set_option maxRecDepth 65536 in
/-- The printed body is the composition of the pieces. -/
theorem body_eq (a1 a4 : Memref sig .tc .vmem S1024x1024 .bf16) (h1 : a1.IsWhole) (h4 : a4.IsWhole) (a5 : Memref sig .tc .vmem S2048x1024 .f32) (ha5 : a5.IsWhole) :
  cc0_body (F := F) (Memref.whole main_arg0) (Memref.isWhole_whole _) a1 h1 (Memref.whole main_arg2) (Memref.isWhole_whole _) (Memref.whole main_arg3) (Memref.isWhole_whole _) a4 h4 a5 ha5 (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 = bodyG a1 a4 a5 := by
  rw [body_tail, part23_eq]
  unfold bodyG rest23
  rw [bind_assoc]
  refine congrArg (bind _) (funext fun d0 => ?_)
  rcases (show d0 = 0 ∨ d0 = 1 ∨ d0 = 2 ∨ d0 = 3 by revert d0; decide) with rfl | rfl | rfl | rfl
  · have c1 : k0_cond1 (0 : Dev nD) = 1#1 := by decide
    have c2 : k0_cond2 (0 : Dev nD) = 1#1 := by decide
    have c4 : ¬ k0_cond4 (0 : Dev nD) = 1#1 := by decide
    have c5 : ¬ k0_cond5 (0 : Dev nD) = 1#1 := by decide
    have c6 : ¬ k0_cond6 (0 : Dev nD) = 1#1 := by decide
    have c7 : ¬ k0_cond7 (0 : Dev nD) = 1#1 := by decide
    simp only [c1, c2, c4, c5, c6, c7, dite_true, dite_false, bind_assoc, pure_bind, part24_eq, part25_eq, part26_eq, part27_eq, part28_eq0, part29_eq0, part30_eq, tailT, projQ, projT, initS, headsG, headG, divs, divH]
  · have c1 : k0_cond1 (1 : Dev nD) = 1#1 := by decide
    have c2 : ¬ k0_cond2 (1 : Dev nD) = 1#1 := by decide
    have c4 : k0_cond4 (1 : Dev nD) = 1#1 := by decide
    have c5 : k0_cond5 (1 : Dev nD) = 1#1 := by decide
    have c6 : ¬ k0_cond6 (1 : Dev nD) = 1#1 := by decide
    have c7 : ¬ k0_cond7 (1 : Dev nD) = 1#1 := by decide
    simp only [c1, c2, c4, c5, c6, c7, dite_true, dite_false, bind_assoc, pure_bind, part24_eq, part25_eq, part26_eq, part27_eq, part28_eq1, part29_eq1, part30_eq, tailT, projQ, projT, initS, headsG, headG, divs, divH]
  · have c1 : k0_cond1 (2 : Dev nD) = 1#1 := by decide
    have c2 : ¬ k0_cond2 (2 : Dev nD) = 1#1 := by decide
    have c4 : k0_cond4 (2 : Dev nD) = 1#1 := by decide
    have c5 : k0_cond5 (2 : Dev nD) = 1#1 := by decide
    have c6 : ¬ k0_cond6 (2 : Dev nD) = 1#1 := by decide
    have c7 : k0_cond7 (2 : Dev nD) = 1#1 := by decide
    simp only [c1, c2, c4, c5, c6, c7, dite_true, dite_false, bind_assoc, pure_bind, part24_eq, part25_eq, part26_eq, part27_eq, part28_eq2, part29_eq2, part30_eq, tailT, projQ, projT, initS, headsG, headG, divs, divH]
  · have c1 : ¬ k0_cond1 (3 : Dev nD) = 1#1 := by decide
    have c2 : ¬ k0_cond2 (3 : Dev nD) = 1#1 := by decide
    have c4 : ¬ k0_cond4 (3 : Dev nD) = 1#1 := by decide
    have c5 : k0_cond5 (3 : Dev nD) = 1#1 := by decide
    have c6 : k0_cond6 (3 : Dev nD) = 1#1 := by decide
    have c7 : k0_cond7 (3 : Dev nD) = 1#1 := by decide
    simp only [c1, c2, c4, c5, c6, c7, dite_true, dite_false, bind_assoc, pure_bind, part24_eq, part25_eq, part26_eq, part27_eq, part28_eq3, part29_eq3, part30_eq, tailT, projQ, projT, initS, headsG, headG, divs, divH]

end Cert.Proof
-- ==== Proof.Run.lean ====
module

public import proofs.«01_k».proof.Proof.Owed
public import proofs.«01_k».proof.Proof.BodyEq
public import proofs.«01_k».proof.Proof.Gen.KernelIdeal.Points

/-! The kernel's run on the four devices. -/

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F] [Named F]

local notation "𝕄" => MT nD τ sig Unit (Elt F) ℕ (UU nD τ) ℕ

variable (m : (ℓ : Loc nD τ sig) → Buf (Elt F) ℓ) (ρ : Dev nD → PrngReg)

/-- The query weights, as the window stages them, -/
def wqAt (c : Dev nD) : Vec F S1024x1024 .bf16 := (win0_0.blk (0 : Fin 1)).view.read (Elt F) (m ((c : Thread nD τ).loc main_arg1))
/-- the output weights, -/
def woAt (c : Dev nD) : Vec F S1024x1024 .bf16 := (win0_1.blk (0 : Fin 1)).view.read (Elt F) (m ((c : Thread nD τ).loc main_arg4))
/-- the device's rows of activations. -/
def xAt (c : Dev nD) : BlkC F := m ((c : Thread nD τ).loc main_arg0)

/-- The device's rows of the result. -/
def outAt (c : Dev nD) : Vec F S2048x1024 .f32 := outD m c (xAt m c) (wqAt m c) (woAt m c)

/-- The scratch buffers, whatever they hold. -/
abbrev scr (c : Dev nD) : sProp 𝕄 := Pipeline.scopedRest (Ix := Unit) (Name := ℕ) (U := UU nD τ) (Lvl := ℕ) (Val := Elt F) spec0 c

/-- The kernel's semaphores at zero. -/
abbrev sems0 (c : Dev nD) : sProp 𝕄 := Pipeline.ownSems0 (Ix := Unit) (Name := ℕ) (U := UU nD τ) (Lvl := ℕ) (Val := Elt F) (τ := τ) osem c

/-- Before the body. -/
def Φ₀ (c : Dev nD) : sProp 𝕄 := iprop(levAts L lv ∗ credsP c ∗ X₀ m c ∗ scr c)
/-- After it. -/
def Φ₁ (c : Dev nD) : sProp 𝕄 := iprop(keptArgs m c ∗ sems0 c ∗ scr c)

/-- The pipeline's data. -/
def dats (_ : Fin 1) (c : Dev nD) : Dat τ (Elt F) Unit ℕ (UU nD τ) ℕ cfg0 c where
  A w := m ((cfg0.win w).arr.view.loc (c : Thread nD τ))
  after w _ := match w with
    | ⟨0, _⟩ => wqAt m c
    | ⟨1, _⟩ => woAt m c
    | ⟨2, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- A staging buffer holding `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_stg (c : Dev nD) (b : Ref sig .tc) (X : b.ty.Contents (Elt F)) :
    (owns (Ix := Unit) (Name := ℕ) (U := UU nD τ) (Lvl := ℕ) (c : Thread nD τ) (Memref.whole b) fullShare X : sProp 𝕄) = stg c b X := by
  unfold owns; simp only [Memref.view_whole, View.read_whole, View.set_whole]

/-- A whole buffer as a memref. -/
theorem pt_whole (c : Dev nD) (b : Ref sig .tc) (f : b.ty.Contents (Elt F)) :
    (pt c (Memref.whole b) f : sProp 𝕄) = (((c : Thread nD τ).loc b) ↦{fullShare} f) := by
  show ((((c : Thread nD τ).loc b) ↦[(View.whole b : View sig .tc _ _ _).set]{fullShare} f) : sProp 𝕄) = _
  rw [View.set_whole]

/-- The cells no copy credits, closed. -/
theorem cells_open (K : Dev nD × Fin 14 → ℕ) (c : Dev nD) :
    iprop(records m K ∗ bigSep Finset.univ fun k : Fin 14 => at0 (c, k)) ⊢ (|={Set.univ}=> all14 (cellAt c) : sProp 𝕄) := by
  rw [← bigSep_14]
  refine BIBase.Entails.trans (sep_mono_left (BI.bigSep_of_persistent (Finset.univ : Finset (Fin 14)) (records m K))) ?_
  rw [← bigSep_sep']
  refine BIBase.Entails.trans (bigSep_mono fun k _ => ?_) (bigSep_fupd _ _)
  show iprop(records m K ∗ at0 (c, k)) ⊢ |={Set.univ}=> cellAt c k
  unfold cellAt
  cases h : used c (k.val + 3)
  · exact close_unused m K c k h
  · iintro ⟨-, H⟩
    imodintro; simp only [cond_true]; iexact H

/-- What the body runs from, from what the pipeline hands it. -/
theorem devIn_intro (K : Dev nD × Fin 14 → ℕ) (c : Dev nD) (w wo : Vec F S1024x1024 .bf16) (o : Vec F S2048x1024 .f32) :
    iprop(records m K ∗ levAts L lv ∗ owe c (O₀ c) ∗ credsP c ∗ all14 (cellAt c) ∗ toksP c ∗ slotsP c ∗ keptArgs m c ∗ scr c
        ∗ (((c : Thread nD τ).loc cc0_stg0_0) ↦{fullShare} w) ∗ (((c : Thread nD τ).loc cc0_stg1_0) ↦{fullShare} wo) ∗ (((c : Thread nD τ).loc cc0_stg2_0) ↦{fullShare} o))
      ⊢ (iprop(∃ q s, devIn m K c (xAt m c) w wo q s o) : sProp 𝕄) := by
  unfold scr keptArgs
  rw [scopedRest0_eq]
  iintro ⟨HR, HL, HO, HC, HA, HT, HS, ⟨H0, H2, H3⟩, ⟨⟨%f0, F0⟩, ⟨%f1, F1⟩, ⟨%f2, F2⟩, ⟨%f3, F3⟩, ⟨%f4, F4⟩, ⟨%f5, F5⟩, ⟨%f6, F6⟩⟩, W0, W1, W2⟩
  iexists f0
  iexists (⟨f1, f2, f3⟩ : St F)
  unfold devIn kvP coreQ stP
  isplitl [HR]; · iexact HR
  isplitl [HL]; · iexact HL
  isplitl [HO]; · iexact HO
  isplitl [HC]; · iexact HC
  isplitl [HA]; · iexact HA
  isplitl [HT]; · iexact HT
  isplitl [HS]; · iexact HS
  isplitl [H2 H3]
  · isplitl [H2]
    · iapply (Entails.of_eq (pt_whole c main_arg2 (Kof m c)).symm); iexact H2
    · iapply (Entails.of_eq (pt_whole c main_arg3 (Vof m c)).symm); iexact H3
  isplitl [H0 W0 F0 F1 F2 F3 F4 F5 F6]
  · isplitl [H0]; · iexact H0
    isplitl [W0]; · iapply (Entails.of_eq (pt_whole c cc0_stg0_0 w).symm); iexact W0
    isplitl [F6]; · iexists f6; iapply (Entails.of_eq (pt_whole c cc0_scratch6 f6).symm); iexact F6
    isplitl [F0]; · iapply (Entails.of_eq (pt_whole c cc0_scratch0 f0).symm); iexact F0
    isplitl [F4]; · iexists f4; iapply (Entails.of_eq (pt_whole c cc0_scratch4 f4).symm); iexact F4
    isplitl [F5]; · iexists f5; iapply (Entails.of_eq (pt_whole c cc0_scratch5 f5).symm); iexact F5
    isplitl [F1]; · iapply (Entails.of_eq (pt_whole c cc0_scratch1 f1).symm); iexact F1
    isplitl [F2]; · iapply (Entails.of_eq (pt_whole c cc0_scratch2 f2).symm); iexact F2
    iapply (Entails.of_eq (pt_whole c cc0_scratch3 f3).symm); iexact F3
  isplitl [W1]; · iapply (Entails.of_eq (pt_whole c cc0_stg1_0 wo).symm); iexact W1
  iapply (Entails.of_eq (pt_whole c cc0_stg2_0 o).symm); iexact W2

/-- What the body leaves, as the pipeline takes it back. -/
theorem devOut_elim (c : Dev nD) (w wo : Vec F S1024x1024 .bf16) (q : BlkC F) (s : St F) (o : Vec F S2048x1024 .f32) :
    devOut m c (xAt m c) w wo q s o
      ⊢ (iprop(owe c 0 ∗ Φ₁ m c ∗ (((c : Thread nD τ).loc cc0_stg0_0) ↦{fullShare} w) ∗ (((c : Thread nD τ).loc cc0_stg1_0) ↦{fullShare} wo)
        ∗ (((c : Thread nD τ).loc cc0_stg2_0) ↦{fullShare} o)) : sProp 𝕄) := by
  unfold devOut Φ₁ scr sems0 kvP coreQ stP keptArgs Pipeline.ownSems0
  rw [scopedRest0_eq, bigSep_14]
  iintro ⟨HO, HZ, ⟨H2, H3⟩, ⟨H0, W0, ⟨%f6, F6⟩, F0, ⟨%f4, F4⟩, ⟨%f5, F5⟩, F1, F2, F3⟩, W1, W2⟩
  isplitl [HO]; · iexact HO
  isplitr [W0 W1 W2]
  · isplitl [H0 H2 H3]
    · isplitl [H0]; · iexact H0
      isplitl [H2]
      · iapply (Entails.of_eq (pt_whole c main_arg2 (Kof m c))); iexact H2
      · iapply (Entails.of_eq (pt_whole c main_arg3 (Vof m c))); iexact H3
    isplitl [HZ]; · iexact HZ
    isplitl [F0]; · iexists q; iapply (Entails.of_eq (pt_whole c cc0_scratch0 q)); iexact F0
    isplitl [F1]; · iexists s.c; iapply (Entails.of_eq (pt_whole c cc0_scratch1 s.c)); iexact F1
    isplitl [F2]; · iexists s.m; iapply (Entails.of_eq (pt_whole c cc0_scratch2 s.m)); iexact F2
    isplitl [F3]; · iexists s.l; iapply (Entails.of_eq (pt_whole c cc0_scratch3 s.l)); iexact F3
    isplitl [F4]; · iexists f4; iapply (Entails.of_eq (pt_whole c cc0_scratch4 f4)); iexact F4
    isplitl [F5]; · iexists f5; iapply (Entails.of_eq (pt_whole c cc0_scratch5 f5)); iexact F5
    iexists f6; iapply (Entails.of_eq (pt_whole c cc0_scratch6 f6)); iexact F6
  isplitl [W0]; · iapply (Entails.of_eq (pt_whole c cc0_stg0_0 w)); iexact W0
  isplitl [W1]; · iapply (Entails.of_eq (pt_whole c cc0_stg1_0 wo)); iexact W1
  iapply (Entails.of_eq (pt_whole c cc0_stg2_0 o)); iexact W2

/-- What the pipeline hands the body, -/
def bodyPre (c : Dev nD) : sProp 𝕄 :=
  iprop(Φ₀ m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

/-- and takes back. -/
def bodyPost (c : Dev nD) : sProp 𝕄 :=
  iprop(Φ₁ m c ∗ (dats m 0 c).owesAt () t0_0.succ ∗ stg c cc0_stg0_0 (wqAt m c) ∗ stg c cc0_stg1_0 (woAt m c) ∗ stg c cc0_stg2_0 (outAt m c))

/-- The body on a device, as the pipeline runs it. -/
theorem sound_body (c : Dev nD) : bodyPre m c ⊢ WP c (bodyG wqM woM oM) (fun _ => bodyPost m c) := by
  unfold bodyPre Φ₀ X₀ Dat.owesAt Pipeline.owesWithin
  iintro ⟨⟨HL, HC, ⟨%K, #HR, Hat, HT, HS, HA⟩, Hscr⟩, ⟨%W, %hW, HO⟩, ⟨%d0, %g0, %hg0, W0⟩, ⟨%d1, %g1, %hg1, W1⟩, ⟨%d2, %g2, %hg2, W2⟩⟩
  have h0 : g0 = wqAt m c := by rw [hg0]; unfold Dat.before; rw [if_pos (fetch0_0 t0_0)]; rfl
  have h1 : g1 = woAt m c := by rw [hg1]; unfold Dat.before; rw [if_pos (fetch0_1 t0_0)]; rfl
  subst h0 h1
  clear hg0 hg1 hg2
  unfold WP
  imod (cells_open m K c) $$ [Hat] with Hcells
  · isplitr; · iexact HR
    iexact Hat
  ihave H := (devIn_intro m K c (wqAt m c) (woAt m c) g2) $$ [HL HC HT HS HA Hscr HO W0 W1 W2 Hcells]
  · isplitr; · iexact HR
    isplitl [HL]; · iexact HL
    isplitl [HO]; · iexists W; iexact HO
    isplitl [HC]; · iexact HC
    isplitl [Hcells]; · iexact Hcells
    isplitl [HT]; · iexact HT
    isplitl [HS]; · iexact HS
    isplitl [HA]; · iexact HA
    isplitl [Hscr]; · iexact Hscr
    isplitl [W0]; · iexact W0
    isplitl [W1] <;> iassumption
  icases H with ⟨%q, %s, H⟩
  iapply ((dev_run m K c (xAt m c) (wqAt m c) (woAt m c) q s g2).trans (wp_mono _ _ _ fun _ => ?_)) $$ H
  refine (devOut_elim m c _ _ _ _ _).trans ?_
  unfold bodyPost Dat.owesAt Pipeline.owesWithin
  rw [show (dats m 0 c).owed t0_0.succ = 0 from rfl]
  iintro ⟨⟨%W', HO⟩, HP, W0, W1, W2⟩
  isplitl [HP]; · iexact HP
  isplitl [HO]
  · iexists W'
    isplitr; · ipureintro; exact fun _ _ => Or.inl trivial
    iexact HO
  isplitl [W0]
  · iexists _; isplitr; · (ipureintro; rfl)
    iexact W0
  isplitl [W1]
  · iexists _; isplitr; · (ipureintro; rfl)
    iexact W1
  iexists _; isplitr; · (ipureintro; rfl)
  iexact W2

set_option maxRecDepth 4000 in
/-- The pipeline's obligation on the body. -/
theorem body_obligation (c : Dev nD) : BodyObligation (dats m 0 c) (defs₀ (F := F)) 𝒱₀ () Set.univ := fun t => by
  rw [fin_N0 t]
  rw [bigSep_W0, bigSep_W0]
  have h := sound_body m c
  unfold WP at h
  rw [← body_eq wqM woM (Memref.isWhole_whole _) (Memref.isWhole_whole _) oM (Memref.isWhole_whole _)] at h
  unfold bodyPre bodyPost at h
  simp only [← owns_stg] at h
  exact h

/-- The waits on the staging cells are below everything owed. -/
theorem waits (c : Dev nD) : (levAts L lv : sProp 𝕄) ⊢ Pipeline.cellsWaits cfgs (dats m) () 0 c :=
  Pipeline.cellsWaits_intro cfgs (dats m) () 0 c fun w s t =>
    mayWait c _ 0 _ (by fin_cases w <;> fin_cases s <;> decide) (by
      rcases t with ⟨_ | _, ht⟩
      · exact fun g u hg => O₀_pos hg
      · exact fun g u hg => (zero_pos hg).elim)

theorem share_eq (c : Dev nD) (w : Fin cfg0.W) : (dats m 0 c).share w = fullShare := by
  unfold Dat.share; split <;> rfl

theorem phi_in (c : Dev nD) : iprop((levAts L lv ∗ Pipeline.launchCred O₀ c ∗ X₀ m c) ∗ Pipeline.scopedRest spec0 c) ⊢ (dats m 0 c).Φ 0 := by
  rw [show (dats m 0 c).Φ 0 = Φ₀ m c from rfl]
  unfold Φ₀
  iintro ⟨⟨HL, HC, HX⟩, HS⟩
  isplitl [HL]; · iexact HL
  isplitl [HC]; · iapply (creds (F := F) c); iexact HC
  isplitl [HX] <;> iassumption

theorem phi_out (c : Dev nD) : (dats m 0 c).Φ (Fin.last grid0.N) ⊢ iprop(keptArgs m c ∗ Pipeline.ownSems0 osem c ∗ Pipeline.scopedRest spec0 c) :=
  Entails.of_eq rfl

/-- The kernel's run: it ends with every window's array at the computed contents, the other arguments unchanged and
    every counter at zero. -/
theorem run_main :
    θ_run (defs (F := F)) (onTc (τ := τ) (main (F := F))) ⟨m, fun _ => 0, ρ⟩ (fun r =>
      (∀ c : Dev nD, (∀ w, r.2.mem ((spec0 w).arr.view.loc (c.tc : Thread nD τ)) = (dats m 0 c).arrAt w grid0.N)
        ∧ r.2.mem ((c : Thread nD τ).loc main_arg0) = m ((c : Thread nD τ).loc main_arg0)
        ∧ r.2.mem ((c : Thread nD τ).loc main_arg2) = m ((c : Thread nD τ).loc main_arg2)
        ∧ r.2.mem ((c : Thread nD τ).loc main_arg3) = m ((c : Thread nD τ).loc main_arg3))
      ∧ r.2.sem = fun _ => 0) :=
  launch_run m ρ (dats m) (G m) (X₀ m) u₀ (deal m) (glob m) (fun c => (body_obligation m c).loose) (share_eq m) (fun _ => rfl) (fun _ => rfl)
    (waits m) (fun _ _ => rfl) (phi_in m) (phi_out m)

/-- The input arrays are as they were, -/
theorem final_wq (c : Dev nD) : (dats m 0 c).arrAt (0 : Fin 3) grid0.N = m ((c : Thread nD τ).loc main_arg1) := (dats m 0 c).arrAt_in (0 : Fin 3) rfl _
theorem final_wo (c : Dev nD) : (dats m 0 c).arrAt (1 : Fin 3) grid0.N = m ((c : Thread nD τ).loc main_arg4) := (dats m 0 c).arrAt_in (1 : Fin 3) rfl _
/-- and the result array's one block is what the body left. -/
theorem final_out (c : Dev nD) : (win0_2.blk (0 : Fin 1)).view.read (Elt F) ((dats m 0 c).arrAt (2 : Fin 3) grid0.N) = outAt m c := by
  rw [show grid0.N = ((0 : Fin 1) : Fin cfg0.N).val + 1 from rfl, (dats m 0 c).arrAt_succ (2 : Fin 3) (0 : Fin 1)]
  rw [if_pos (flush0_2 (0 : Fin 1))]
  exact View.read_write_univ _ _

/-- The run, its result read: the result array's block is `outAt` and the arguments are unchanged. -/
theorem run_read :
    θ_run (defs (F := F)) (onTc (τ := τ) (main (F := F))) ⟨m, fun _ => 0, ρ⟩ (fun r =>
      (∀ c : Dev nD, (win0_2.blk (0 : Fin 1)).view.read (Elt F) (r.2.mem ((c : Thread nD τ).loc main_v1_0)) = outAt m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4))
      ∧ r.2.sem = fun _ => 0) :=
  (θ_run (defs (F := F)) _ _).mono (fun r h => ⟨fun c =>
    ⟨(congrArg ((win0_2.blk (0 : Fin 1)).view.read (Elt F)) ((h.1 c).1 (2 : Fin 3))).trans (final_out m c),
      (h.1 c).2.1, ((h.1 c).1 (0 : Fin 3)).trans (final_wq m c), (h.1 c).2.2.1, (h.1 c).2.2.2, ((h.1 c).1 (1 : Fin 3)).trans (final_wo m c)⟩, h.2⟩) (run_main m ρ)

end Cert.Proof

end
-- ==== Proof.BitsRun.lean ====
module

public import proofs.«01_k».proof.Proof.Run
public import proofs.«01_k».proof.Proof.Gen.Kernel

/-! The kernel as it is written, at the machine's floats: it is the idealized kernel with the mask's constant read as its bits. -/

@[expose] public section

noncomputable section

namespace Cert.Proof

open Idealize.ShloMosaic
open Idealize.ShloMosaic.TcCoe
open Idealize.SL.Sem

/-- The reading of a named constant at the machine's floats: its bits. -/
@[reducible] def namedBits : Named Bits := ⟨fun _ _ φ b => FloatOps.ofBits φ b⟩

set_option maxRecDepth 100000 in
/-- The two kernel functions are one. -/
theorem body_bits : HEq (@Cert.Kernel.cc0_body Bits _ _) (@Cert.KernelIdeal.cc0_body Bits _ namedBits _) := HEq.rfl

set_option maxRecDepth 100000 in
/-- The two body tables are one. -/
theorem defs_bits : Cert.Kernel.defs₀ (F := Bits) = @Cert.KernelIdeal.defs₀ Bits _ namedBits _ := by
  unfold Cert.Kernel.defs₀ Cert.KernelIdeal.defs₀
  refine congrArg Defs.onTc ?_
  funext l a
  match l, a with
  | 0, (t, s) => exact rfl
  | ⟨n + 1, h⟩, a => exact absurd h (by omega)

set_option maxRecDepth 100000 in
/-- The kernel as written runs to the end, its arguments unchanged and every counter at zero. -/
theorem run_bits (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r =>
      (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2)
        ∧ r.2.mem ((c.tc : Thread Cert.Kernel.nD Cert.Kernel.τ).loc Cert.Kernel.main_arg3) = m ((c.tc : Thread Cert.Kernel.nD Cert.Kernel.τ).loc Cert.Kernel.main_arg3)
        ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0) := by
  have e : Cert.Kernel.defs (F := Bits) = @Cert.KernelIdeal.defs Bits _ namedBits _ := congrArg (Pipeline.defs Cert.Kernel.pcfgs) defs_bits
  rw [e]
  exact (θ_run (@Cert.KernelIdeal.defs Bits _ namedBits _) _ _).mono (fun r h => ⟨fun c => (h.1 c).2, h.2⟩) (@run_read Bits _ namedBits m g)

end Cert.Proof

end
-- ==== Proof.Soft.lean ====
module

public import Idealize.ShloMosaic.PureOps.Ideal.Laws

/-! The running softmax over the extended reals: chunks taken one after another, against the softmax of the whole row. -/

@[expose] public section

noncomputable section

namespace Cert.Proof

open Idealize.ShloMosaic
open scoped BigOperators

/-- The weight of a score below a reference point, as a real. -/
def gw (s : EReal) (M : ℝ) : ℝ := if s = ⊥ then 0 else Real.exp (s.toReal - M)

theorem gw_nonneg (s : EReal) (M : ℝ) : 0 ≤ gw s M := by
  unfold gw; split
  · exact le_refl _
  · exact (Real.exp_pos _).le

theorem gw_pos {s : EReal} (h : s ≠ ⊥) (M : ℝ) : 0 < gw s M := by
  unfold gw; rw [if_neg h]; exact Real.exp_pos _

theorem gw_bot (M : ℝ) : gw ⊥ M = 0 := by unfold gw; rw [if_pos rfl]

/-- A score's exponential is its weight, unless the score is plus infinity. -/
theorem exp_sub_real {s : EReal} (hs : s ≠ ⊤) (M : ℝ) : Ideal.exp (s - (M : EReal)) = ((gw s M : ℝ) : EReal) := by
  induction s with
  | bot => rw [gw_bot, EReal.bot_sub]; rfl
  | top => exact absurd rfl hs
  | coe x =>
    have h : ((x : ℝ) : EReal) ≠ ⊥ := EReal.coe_ne_bot x
    unfold gw
    rw [if_neg h, ← EReal.coe_sub, EReal.toReal_coe]; rfl

/-- Weights below another point. -/
theorem gw_shift (s : EReal) (M M' : ℝ) : gw s M' = gw s M * Real.exp (M - M') := by
  unfold gw
  split
  · rw [zero_mul]
  · rw [← Real.exp_add]; congr 1; ring

theorem fold_max_ne_top {n : ℕ} (σ : Fin n → EReal) (h : ∀ j, σ j ≠ ⊤) : (Finset.univ : Finset (Fin n)).fold max ⊥ σ ≠ ⊤ := by
  intro hh
  have := (Finset.fold_max_lt (b := (⊥ : EReal)) (s := (Finset.univ : Finset (Fin n))) (f := σ) ⊤).2 ⟨bot_lt_top, fun j _ => lt_top_iff_ne_top.2 (h j)⟩
  exact absurd hh this.ne

/-- A maximum with a real stays real. -/
theorem max_real {n : ℕ} (m : ℝ) (σ : Fin n → EReal) (h : ∀ j, σ j ≠ ⊤) :
    ∃ M : ℝ, max (m : EReal) ((Finset.univ : Finset (Fin n)).fold max ⊥ σ) = (M : EReal) := by
  have h1 := fold_max_ne_top σ h
  generalize (Finset.univ : Finset (Fin n)).fold max ⊥ σ = x at h1 ⊢
  induction x with
  | bot => exact ⟨m, max_eq_left bot_le⟩
  | top => exact absurd rfl h1
  | coe x => exact ⟨max m x, (EReal.coe_strictMono.monotone.map_max).symm⟩

/-- The maximum of a row with a real score is real. -/
theorem fold_real {n : ℕ} (σ : Fin n → EReal) (h : ∀ j, σ j ≠ ⊤) (j₀ : Fin n) (h₀ : σ j₀ ≠ ⊥) :
    ∃ M : ℝ, (Finset.univ : Finset (Fin n)).fold max ⊥ σ = (M : EReal) := by
  have h1 := fold_max_ne_top σ h
  have h2 : (Finset.univ : Finset (Fin n)).fold max ⊥ σ ≠ ⊥ := by
    intro hh
    have : σ j₀ ≤ (Finset.univ : Finset (Fin n)).fold max ⊥ σ := (Finset.le_fold_max _).2 (Or.inr ⟨j₀, Finset.mem_univ _, le_refl _⟩)
    rw [hh] at this
    exact h₀ (le_bot_iff.1 this)
  exact ⟨_, (EReal.coe_toReal h1 h2).symm⟩

/-- A sum times a factor that is a nonnegative real. -/
theorem sum_mul_real {ι : Type} (A : Finset ι) (f : ι → EReal) {k : ℝ} (hk : 0 ≤ k) : (∑ i ∈ A, f i) * (k : EReal) = ∑ i ∈ A, f i * (k : EReal) := by
  classical
  induction A using Finset.induction_on with
  | empty => rw [Finset.sum_empty, Finset.sum_empty, zero_mul]
  | insert a A ha ih =>
    rw [Finset.sum_insert ha, Finset.sum_insert ha, EReal.right_distrib_of_nonneg_of_ne_top (EReal.coe_nonneg.2 hk) (EReal.coe_ne_top k), ih]

theorem coe_sum_real {ι : Type} (A : Finset ι) (f : ι → ℝ) : ((∑ i ∈ A, f i : ℝ) : EReal) = ∑ i ∈ A, ((f i : ℝ) : EReal) := by
  classical
  induction A using Finset.induction_on with
  | empty => rw [Finset.sum_empty, Finset.sum_empty]; rfl
  | insert a A ha ih => rw [Finset.sum_insert ha, Finset.sum_insert ha, EReal.coe_add, ih]

/-- A row's running maximum, sum and weighted values. -/
abbrev RowSt (T : Type) : Type := EReal × EReal × (T → EReal)

/-- One chunk taken: the maximum raised, the sums scaled down to it and the chunk's added. -/
def upd {n : ℕ} {T : Type} (σ : Fin n → EReal) (v : Fin n → T → EReal) (s : RowSt T) : RowSt T :=
  let M := max s.1 ((Finset.univ : Finset (Fin n)).fold max ⊥ σ)
  (M, s.2.1 * Ideal.exp (s.1 - M) + ∑ j, Ideal.exp (σ j - M),
    fun t => s.2.2 t * Ideal.exp (s.1 - M) + ∑ j, Ideal.exp (σ j - M) * v j t)

/-- What a row holds once the chunks of `A` have been taken: sums of weights below some real point. -/
def Taken {n E : ℕ} {T : Type} (S : Fin E → Fin n → EReal) (v : Fin E → Fin n → T → EReal) (A : Finset (Fin E)) (s : RowSt T) : Prop :=
  ∃ M : ℝ, s.1 = (M : EReal) ∧ s.2.1 = ((∑ e ∈ A, ∑ j, gw (S e j) M : ℝ) : EReal)
    ∧ ∀ t, s.2.2 t = ∑ e ∈ A, ∑ j, ((gw (S e j) M : ℝ) : EReal) * v e j t

theorem taken_empty {n E : ℕ} {T : Type} (S : Fin E → Fin n → EReal) (v : Fin E → Fin n → T → EReal) (M : ℝ) :
    Taken S v ∅ ((M : EReal), 0, fun _ => 0) :=
  ⟨M, rfl, by rw [Finset.sum_empty]; rfl, fun t => by rw [Finset.sum_empty]⟩

/-- A chunk taken once joins the others. -/
theorem taken_step {n E : ℕ} {T : Type} (S : Fin E → Fin n → EReal) (v : Fin E → Fin n → T → EReal) (A : Finset (Fin E)) (s : RowSt T)
    (e : Fin E) (he : e ∉ A) (hS : ∀ j, S e j ≠ ⊤) (h : Taken S v A s) : Taken S v (insert e A) (upd (S e) (v e) s) := by
  obtain ⟨M, h1, h2, h3⟩ := h
  obtain ⟨M', hM'⟩ := max_real M (S e) hS
  have hm : max s.1 ((Finset.univ : Finset (Fin n)).fold max ⊥ (S e)) = (M' : EReal) := by rw [h1]; exact hM'
  have hk : Ideal.exp ((M : EReal) - (M' : EReal)) = ((Real.exp (M - M') : ℝ) : EReal) := by rw [← EReal.coe_sub]; rfl
  have hk0 : 0 ≤ Real.exp (M - M') := (Real.exp_pos _).le
  refine ⟨M', hm, ?_, fun t => ?_⟩
  · unfold upd
    simp only
    rw [hm, h1, hk, h2, ← EReal.coe_mul]
    rw [Finset.sum_congr rfl fun j _ => exp_sub_real (hS j) M', ← coe_sum_real, ← EReal.coe_add, Finset.sum_insert he, add_comm]
    congr 2
    rw [Finset.sum_mul]
    refine Finset.sum_congr rfl fun e' _ => ?_
    rw [Finset.sum_mul]
    exact Finset.sum_congr rfl fun j _ => (gw_shift _ _ _).symm
  · unfold upd
    simp only
    rw [hm, h1, hk, h3, sum_mul_real _ _ hk0, Finset.sum_insert he, add_comm]
    congr 1
    · exact Finset.sum_congr rfl fun j _ => by rw [exp_sub_real (hS j) M']
    · refine Finset.sum_congr rfl fun e' _ => ?_
      rw [sum_mul_real _ _ hk0]
      refine Finset.sum_congr rfl fun j _ => ?_
      rw [gw_shift _ M M', EReal.coe_mul, mul_assoc, mul_assoc, mul_comm (v e' j t)]

theorem div_real (x : EReal) {l : ℝ} (hl : 0 < l) : Ideal.div x (l : EReal) = x * ((l⁻¹ : ℝ) : EReal) := by
  unfold Ideal.div
  rw [if_neg (by rw [EReal.coe_eq_zero]; exact hl.ne'), EReal.coe_inv]

/-- A row's softmax-weighted sum of values, plainly. -/
def refRow {N : ℕ} (σ v : Fin N → EReal) : EReal :=
  ∑ j, v j * Ideal.div (Ideal.exp (σ j - (Finset.univ : Finset (Fin N)).fold max ⊥ σ))
    (∑ k, Ideal.exp (σ k - (Finset.univ : Finset (Fin N)).fold max ⊥ σ))

/-- A sum over the columns, chunk by chunk. -/
theorem sum_chunks {A : Type} [AddCommMonoid A] {E n N : ℕ} (at' : Fin E → Fin n → Fin N) (hat : ∀ e j, (at' e j).val = n * e.val + j.val) (hN : N = E * n)
    (f : Fin N → A) : ∑ x, f x = ∑ e, ∑ j, f (at' e j) := by
  subst hN
  rw [← Equiv.sum_comp (finProdFinEquiv (m := E) (n := n)) f, Fintype.sum_prod_type]
  refine Finset.sum_congr rfl fun e _ => Finset.sum_congr rfl fun j _ => congrArg f (Fin.ext ?_)
  rw [hat, finProdFinEquiv_apply_val, add_comm]

/-- Once every chunk that holds a score above minus infinity is taken, the quotient is the row's softmax-weighted sum. -/
theorem taken_done {n E N : ℕ} {T : Type} (at' : Fin E → Fin n → Fin N) (hat : ∀ e j, (at' e j).val = n * e.val + j.val) (hN : N = E * n)
    (σ : Fin N → EReal) (w : Fin N → T → EReal) (S : Fin E → Fin n → EReal) (v : Fin E → Fin n → T → EReal)
    (hσ : ∀ e j, σ (at' e j) = S e j) (hv : ∀ e j t, w (at' e j) t = v e j t)
    (A : Finset (Fin E)) (s : RowSt T) (h : Taken S v A s) (htop : ∀ x, σ x ≠ ⊤)
    (hA : ∀ e, e ∉ A → ∀ j, S e j = ⊥) (e₀ : Fin E) (j₀ : Fin n) (h₀ : S e₀ j₀ ≠ ⊥) (t : T) :
    Ideal.div (s.2.2 t) s.2.1 = refRow σ (fun x => w x t) := by
  obtain ⟨M, -, h2, h3⟩ := h
  obtain ⟨M', hM'⟩ := fold_real σ htop (at' e₀ j₀) (by rw [hσ]; exact h₀)
  have ext2 : (∑ e ∈ A, ∑ j, gw (S e j) M) = ∑ e, ∑ j, gw (S e j) M :=
    Finset.sum_subset (Finset.subset_univ A) fun e _ he => Finset.sum_eq_zero fun j _ => by rw [hA e he j, gw_bot]
  have ext3 : (∑ e ∈ A, ∑ j, ((gw (S e j) M : ℝ) : EReal) * v e j t) = ∑ e, ∑ j, ((gw (S e j) M : ℝ) : EReal) * v e j t :=
    Finset.sum_subset (Finset.subset_univ A) fun e _ he => Finset.sum_eq_zero fun j _ => by rw [hA e he j, gw_bot, EReal.coe_zero, zero_mul]
  have pos : ∀ K : ℝ, 0 < ∑ e, ∑ j, gw (S e j) K := fun K =>
    lt_of_lt_of_le (gw_pos h₀ K) ((Finset.single_le_sum (f := fun j => gw (S e₀ j) K) (fun j _ => gw_nonneg _ _) (Finset.mem_univ j₀)).trans
      (Finset.single_le_sum (f := fun e => ∑ j, gw (S e j) K) (fun e _ => Finset.sum_nonneg fun j _ => gw_nonneg _ _) (Finset.mem_univ e₀)))
  have hsum : (∑ x, Ideal.exp (σ x - (M' : EReal))) = ((∑ e, ∑ j, gw (S e j) M' : ℝ) : EReal) := by
    rw [sum_chunks at' hat hN, coe_sum_real]
    refine Finset.sum_congr rfl fun e _ => ?_
    rw [coe_sum_real]
    refine Finset.sum_congr rfl fun j _ => ?_
    rw [exp_sub_real (htop _), hσ]
  unfold refRow
  rw [hM', hsum, sum_chunks at' hat hN, h2, h3, ext2, ext3, div_real _ (pos M), sum_mul_real _ _ (inv_pos.2 (pos M)).le]
  refine Finset.sum_congr rfl fun e _ => ?_
  rw [sum_mul_real _ _ (inv_pos.2 (pos M)).le]
  refine Finset.sum_congr rfl fun j _ => ?_
  show _ = w (at' e j) t * _
  rw [exp_sub_real (htop _), hσ, hv, div_real _ (pos M'), mul_comm _ (v e j t), mul_assoc, ← EReal.coe_mul, ← EReal.coe_mul]
  congr 2
  have hs : (∑ e, ∑ j, gw (S e j) M') = (∑ e, ∑ j, gw (S e j) M) * Real.exp (M - M') := by
    rw [Finset.sum_mul]
    refine Finset.sum_congr rfl fun e' _ => ?_
    rw [Finset.sum_mul]
    exact Finset.sum_congr rfl fun j' _ => gw_shift _ _ _
  rw [hs, gw_shift (S e j) M M']
  have h1 := (pos M).ne'
  have h4 := (Real.exp_pos (M - M')).ne'
  field_simp

end Cert.Proof

end
-- ==== Proof.Tile.lean ====
module

public import proofs.«01_k».proof.Proof.Step
public import proofs.«01_k».proof.Proof.Soft
public import Idealize.ShloMosaic.Lib.MatmulPlain
public import Idealize.ShloMosaic.Lib.ValueIdx
public import Idealize.ShloMosaic.Lib.ValueLayout
public import Idealize.ShloMosaic.Lib.WritesUnit
public import Idealize.ShloMosaic.Lib.Pipeline.Value

/-! The kernel's tiles over the extended reals, element by element: a trip replaces one row's running maximum, sum and
    weighted values by `upd`. -/

@[expose] public section

noncomputable section

namespace Cert.Proof

open Cert.KernelIdeal Cert.KernelIdeal.Gen

open Idealize.ShloMosaic
open Idealize.ShloMosaic.TcCoe
open Idealize.ShloMosaic.ValueIdx
open scoped BigOperators

/-! ## Rectangles of rank two -/

section Rects
variable {Val : EltTy → Type} {sp : Space} {e : EltTy} {A B : ℕ} (v : View sig .tc sp ⟨2, ![A, B]⟩ e) (f : v.ty.Contents Val)

/-- A load at a rectangle, element by element. -/
theorem rd2 {o p P Q : ℕ} (inb : ∀ a : Fin 2, (![o, p] : Fin 2 → ℕ) a + (![P, Q] : Fin 2 → ℕ) a ≤ (![A, B] : Fin 2 → ℕ) a) (x : Fin P) (y : Fin Q)
    (a : Fin A) (b : Fin B) (ha : a.val = o + x.val) (hb : b.val = p + y.val) :
    v.readAt Val (Rect.unit (s := ⟨2, ![A, B]⟩) ![o, p] ![P, Q] inb).toLoadRect f (ix2 x y) = v.read Val f (ix2 a b) := by
  refine congrArg (v.read Val f) (funext fun d => Fin.ext ?_)
  match d with
  | ⟨0, _⟩ => show o + 1 * x.val = a.val; omega
  | ⟨1, _⟩ => show p + 1 * y.val = b.val; omega

/-- A store at a rectangle, inside it. -/
theorem wr2_in {o p P Q : ℕ} (inb : ∀ a : Fin 2, (![o, p] : Fin 2 → ℕ) a + (![P, Q] : Fin 2 → ℕ) a ≤ (![A, B] : Fin 2 → ℕ) a)
    (w : (Rect.unit (s := ⟨2, ![A, B]⟩) ![o, p] ![P, Q] inb).shape.Idx → Val e) (x : Fin P) (y : Fin Q)
    (a : Fin A) (b : Fin B) (ha : a.val = o + x.val) (hb : b.val = p + y.val) :
    v.read Val (v.writes Val f [⟨Rect.unit (s := ⟨2, ![A, B]⟩) ![o, p] ![P, Q] inb, w⟩]) (ix2 a b) = w (ix2 x y) :=
  View.read_writes_cons_unit_of_mem v f inb w [] (ix2 a b) (ix2 x y) rfl (Fin.forall_fin_two.mpr ⟨ha, hb⟩)

/-- A store at a rectangle, outside it. -/
theorem wr2_out {o p P Q : ℕ} (inb : ∀ a : Fin 2, (![o, p] : Fin 2 → ℕ) a + (![P, Q] : Fin 2 → ℕ) a ≤ (![A, B] : Fin 2 → ℕ) a)
    (w : (Rect.unit (s := ⟨2, ![A, B]⟩) ![o, p] ![P, Q] inb).shape.Idx → Val e)
    (a : Fin A) (b : Fin B) (h : (a.val < o ∨ o + P ≤ a.val) ∨ (b.val < p ∨ p + Q ≤ b.val)) :
    v.read Val (v.writes Val f [⟨Rect.unit (s := ⟨2, ![A, B]⟩) ![o, p] ![P, Q] inb, w⟩]) (ix2 a b) = v.read Val f (ix2 a b) := by
  rcases h with h | h
  · exact View.read_writes_cons_unit_of_not_mem v f inb w [] (ix2 a b) rfl (0 : Fin 2) h
  · exact View.read_writes_cons_unit_of_not_mem v f inb w [] (ix2 a b) rfl (1 : Fin 2) h

end Rects

/-! ## Values of a tile -/

theorem col_cast (f : S512.Idx → EReal) (x : Fin 512) : shapeCast S512x1 f shapeCasts_S512_S512x1 (ix2 x 0) = f (ix1 x) := by
  refine shapeCast_apply f _ _ (ix1 x) ?_
  rw [Shape.rowMajor_val_one, Shape.rowMajor_val_two]
  show x.val = x.val * 1 + 0
  omega

theorem col_spread {n : ℕ} (f : S512x1.Idx → EReal) (h : S512x1.Broadcasts ⟨2, ![512, n]⟩) (x : Fin 512) (y : Fin n) : broadcastTo ⟨2, ![512, n]⟩ f h (ix2 x y) = f (ix2 x 0) := by
  refine broadcastTo_apply f h _ _ fun ax => ?_
  match ax with
  | ⟨0, _⟩ => rfl
  | ⟨1, _⟩ => rfl

theorem ofBits_ninf : Ideal.ofBits .f32 0xFF800000#32 = ⊥ := by simp [Ideal.ofBits, Ideal.ieee]

theorem rowMax (s : FVec Ideal S512x2048 .f32) (x : Fin 512) :
    multiReduction .maximumf [1] S512 s 0xFF800000#32 reduces_S512x2048_S512 (.inl rfl) rfl (ix1 x)
      = (Finset.univ : Finset (Fin 2048)).fold max ⊥ (fun j => s (ix2 x j)) := by
  refine (Ideal.multiReduction_maximumf_single s _ reduces_S512x2048_S512 _ _ (ix1 x)).trans ?_
  show (Finset.univ : Finset (Fin 2048)).fold max (Ideal.ofBits .f32 0xFF800000#32) _ = _
  rw [ofBits_ninf]
  refine congrArg (fun g => (Finset.univ : Finset (Fin 2048)).fold max ⊥ g) (funext fun j => congrArg s (funext fun d => Fin.ext ?_))
  match d with
  | ⟨0, _⟩ => rfl
  | ⟨1, _⟩ => rfl

theorem rowSum (s : FVec Ideal S512x2048 .f32) (x : Fin 512) :
    multiReduction .add [1] S512 s 0x00000000#32 reduces_S512x2048_S512 (.inl rfl) rfl (ix1 x) = ∑ j : Fin 2048, s (ix2 x j) := by
  refine (Ideal.multiReduction_add_single s _ reduces_S512x2048_S512 _ _ (ix1 x)).trans ?_
  refine Finset.sum_congr rfl fun j _ => congrArg s (funext fun d => Fin.ext ?_)
  match d with
  | ⟨0, _⟩ => rfl
  | ⟨1, _⟩ => rfl

variable (s : FVec Ideal S512x2048 .f32) (m l : Vec Ideal S512x1 .f32)

theorem newM_at (x : Fin 512) : newM s m (ix2 x 0) = max (m (ix2 x 0)) ((Finset.univ : Finset (Fin 2048)).fold max ⊥ (fun j => s (ix2 x j))) := by
  unfold newM
  show max (m (ix2 x 0)) (shapeCast S512x1 _ shapeCasts_S512_S512x1 (ix2 x 0)) = _
  rw [col_cast, rowMax]

theorem corr_at (x : Fin 512) : corr s m (ix2 x 0) = Ideal.exp (m (ix2 x 0) - newM s m (ix2 x 0)) := rfl

theorem expS_at (x : Fin 512) (j : Fin 2048) : expS s m (ix2 x j) = Ideal.exp (s (ix2 x j) - newM s m (ix2 x 0)) := by
  unfold expS
  show Ideal.exp (s (ix2 x j) - broadcastTo S512x2048 (newM s m) broadcasts_S512x1_S512x2048 (ix2 x j)) = _
  rw [col_spread]

theorem newL_at (x : Fin 512) : newL s m l (ix2 x 0) = l (ix2 x 0) * corr s m (ix2 x 0) + ∑ j : Fin 2048, expS s m (ix2 x j) := by
  unfold newL
  show l (ix2 x 0) * corr s m (ix2 x 0) + shapeCast S512x1 _ shapeCasts_S512_S512x1 (ix2 x 0) = _
  rw [col_cast, rowSum]

theorem newC_at (vh : Vec Ideal S2048x128 .bf16) (c : Vec Ideal S512x128 .f32) (x : Fin 512) (t : Fin 128) :
    newC vh s m c (ix2 x t) = c (ix2 x t) * corr s m (ix2 x 0) + ∑ j : Fin 2048, expS s m (ix2 x j) * vh (ix2 j t) := by
  unfold newC
  have e := Ideal.matmul_plain_apply (φ₁ := .bf16) (φ₂ := .bf16) none (expS s m) vh (fun _ => Ideal.ofBits .f32 0x00000000#32) x t
  replace e := e.trans (show Ideal.ofBits .f32 0x00000000#32 + (∑ j : Fin 2048, expS s m (ix2 x j) * vh (ix2 j t)) = ∑ j : Fin 2048, expS s m (ix2 x j) * vh (ix2 j t) by rw [Ideal.ofBits_zero_f32, zero_add])
  rw [← col_spread (corr s m) broadcasts_S512x1_S512x128 x t]
  refine Eq.trans ?_ (congrArg (c (ix2 x t) * broadcastTo S512x128 (corr s m) broadcasts_S512x1_S512x128 (ix2 x t) + ·) e)
  rfl

/-- A tile's scores. -/
theorem scU_at (kh : Vec Ideal S2048x128 .bf16) (q : Vec Ideal S512x128 .bf16) (x : Fin 512) (j : Fin 2048) :
    scU kh q (ix2 x j) = (∑ t : Fin 128, q (ix2 x t) * kh (ix2 j t)) * Ideal.ofBits .f32 0x3DB504F3#32 := by
  unfold scU
  show FloatOps.matmul (DotDims.transposedRhs 512 128 2048) none q kh _ (ix2 x j) * Ideal.ofBits .f32 0x3DB504F3#32 = _
  rw [Ideal.matmul_transposedRhs_apply]
  show (Ideal.ofBits .f32 0x00000000#32 + _) * _ = _
  rw [Ideal.ofBits_zero_f32, zero_add]

/-! ## A row of the state -/

/-- A head's column. -/
abbrev hc (h : Fin 8) (t : Fin 128) : Fin 1024 := ⟨128 * h.val + t.val, by have := h.isLt; have := t.isLt; omega⟩

/-- What row `r` holds for head `h`. -/
def rowOf (s : St Ideal) (r : Fin 2048) (h : Fin 8) : RowSt (Fin 128) := (s.m (ix2 r h), s.l (ix2 r h), fun t => s.c (ix2 r (hc h t)))

/-- A store in the weighted values' buffer. -/
theorem wrC_in (f : BufTy.Contents (Elt Ideal) cM.view.ty) (w : Vec Ideal S512x128 .f32) (k h : ℕ) (i1 : ∀ a, (![512 * k, 128 * h] : Fin 2 → ℕ) a + S512x128.size a ≤ S2048x1024.size a)
    (x : Fin 512) (t : Fin 128) (a : Fin 2048) (b : Fin 1024) (ha : a.val = 512 * k + x.val) (hb : b.val = 128 * h + t.val) :
    cM.view.writes (Elt Ideal) f [⟨Rect.unit (s := S2048x1024) ![512 * k, 128 * h] S512x128.size i1, w⟩] (ix2 a b) = w (ix2 x t) :=
  Eq.trans (congrFun (View.read_whole (Val := Elt Ideal) cc0_scratch1 _).symm (ix2 a b)) (wr2_in cM.view f (P := 512) (Q := 128) i1 w x t a b ha hb)

theorem wrC_out (f : BufTy.Contents (Elt Ideal) cM.view.ty) (w : Vec Ideal S512x128 .f32) (k h : ℕ) (i1 : ∀ a, (![512 * k, 128 * h] : Fin 2 → ℕ) a + S512x128.size a ≤ S2048x1024.size a)
    (a : Fin 2048) (b : Fin 1024) (ho : (a.val < 512 * k ∨ 512 * k + 512 ≤ a.val) ∨ (b.val < 128 * h ∨ 128 * h + 128 ≤ b.val)) :
    cM.view.writes (Elt Ideal) f [⟨Rect.unit (s := S2048x1024) ![512 * k, 128 * h] S512x128.size i1, w⟩] (ix2 a b) = f (ix2 a b) :=
  Eq.trans (congrFun (View.read_whole (Val := Elt Ideal) cc0_scratch1 _).symm (ix2 a b))
    ((wr2_out cM.view f (P := 512) (Q := 128) i1 w a b ho).trans (congrFun (View.read_whole (Val := Elt Ideal) cc0_scratch1 _) (ix2 a b)))

end Cert.Proof

end
-- ==== Proof.Row.lean ====
module

public import proofs.«01_k».proof.Proof.Tile

/-! One trip of the kernel's loop, row by row. -/

@[expose] public section

noncomputable section

namespace Cert.Proof

open Cert.KernelIdeal Cert.KernelIdeal.Gen

open Idealize.ShloMosaic
open Idealize.ShloMosaic.TcCoe
open Idealize.ShloMosaic.ValueIdx
open scoped BigOperators

variable (sc : Vec Ideal S512x128 .bf16 → FVec Ideal S512x2048 .f32) (vh : Vec Ideal S2048x128 .bf16) (q : BlkC Ideal) (st : St Ideal)

/-- A trip, at a row of its tile. -/
theorem step_in (k h : ℕ) (i1 : ∀ a, (![512 * k, 128 * h] : Fin 2 → ℕ) a + S512x128.size a ≤ S2048x1024.size a)
    (i2 : ∀ a, (![512 * k, h] : Fin 2 → ℕ) a + S512x1.size a ≤ S2048x8.size a) (r : Fin 2048) (hh : Fin 8) (x : Fin 512)
    (hr : r.val = 512 * k + x.val) (he : hh.val = h) :
    rowOf (stepF sc vh _ i1 _ i2 q st) r hh
      = upd (fun j => sc (qM.view.readAt (Elt Ideal) (Rect.unit (s := S2048x1024) ![512 * k, 128 * h] S512x128.size i1).toLoadRect q) (ix2 x j))
          (fun j t => vh (ix2 j t)) (rowOf st r hh) := by
  have hm : mM.view.readAt (Elt Ideal) (Rect.unit (s := S2048x8) ![512 * k, h] S512x1.size i2).toLoadRect st.m (ix2 x (0 : Fin 1)) = st.m (ix2 r hh) :=
    (rd2 mM.view st.m (P := 512) (Q := 1) i2 x 0 r hh hr (by rw [he]; rfl)).trans (congrFun (View.read_whole (Val := Elt Ideal) cc0_scratch2 _) _)
  have hl : lM.view.readAt (Elt Ideal) (Rect.unit (s := S2048x8) ![512 * k, h] S512x1.size i2).toLoadRect st.l (ix2 x (0 : Fin 1)) = st.l (ix2 r hh) :=
    (rd2 lM.view st.l (P := 512) (Q := 1) i2 x 0 r hh hr (by rw [he]; rfl)).trans (congrFun (View.read_whole (Val := Elt Ideal) cc0_scratch3 _) _)
  have hcc : ∀ t : Fin 128, cM.view.readAt (Elt Ideal) (Rect.unit (s := S2048x1024) ![512 * k, 128 * h] S512x128.size i1).toLoadRect st.c (ix2 x t) = st.c (ix2 r (hc hh t)) := fun t =>
    (rd2 cM.view st.c (P := 512) (Q := 128) i1 x t r (hc hh t) hr (by rw [← he])).trans (congrFun (View.read_whole (Val := Elt Ideal) cc0_scratch1 _) _)
  unfold stepF rowOf upd
  generalize qM.view.readAt (Elt Ideal) (Rect.unit (s := S2048x1024) ![512 * k, 128 * h] S512x128.size i1).toLoadRect q = qt
  generalize mM.view.readAt (Elt Ideal) (Rect.unit (s := S2048x8) ![512 * k, h] S512x1.size i2).toLoadRect st.m = mt at hm ⊢
  generalize lM.view.readAt (Elt Ideal) (Rect.unit (s := S2048x8) ![512 * k, h] S512x1.size i2).toLoadRect st.l = lt at hl ⊢
  generalize cM.view.readAt (Elt Ideal) (Rect.unit (s := S2048x1024) ![512 * k, 128 * h] S512x128.size i1).toLoadRect st.c = ct at hcc ⊢
  simp only
  rw [← hm, ← hl]
  have eM := newM_at (sc qt) mt x
  refine Prod.ext ?_ (Prod.ext ?_ (funext fun t => ?_))
  · refine (congrFun (View.read_whole (Val := Elt Ideal) cc0_scratch2 _) _).symm.trans ((wr2_in mM.view st.m (P := 512) (Q := 1) i2 _ x 0 r hh hr (by rw [he]; rfl)).trans ?_)
    rw [shapeCast_self]; exact eM
  · refine (congrFun (View.read_whole (Val := Elt Ideal) cc0_scratch3 _) _).symm.trans ((wr2_in lM.view st.l (P := 512) (Q := 1) i2 _ x 0 r hh hr (by rw [he]; rfl)).trans ?_)
    rw [shapeCast_self, newL_at, corr_at]
    simp only [expS_at]
    rw [eM]
  · dsimp only
    rw [wrC_in st.c _ k h i1 x t r (hc hh t) hr (by rw [← he])]
    rw [shapeCast_self, newC_at, corr_at, hcc]
    simp only [expS_at]
    rw [eM]

/-- A trip leaves the other rows and the other heads. -/
theorem step_out (k h : ℕ) (i1 : ∀ a, (![512 * k, 128 * h] : Fin 2 → ℕ) a + S512x128.size a ≤ S2048x1024.size a)
    (i2 : ∀ a, (![512 * k, h] : Fin 2 → ℕ) a + S512x1.size a ≤ S2048x8.size a) (r : Fin 2048) (hh : Fin 8)
    (ho : (r.val < 512 * k ∨ 512 * k + 512 ≤ r.val) ∨ hh.val ≠ h) :
    rowOf (stepF sc vh _ i1 _ i2 q st) r hh = rowOf st r hh := by
  unfold stepF rowOf
  simp only
  refine Prod.ext ?_ (Prod.ext ?_ (funext fun t => ?_))
  · refine (congrFun (View.read_whole (Val := Elt Ideal) cc0_scratch2 _) _).symm.trans ((wr2_out mM.view st.m (P := 512) (Q := 1) i2 _ r hh (by omega)).trans ?_)
    exact congrFun (View.read_whole (Val := Elt Ideal) cc0_scratch2 _) _
  · refine (congrFun (View.read_whole (Val := Elt Ideal) cc0_scratch3 _) _).symm.trans ((wr2_out lM.view st.l (P := 512) (Q := 1) i2 _ r hh (by omega)).trans ?_)
    exact congrFun (View.read_whole (Val := Elt Ideal) cc0_scratch3 _) _
  · have ht := t.isLt
    dsimp only
    exact wrC_out st.c _ k h i1 r (hc hh t) (by show _ ∨ (128 * hh.val + t.val < _ ∨ _ ≤ 128 * hh.val + t.val); omega)

end Cert.Proof

end
-- ==== Proof.Words.lean ====
module

public import proofs.«01_k».proof.Proof.Tile
public import Idealize.ShloMosaic.Lib.Routing.Words
public import Idealize.ShloMosaic.PureOps.IdealRules

/-! The kernel's block mask over the extended reals: a column of a later block of 64 has the score `⊥`. -/

@[expose] public section

noncomputable section

namespace Cert.Proof

open Cert.KernelIdeal Cert.KernelIdeal.Gen

open Idealize.ShloMosaic
open Idealize.ShloMosaic.TcCoe
open Idealize.ShloMosaic.ValueIdx
open Idealize.ShloMosaic.WordCmp

/-- The kernel's division by 64 rounded down, on a word that holds a small natural. -/
theorem floor64 {n : ℕ} (hn : n < 2 ^ 31) (v : BitVec 32) (hv : v = BitVec.ofNat 32 n) :
    Scalar.select (IntOp.andi
        (IntOp.cmpi .ne ((IntOp.cmpi .sgt v 0#32).setWidth 32 - (IntOp.cmpi .slt v 0#32).setWidth 32)
          (Scalar.subi (Scalar.extui (Scalar.cmpi .sgt 64#32 0#32)) (Scalar.extui (Scalar.cmpi .slt 64#32 0#32))))
        (IntOp.cmpi .ne (IntOp.remsi .vector v 64#32) 0#32))
      (IntOp.divsi .vector v 64#32 - 1#32) (IntOp.divsi .vector v 64#32) = BitVec.ofNat 32 (n / 64) := by
  have hd : IntOp.divsi .vector v 64#32 = BitVec.ofNat 32 (n / 64) := by
    rw [hv]; exact Routing.divsi_word .vector hn (by decide : 0 < 64) (by decide)
  have hr : IntOp.remsi .vector v 64#32 = BitVec.ofNat 32 (n % 64) := by
    rw [hv]; exact Routing.remsi_word .vector hn (by decide : 0 < 64) (by decide)
  rw [hd, hr]
  rcases Nat.eq_zero_or_pos n with h0 | h0
  · subst h0; subst hv; decide
  · have hs : IntOp.cmpi .slt v 0#32 = 0#1 := by
      rw [hv]; exact (cmpi_slt_ofNat_eq_zero_iff (w := 32) hn (by decide : 0 < 2 ^ 31)).mpr (by omega)
    have hg : IntOp.cmpi .sgt v 0#32 = 1#1 := by
      rw [hv]; exact (cmpi_sgt_ofNat_eq_one_iff (w := 32) hn (by decide : 0 < 2 ^ 31)).mpr h0
    rw [hs, hg]
    generalize IntOp.cmpi .ne (BitVec.ofNat 32 (n % 64)) 0#32 = y
    have e : IntOp.cmpi .ne ((1#1 : BitVec 1).setWidth 32 - (0#1 : BitVec 1).setWidth 32)
          (Scalar.subi (Scalar.extui (Scalar.cmpi .sgt 64#32 0#32)) (Scalar.extui (Scalar.cmpi .slt 64#32 0#32))) = 0#1 := by decide
    rw [e]
    show Scalar.select (0#1 &&& y) _ _ = _
    rw [BitVec.zero_and]
    rfl

/-- The block of a row. -/
theorem rowBlk_at (w : BitVec 32) (n : ℕ) (x : Fin 512) (hw : w = BitVec.ofNat 32 n) (hn : n + 512 < 2 ^ 31) :
    rowBlk w (ix2 x 0) = BitVec.ofNat 32 ((n + x.val) / 64) := by
  have e : addi (broadcast S512x1 w) (iota .tc S512x1 32 [0] iota_S512x1_d0_w32) (ix2 x (0 : Fin 1)) = BitVec.ofNat 32 (n + x.val) := by
    show w + iota .tc S512x1 32 [0] iota_S512x1_d0_w32 (ix2 x (0 : Fin 1)) = _
    rw [iota_single_apply, hw, BitVec.ofNat_add]
  have hx := x.isLt
  exact floor64 (by omega) _ e

/-- The block of a column. -/
theorem colBlk_at (j : Fin 2048) : colBlk (ix2 0 j) = BitVec.ofNat 32 (j.val / 64) := by
  have e : iota .tc S1x2048 32 [1] iota_S1x2048_d1_w32 (ix2 (0 : Fin 1) j) = BitVec.ofNat 32 j.val := by
    rw [iota_single_apply]
  have hj := j.isLt
  exact floor64 (by omega) _ e

theorem mask_bot : (Named.named κ "mask" 0xCE6E6B28#32 : Ideal .f32) = ⊥ := IdealRules.named_const.ideal_named_scalar _ _ _ _ rfl

theorem rowW_eq (k : Fin lpG.trips) : rowW k = BitVec.ofNat 32 (512 * k.val) := by
  have hk : k.val < 4 := k.isLt
  unfold rowW
  obtain ⟨k, _⟩ := k
  simp only at hk ⊢
  interval_cases k <;> decide

/-- A tile's masked scores. -/
theorem scM_at (k : Fin lpG.trips) (kh : Vec Ideal S2048x128 .bf16) (q : Vec Ideal S512x128 .bf16) (x : Fin 512) (j : Fin 2048) :
    scM (rowW k) kh q (ix2 x j) = if j.val / 64 ≤ (512 * k.val + x.val) / 64 then scU kh q (ix2 x j) else ⊥ := by
  have hk : k.val < 4 := k.isLt
  have hx := x.isLt
  have hj := j.isLt
  unfold scM
  rw [mask_bot]
  have hc : broadcastTo S512x2048 colBlk broadcasts_S1x2048_S512x2048 (ix2 x j) = BitVec.ofNat 32 (j.val / 64) := by
    rw [← colBlk_at]
    refine broadcastTo_apply _ _ _ _ fun ax => ?_
    match ax with
    | ⟨0, _⟩ => rfl
    | ⟨1, _⟩ => rfl
  have hr : broadcastTo S512x2048 (rowBlk (rowW k)) broadcasts_S512x1_S512x2048 (ix2 x j) = BitVec.ofNat 32 ((512 * k.val + x.val) / 64) := by
    rw [← rowBlk_at (rowW k) (512 * k.val) x (rowW_eq k) (by omega)]
    refine broadcastTo_apply _ _ _ _ fun ax => ?_
    match ax with
    | ⟨0, _⟩ => rfl
    | ⟨1, _⟩ => rfl
  show Scalar.select (IntOp.cmpi .sle (broadcastTo S512x2048 colBlk broadcasts_S1x2048_S512x2048 (ix2 x j)) (broadcastTo S512x2048 (rowBlk (rowW k)) broadcasts_S512x1_S512x2048 (ix2 x j))) (scU kh q (ix2 x j)) (⊥ : EReal) = _
  rw [hc, hr]
  generalize scU kh q (ix2 x j) = u
  unfold Scalar.select
  by_cases h : j.val / 64 ≤ (512 * k.val + x.val) / 64
  · rw [if_pos h]; exact if_pos ((cmpi_sle_ofNat_eq_one_iff (w := 32) (by omega) (by omega)).mpr h)
  · rw [if_neg h]; exact if_neg fun hh => h ((cmpi_sle_ofNat_eq_one_iff (w := 32) (by omega) (by omega)).mp hh)

end Cert.Proof

end
-- ==== Proof.Heads.lean ====
module

public import proofs.«01_k».proof.Proof.Row
public import proofs.«01_k».proof.Proof.Words

/-! A chunk update over the extended reals: every row of every head takes the chunk by `upd`. -/

@[expose] public section

noncomputable section

namespace Cert.Proof

open Cert.KernelIdeal Cert.KernelIdeal.Gen

open Idealize.ShloMosaic
open Idealize.ShloMosaic.TcCoe
open Idealize.ShloMosaic.ValueIdx
open scoped BigOperators

/-- Row `x` of tile `k`. -/
abbrev rowK (k : Fin lpG.trips) (x : Fin 512) : Fin 2048 := ⟨512 * k.val + x.val, by have hk : k.val < 4 := k.isLt; have := x.isLt; omega⟩

/-- That a tile's scores are the rows' scores `S`, once its queries are the head's columns of `q` and its keys are `kh`. -/
def Scores (sc : Sc Ideal) (q : BlkC Ideal) (kh : Vec Ideal S2048x128 .bf16) (hh : Fin 8) (S : Fin 2048 → Fin 2048 → EReal) : Prop :=
  ∀ (k : Fin lpG.trips) (x : Fin 512) (j : Fin 2048) (qt : Vec Ideal S512x128 .bf16), (∀ t : Fin 128, qt (ix2 x t) = q (ix2 (rowK k x) (hc hh t))) →
    sc k kh qt (ix2 x j) = S (rowK k x) j

variable (sc : Sc Ideal) (kh vh : Vec Ideal S2048x128 .bf16) (q : BlkC Ideal) (st : St Ideal)

theorem trip_in (k : Fin lpG.trips) (h : ℕ) (i1 : ∀ a, gO1 h k a + S512x128.size a ≤ S2048x1024.size a)
    (i2 : ∀ a, gO2 h k a + S512x1.size a ≤ S2048x8.size a) (S : Fin 2048 → Fin 2048 → EReal) (hh : Fin 8) (he : hh.val = h) (hS : Scores sc q kh hh S) (x : Fin 512) :
    rowOf (stepF (sc k kh) vh _ i1 _ i2 q st) (rowK k x) hh = upd (S (rowK k x)) (fun j t => vh (ix2 j t)) (rowOf st (rowK k x) hh) := by
  revert i1 i2
  rw [gO1_eq, gO2_eq]
  intro i1 i2
  rw [step_in (sc k kh) vh q st k.val h i1 i2 (rowK k x) hh x rfl he]
  congr 1
  funext j
  refine hS k x j _ fun t => ?_
  exact (rd2 qM.view q (P := 512) (Q := 128) i1 x t (rowK k x) (hc hh t) rfl (by rw [← he])).trans (congrFun (View.read_whole (Val := Elt Ideal) cc0_scratch0 _) _)

theorem trip_out (k : Fin lpG.trips) (h : ℕ) (i1 : ∀ a, gO1 h k a + S512x128.size a ≤ S2048x1024.size a)
    (i2 : ∀ a, gO2 h k a + S512x1.size a ≤ S2048x8.size a) (r : Fin 2048) (hh : Fin 8)
    (ho : (r.val < 512 * k.val ∨ 512 * k.val + 512 ≤ r.val) ∨ hh.val ≠ h) : rowOf (stepF (sc k kh) vh _ i1 _ i2 q st) r hh = rowOf st r hh := by
  revert i1 i2
  rw [gO1_eq, gO2_eq]
  intro i1 i2
  exact step_out (sc k kh) vh q st k.val h i1 i2 r hh ho

theorem trips_out (h : ℕ) (h8 : h < 8) (r : Fin 2048) (hh : Fin 8) (n : ℕ) (hn : n ≤ 4) (ho : 512 * n ≤ r.val ∨ hh.val ≠ h) :
    rowOf (tripsF sc kh vh h h8 q st n) r hh = rowOf st r hh := by
  induction n with
  | zero => rfl
  | succ n ih =>
    have h4 : n < lpG.trips := show n < 4 by omega
    rw [tripsF, dif_pos h4, trip_out sc kh vh q _ ⟨n, h4⟩ h _ _ r hh (by show (_ ∨ 512 * n + 512 ≤ _) ∨ _; omega)]
    exact ih (by omega) (by omega)

theorem trips_in (h : ℕ) (h8 : h < 8) (S : Fin 2048 → Fin 2048 → EReal) (r : Fin 2048) (hh : Fin 8) (he : hh.val = h) (hS : Scores sc q kh hh S) (n : ℕ) (hn : n ≤ 4)
    (hr : r.val < 512 * n) : rowOf (tripsF sc kh vh h h8 q st n) r hh = upd (S r) (fun j t => vh (ix2 j t)) (rowOf st r hh) := by
  induction n with
  | zero => omega
  | succ n ih =>
    have h4 : n < lpG.trips := show n < 4 by omega
    rw [tripsF, dif_pos h4]
    by_cases hlt : r.val < 512 * n
    · rw [trip_out sc kh vh q _ ⟨n, h4⟩ h _ _ r hh (Or.inl (Or.inl hlt))]
      exact ih (by omega) hlt
    · have e : r = rowK ⟨n, h4⟩ ⟨r.val - 512 * n, by omega⟩ := Fin.ext (by show r.val = 512 * n + (r.val - 512 * n); omega)
      rw [e, trip_in sc kh vh q _ ⟨n, h4⟩ h _ _ S hh he hS, ← e, trips_out sc kh vh q st h h8 r hh n (by omega) (by omega)]

/-- A head's loop. -/
theorem head_row (K V : BlkC Ideal) (h : ℕ) (h8 : h < 8) (S : Fin 2048 → Fin 2048 → EReal) (r : Fin 2048) (hh : Fin 8) (hS : hh.val = h → Scores sc q (headOf kM h h8 K) hh S) :
    rowOf (headF sc h h8 q K V st) r hh = if hh.val = h then upd (S r) (fun j t => V (ix2 j (hc hh t))) (rowOf st r hh) else rowOf st r hh := by
  have hr := r.isLt
  unfold headF
  by_cases he : hh.val = h
  · rw [if_pos he, trips_in sc _ _ q st h h8 S r hh he (hS he) lpG.trips (show 4 ≤ 4 by omega) (show r.val < 512 * 4 by omega)]
    congr 1
    funext j t
    exact (rd2 vM.view V (P := 2048) (Q := 128) (hC_inb h8) j t j (hc hh t) (by omega) (by rw [← he])).trans (congrFun (View.read_whole (Val := Elt Ideal) cc0_scratch5 _) _)
  · rw [if_neg he, trips_out sc _ _ q st h h8 r hh lpG.trips (show 4 ≤ 4 by omega) (Or.inr he)]

/-- The eight heads' loops. -/
theorem heads_row (K V : BlkC Ideal) (S : Fin 2048 → Fin 2048 → EReal) (r : Fin 2048) (hh : Fin 8) (hS : ∀ h h8, hh.val = h → Scores sc q (headOf kM h h8 K) hh S) :
    rowOf (headsF sc q K V st) r hh = upd (S r) (fun j t => V (ix2 j (hc hh t))) (rowOf st r hh) := by
  unfold headsF
  rw [head_row sc q _ K V 7 _ S r hh (hS 7 _), head_row sc q _ K V 6 _ S r hh (hS 6 _), head_row sc q _ K V 5 _ S r hh (hS 5 _),
    head_row sc q _ K V 4 _ S r hh (hS 4 _), head_row sc q _ K V 3 _ S r hh (hS 3 _), head_row sc q _ K V 2 _ S r hh (hS 2 _),
    head_row sc q _ K V 1 _ S r hh (hS 1 _), head_row sc q _ K V 0 _ S r hh (hS 0 _)]
  generalize upd (S r) (fun j t => V (ix2 j (hc hh t))) = u
  generalize rowOf st r hh = z
  have h8 := hh.isLt
  rcases (show hh.val = 0 ∨ hh.val = 1 ∨ hh.val = 2 ∨ hh.val = 3 ∨ hh.val = 4 ∨ hh.val = 5 ∨ hh.val = 6 ∨ hh.val = 7 by omega) with h | h | h | h | h | h | h | h <;> simp [h]

/-! ## The scores -/

/-- A score of a row against a chunk's key. -/
def uS (q K : BlkC Ideal) (hh : Fin 8) (r j : Fin 2048) : EReal := (∑ t : Fin 128, q (ix2 r (hc hh t)) * K (ix2 j (hc hh t))) * Ideal.ofBits .f32 0x3DB504F3#32

theorem uS_at (K : BlkC Ideal) (h : ℕ) (h8 : h < 8) (hh : Fin 8) (he : hh.val = h) (k : Fin lpG.trips) (x : Fin 512) (j : Fin 2048) (qt : Vec Ideal S512x128 .bf16)
    (hq : ∀ t : Fin 128, qt (ix2 x t) = q (ix2 (rowK k x) (hc hh t))) : scU (headOf kM h h8 K) qt (ix2 x j) = uS q K hh (rowK k x) j := by
  rw [scU_at]
  unfold uS
  congr 1
  refine Finset.sum_congr rfl fun t _ => ?_
  rw [hq]
  congr 1
  exact (rd2 kM.view K (P := 2048) (Q := 128) (hC_inb h8) j t j (hc hh t) (by omega) (by rw [← he])).trans (congrFun (View.read_whole (Val := Elt Ideal) cc0_scratch4 _) _)

theorem scores_u (K : BlkC Ideal) (h : ℕ) (h8 : h < 8) (hh : Fin 8) (he : hh.val = h) : Scores scUs q (headOf kM h h8 K) hh (uS q K hh) :=
  fun k x j qt hq => uS_at q K h h8 hh he k x j qt hq

theorem scores_m (K : BlkC Ideal) (h : ℕ) (h8 : h < 8) (hh : Fin 8) (he : hh.val = h) :
    Scores scMs q (headOf kM h h8 K) hh (fun r j => if j.val / 64 ≤ r.val / 64 then uS q K hh r j else ⊥) := fun k x j qt hq =>
  (scM_at k (headOf kM h h8 K) qt x j).trans (by rw [uS_at q K h h8 hh he k x j qt hq])

end Cert.Proof

end
-- ==== Proof.Ends.lean ====
module

public import proofs.«01_k».proof.Proof.Heads
public import proofs.«01_k».proof.Proof.Final

/-! The kernel's queries, initial state, division and output product over the extended reals. -/

@[expose] public section

noncomputable section

namespace Cert.Proof

open Cert.KernelIdeal Cert.KernelIdeal.Gen

open Idealize.ShloMosaic
open Idealize.ShloMosaic.TcCoe
open Idealize.ShloMosaic.ValueIdx
open scoped BigOperators

/-- A plain product with a zero accumulator. -/
theorem mm0 {M K N : ℕ} (A : FVec Ideal ⟨2, ![M, K]⟩ .bf16) (B : FVec Ideal ⟨2, ![K, N]⟩ .bf16) (r : Fin M) (c : Fin N) :
    FloatOps.matmul (DotDims.plain M K N) none A B (constant (F := Ideal) ⟨2, ![M, N]⟩ .f32 0x00000000#32) (ix2 r c) = ∑ k : Fin K, A (ix2 r k) * B (ix2 k c) :=
  (Ideal.matmul_plain_apply none A B _ r c).trans (by
    show Ideal.ofBits .f32 0x00000000#32 + _ = _
    rw [Ideal.ofBits_zero_f32, zero_add])

/-! ## The queries -/

theorem projV_at (w : Vec Ideal S1024x1024 .bf16) (x : Vec Ideal S512x1024 .bf16) (a : Fin 512) (c : Fin 1024) :
    projV w x (ix2 a c) = ∑ k : Fin 1024, x (ix2 a k) * w (ix2 k c) := by
  have ex := Memref.readAt_unit_zero (Elt Ideal) cc0_scratch6 zero2 inb_S512x1024_S512x1024_0_0 x
  have ew := Memref.readAt_unit_zero (Elt Ideal) cc0_stg0_0 zero2 inb_S1024x1024_S1024x1024_0_0 w
  unfold projV
  rw [shapeCast_self]
  refine (congrArg₂ (fun (x' : Vec Ideal S512x1024 .bf16) (w' : Vec Ideal S1024x1024 .bf16) => matmul (F := Ideal) (φ₁ := .bf16) (φ₂ := .bf16) dot_S512x1024_S1024x1024_S512x1024_1_0_0_1_n_n none x'
    (shapeCast S1024x1024 w' shapeCasts_S1024x1024_S1024x1024) (constant (F := Ideal) S512x1024 .f32 0x00000000#32) (ix2 a c)) ex ew).trans ?_
  rw [shapeCast_self]
  exact mm0 x w a c

theorem projF_at (X : BlkC Ideal) (w : Vec Ideal S1024x1024 .bf16) (q : BlkC Ideal) (o : ℕ)
    (hi : ∀ a, (![o, 0] : Fin 2 → ℕ) a + S512x1024.size a ≤ S2048x1024.size a) (r : Fin 2048) (c : Fin 1024) :
    projF o hi X w q (ix2 r c) = if o ≤ r.val ∧ r.val < o + 512 then ∑ k : Fin 1024, X (ix2 r k) * w (ix2 k c) else q (ix2 r c) := by
  rw [projF_apply X w q o hi (ix2 r c)]
  by_cases h : o ≤ r.val ∧ r.val < o + 512
  · rw [dif_pos h, if_pos h]
    have e : Rect.unitLocal (s := S2048x1024) (off := ![o, 0]) (size := S512x1024.size) (ix2 r c) (Rect.unit_rows_mem (ix2 r c) rfl rfl h)
        = (ix2 (⟨r.val - o, by omega⟩ : Fin 512) c : S512x1024.Idx) := by
      funext d; apply Fin.ext
      match d with
      | ⟨0, _⟩ => rfl
      | ⟨1, _⟩ => rfl
    refine (congrArg _ e).trans ((projV_at w _ _ c).trans (Finset.sum_congr rfl fun k _ => ?_))
    refine congrArg (· * w (ix2 k c)) ?_
    exact (rd2 xM.view X (P := 512) (Q := 1024) hi ⟨r.val - o, by omega⟩ k r k (by show r.val = o + (r.val - o); omega) (by omega)).trans
      (congrFun (View.read_whole (Val := Elt Ideal) main_arg0 _) _)
  · rw [dif_neg h, if_neg h]

/-- The queries. -/
theorem qOf_at (X : BlkC Ideal) (w : Vec Ideal S1024x1024 .bf16) (r : Fin 2048) (c : Fin 1024) : qOf X w (ix2 r c) = ∑ k : Fin 1024, X (ix2 r k) * w (ix2 k c) := by
  have hr := r.isLt
  unfold qOf projsF
  rw [projF_at X w _ 1536, projF_at X w _ 1024, projF_at X w _ 512, projF_at X w _ 0]
  generalize (∑ k : Fin 1024, X (ix2 r k) * w (ix2 k c)) = S
  split_ifs <;> first | rfl | omega

/-! ## The initial state -/

/-- The initial running maximum. -/
def M0 : EReal := Ideal.ofBits .f32 0xF149F2CA#32

theorem st0_row (r : Fin 2048) (h : Fin 8) : rowOf (st0 (F := Ideal)) r h = (M0, 0, fun _ => 0) := by
  have ec (s : St Ideal) : (initF s).c = shapeCast S2048x1024 (broadcast S2048x1024 (Scalar.ofBits .f32 0x00000000#32 : Ideal .f32)) shapeCasts_S2048x1024_S2048x1024 := by
    have h := writes_all (Val := Elt Ideal) cc0_scratch1 s.c (shapeCast S2048x1024 (broadcast S2048x1024 (Scalar.ofBits .f32 0x00000000#32 : Ideal .f32)) shapeCasts_S2048x1024_S2048x1024) zero2 inb_S2048x1024_S2048x1024_0_0
    unfold initF
    exact h
  have em (s : St Ideal) : (initF s).m = shapeCast S2048x8 (broadcast S2048x8 (Scalar.ofBits .f32 0xF149F2CA#32 : Ideal .f32)) shapeCasts_S2048x8_S2048x8 := by
    have h := writes_all (Val := Elt Ideal) cc0_scratch2 s.m (shapeCast S2048x8 (broadcast S2048x8 (Scalar.ofBits .f32 0xF149F2CA#32 : Ideal .f32)) shapeCasts_S2048x8_S2048x8) zero2 inb_S2048x8_S2048x8_0_0
    unfold initF
    exact h
  have el (s : St Ideal) : (initF s).l = shapeCast S2048x8 (broadcast S2048x8 (Scalar.ofBits .f32 0x00000000#32 : Ideal .f32)) shapeCasts_S2048x8_S2048x8 := by
    have h := writes_all (Val := Elt Ideal) cc0_scratch3 s.l (shapeCast S2048x8 (broadcast S2048x8 (Scalar.ofBits .f32 0x00000000#32 : Ideal .f32)) shapeCasts_S2048x8_S2048x8) zero2 inb_S2048x8_S2048x8_0_0
    unfold initF
    exact h
  unfold st0 rowOf
  rw [ec, em, el, shapeCast_self, shapeCast_self, shapeCast_self]
  refine Prod.ext rfl (Prod.ext ?_ (funext fun t => ?_))
  · exact Ideal.ofBits_zero_f32
  · exact Ideal.ofBits_zero_f32

/-! ## The division -/

theorem div_col (l : Vec Ideal S2048x1 .f32) (r : Fin 2048) (t : Fin 128) : broadcastTo S2048x128 l broadcasts_S2048x1_S2048x128 (ix2 r t) = l (ix2 r 0) := by
  refine broadcastTo_apply l _ _ _ fun ax => ?_
  match ax with
  | ⟨0, _⟩ => rfl
  | ⟨1, _⟩ => rfl

theorem wrH_in (f : Vec Ideal S2048x1024 .f32) (w : Vec Ideal S2048x128 .f32) (h : ℕ) (h8 : h < 8) (r : Fin 2048) (t : Fin 128) (b : Fin 1024) (hb : b.val = 128 * h + t.val) :
    cM.view.writes (Elt Ideal) f [⟨Rect.unit (s := S2048x1024) ![0, 128 * h] S2048x128.size (hC_inb h8), w⟩] (ix2 r b) = w (ix2 r t) :=
  Eq.trans (congrFun (View.read_whole (Val := Elt Ideal) cc0_scratch1 _).symm (ix2 r b)) (wr2_in cM.view f (P := 2048) (Q := 128) (hC_inb h8) w r t r b (by omega) hb)

theorem wrH_out (f : Vec Ideal S2048x1024 .f32) (w : Vec Ideal S2048x128 .f32) (h : ℕ) (h8 : h < 8) (r : Fin 2048) (b : Fin 1024) (ho : b.val < 128 * h ∨ 128 * h + 128 ≤ b.val) :
    cM.view.writes (Elt Ideal) f [⟨Rect.unit (s := S2048x1024) ![0, 128 * h] S2048x128.size (hC_inb h8), w⟩] (ix2 r b) = f (ix2 r b) :=
  Eq.trans (congrFun (View.read_whole (Val := Elt Ideal) cc0_scratch1 _).symm (ix2 r b))
    ((wr2_out cM.view f (P := 2048) (Q := 128) (hC_inb h8) w r b (Or.inr ho)).trans (congrFun (View.read_whole (Val := Elt Ideal) cc0_scratch1 _) (ix2 r b)))

/-- A row's division. -/
def divRow (s : RowSt (Fin 128)) : RowSt (Fin 128) := (s.1, s.2.1, fun t => Ideal.div (s.2.2 t) s.2.1)

theorem div_row (s : St Ideal) (h : ℕ) (h8 : h < 8) (r : Fin 2048) (hh : Fin 8) :
    rowOf (divF h h8 s) r hh = if hh.val = h then divRow (rowOf s r hh) else rowOf s r hh := by
  have hl : hh.val = h → lM.view.readAt (Elt Ideal) (Rect.unit (s := S2048x8) ![0, h] S2048x1.size (hL_inb h8)).toLoadRect s.l (ix2 r (0 : Fin 1)) = s.l (ix2 r hh) := fun he =>
    (rd2 lM.view s.l (P := 2048) (Q := 1) (hL_inb h8) r 0 r hh (by omega) (by rw [he]; rfl)).trans (congrFun (View.read_whole (Val := Elt Ideal) cc0_scratch3 _) _)
  have hcc : hh.val = h → ∀ t : Fin 128, cM.view.readAt (Elt Ideal) (Rect.unit (s := S2048x1024) ![0, 128 * h] S2048x128.size (hC_inb h8)).toLoadRect s.c (ix2 r t) = s.c (ix2 r (hc hh t)) := fun he t =>
    (rd2 cM.view s.c (P := 2048) (Q := 128) (hC_inb h8) r t r (hc hh t) (by omega) (by rw [← he])).trans (congrFun (View.read_whole (Val := Elt Ideal) cc0_scratch1 _) _)
  unfold divF rowOf divRow
  generalize lM.view.readAt (Elt Ideal) (Rect.unit (s := S2048x8) ![0, h] S2048x1.size (hL_inb h8)).toLoadRect s.l = lt at hl ⊢
  generalize cM.view.readAt (Elt Ideal) (Rect.unit (s := S2048x1024) ![0, 128 * h] S2048x128.size (hC_inb h8)).toLoadRect s.c = ct at hcc ⊢
  by_cases he : hh.val = h
  · rw [if_pos he]
    refine Prod.ext rfl (Prod.ext rfl (funext fun t => ?_))
    dsimp only
    rw [wrH_in s.c _ h h8 r t (hc hh t) (by rw [← he])]
    refine (congrFun (shapeCast_self (s := S2048x128) (divf (F := Ideal) (s := S2048x128) (φ := .f32) ct (broadcastTo S2048x128 lt broadcasts_S2048x1_S2048x128)) _) (ix2 r t)).trans ?_
    exact congrArg₂ Ideal.div (hcc he t) ((div_col lt r t).trans (hl he))
  · rw [if_neg he]
    refine Prod.ext rfl (Prod.ext rfl (funext fun t => ?_))
    have ht := t.isLt
    dsimp only
    rw [wrH_out s.c _ h h8 r (hc hh t) (by show 128 * hh.val + t.val < _ ∨ _ ≤ 128 * hh.val + t.val; omega)]

theorem divs_row (s : St Ideal) (r : Fin 2048) (hh : Fin 8) : rowOf (divsF s) r hh = divRow (rowOf s r hh) := by
  unfold divsF
  rw [div_row _ 7, div_row _ 6, div_row _ 5, div_row _ 4, div_row _ 3, div_row _ 2, div_row _ 1, div_row _ 0]
  generalize rowOf s r hh = z
  have h8 := hh.isLt
  rcases (show hh.val = 0 ∨ hh.val = 1 ∨ hh.val = 2 ∨ hh.val = 3 ∨ hh.val = 4 ∨ hh.val = 5 ∨ hh.val = 6 ∨ hh.val = 7 by omega) with h | h | h | h | h | h | h | h <;> simp [h]

/-! ## The output product -/

theorem outF_at (wo : Vec Ideal S1024x1024 .bf16) (s : St Ideal) (r : Fin 2048) (c : Fin 1024) :
    outF wo s (ix2 r c) = ∑ k : Fin 1024, s.c (ix2 r k) * wo (ix2 k c) := by
  have ex := Memref.readAt_unit_zero (Elt Ideal) cc0_scratch1 zero2 inb_S2048x1024_S2048x1024_0_0 s.c
  have ew := Memref.readAt_unit_zero (Elt Ideal) cc0_stg1_0 zero2 inb_S1024x1024_S1024x1024_0_0 wo
  unfold outF
  refine (congrArg₂ (fun (x' : Vec Ideal S2048x1024 .f32) (w' : Vec Ideal S1024x1024 .bf16) => matmul (F := Ideal) (φ₁ := .bf16) (φ₂ := .bf16) dot_S2048x1024_S1024x1024_S2048x1024_1_0_0_1_n_n none (truncf .bf16 x' bitsLt_bf16_f32)
    (shapeCast S1024x1024 w' shapeCasts_S1024x1024_S1024x1024) (constant (F := Ideal) S2048x1024 .f32 0x00000000#32) (ix2 r c)) ex ew).trans ?_
  rw [shapeCast_self]
  exact mm0 (M := 2048) (K := 1024) (N := 1024) s.c wo r c

end Cert.Proof

end
-- ==== Proof.Chunks.lean ====
module

public import proofs.«01_k».proof.Proof.Ends
public import proofs.«01_k».proof.Proof.Soft

/-! What a device's rows hold after all its chunks: the softmax-weighted sums of the values. -/

@[expose] public section

noncomputable section

namespace Cert.Proof

open Cert.KernelIdeal Cert.KernelIdeal.Gen

open Idealize.ShloMosaic
open Idealize.ShloMosaic.TcCoe
open Idealize.ShloMosaic.ValueIdx
open scoped BigOperators

/-! ## Real numbers -/

/-- A word whose exponent isn't all ones is a real number. -/
theorem ieee_real (e k : ℕ) {w : ℕ} (b : BitVec w) (h : (b.extractLsb' k e).toNat ≠ 2 ^ e - 1) : ∃ a : ℝ, Ideal.ieee e k b = (a : EReal) := by
  unfold Ideal.ieee
  dsimp only
  rw [if_neg h]
  split
  · exact ⟨_, rfl⟩
  · exact ⟨_, rfl⟩

theorem scale_real : ∃ a : ℝ, Ideal.ofBits .f32 0x3DB504F3#32 = (a : EReal) := by
  unfold Ideal.ofBits
  exact ieee_real 8 23 _ (by decide)

theorem M0_real : ∃ a : ℝ, M0 = (a : EReal) := by
  unfold M0 Ideal.ofBits
  exact ieee_real 8 23 _ (by decide)

theorem real_mul {x y : EReal} (hx : ∃ a : ℝ, x = (a : EReal)) (hy : ∃ a : ℝ, y = (a : EReal)) : ∃ a : ℝ, x * y = (a : EReal) := by
  obtain ⟨a, rfl⟩ := hx
  obtain ⟨b, rfl⟩ := hy
  exact ⟨a * b, (EReal.coe_mul a b).symm⟩

theorem real_sum {ι : Type} (A : Finset ι) (f : ι → EReal) (h : ∀ i, ∃ a : ℝ, f i = (a : EReal)) : ∃ a : ℝ, ∑ i ∈ A, f i = (a : EReal) := by
  choose g hg using h
  exact ⟨∑ i ∈ A, g i, (Finset.sum_congr rfl fun i _ => hg i).trans (coe_sum_real A g).symm⟩

/-- Scores of real queries and keys are real. -/
theorem uS_real (q K : BlkC Ideal) (hh : Fin 8) (r j : Fin 2048) (hq : ∀ y, ∃ a : ℝ, q y = (a : EReal)) (hK : ∀ y, ∃ a : ℝ, K y = (a : EReal)) :
    ∃ a : ℝ, uS q K hh r j = (a : EReal) := by
  unfold uS
  exact real_mul (real_sum _ _ fun t => real_mul (hq _) (hK _)) scale_real

/-- Queries of real rows and weights are real. -/
theorem qOf_real (X : BlkC Ideal) (w : Vec Ideal S1024x1024 .bf16) (hX : ∀ y, ∃ a : ℝ, X y = (a : EReal)) (hw : ∀ y, ∃ a : ℝ, w y = (a : EReal)) (y : S2048x1024.Idx) :
    ∃ a : ℝ, qOf X w y = (a : EReal) := by
  have g : ∀ (r : Fin 2048) (c : Fin 1024), ∃ a : ℝ, qOf X w (ix2 r c) = (a : EReal) := fun r c => by
    rw [qOf_at]
    exact real_sum _ _ fun k => real_mul (hX _) (hw _)
  obtain ⟨a, ha⟩ := g (y 0) (y 1)
  exact ⟨a, (congrArg (qOf X w) (eq_ix2 y)).trans ha⟩

/-! ## The chunks -/

variable (m : (ℓ : Loc nD τ sig) → Buf (Elt Ideal) ℓ) (X : BlkC Ideal) (w : Vec Ideal S1024x1024 .bf16)

/-- A row's scores on device `d`, chunk by chunk: earlier chunks whole, its own masked, later ones not at all. -/
def cS (d : Dev nD) (hh : Fin 8) (r : Fin 2048) (e : Fin 4) (j : Fin 2048) : EReal :=
  if e.val < d.val then uS (qOf X w) (Kof m e) hh r j
  else if e.val = d.val then (if j.val / 64 ≤ r.val / 64 then uS (qOf X w) (Kof m e) hh r j else ⊥) else ⊥

/-- A head's values, chunk by chunk. -/
def cV (hh : Fin 8) (e : Fin 4) (j : Fin 2048) (t : Fin 128) : EReal := Vof m e (ix2 j (hc hh t))

theorem cS_lt (d : Dev nD) (hh : Fin 8) (r : Fin 2048) (e : Fin 4) (h : e.val < d.val) : cS m X w d hh r e = uS (qOf X w) (Kof m e) hh r := by
  funext j; unfold cS; rw [if_pos h]

theorem cS_own (d : Dev nD) (hh : Fin 8) (r : Fin 2048) :
    cS m X w d hh r d = fun j => if j.val / 64 ≤ r.val / 64 then uS (qOf X w) (Kof m d) hh r j else ⊥ := by
  funext j; unfold cS; rw [if_neg (lt_irrefl _), if_pos rfl]

theorem cS_gt (d : Dev nD) (hh : Fin 8) (r : Fin 2048) (e : Fin 4) (h : d.val < e.val) (j : Fin 2048) : cS m X w d hh r e j = ⊥ := by
  unfold cS; rw [if_neg (not_lt.2 h.le), if_neg h.ne']

variable (hX : ∀ y, ∃ a : ℝ, X y = (a : EReal)) (hw : ∀ y, ∃ a : ℝ, w y = (a : EReal)) (hK : ∀ e y, ∃ a : ℝ, Kof m e y = (a : EReal))

include hX hw hK in
theorem cS_ne_top (d : Dev nD) (hh : Fin 8) (r : Fin 2048) (e : Fin 4) (j : Fin 2048) : cS m X w d hh r e j ≠ ⊤ := by
  obtain ⟨a, ha⟩ := uS_real (qOf X w) (Kof m e) hh r j (qOf_real X w hX hw) (hK e)
  unfold cS
  rw [ha]
  split
  · exact EReal.coe_ne_top a
  · split
    · split
      · exact EReal.coe_ne_top a
      · exact bot_ne_top
    · exact bot_ne_top

include hX hw hK in
/-- The row's own position is visible. -/
theorem cS_own_ne_bot (d : Dev nD) (hh : Fin 8) (r : Fin 2048) : cS m X w d hh r d r ≠ ⊥ := by
  obtain ⟨a, ha⟩ := uS_real (qOf X w) (Kof m d) hh r r (qOf_real X w hX hw) (hK d)
  rw [cS_own]
  dsimp only
  rw [if_pos (le_refl _), ha]
  exact EReal.coe_ne_bot a

include hX hw hK in
/-- The device's own chunk, taken first. -/
theorem own_taken (d : Dev nD) (hh : Fin 8) (r : Fin 2048) :
    Taken (cS m X w d hh r) (cV m hh) {d} (rowOf (headsF scMs (qOf X w) (Kof m d) (Vof m d) st0) r hh) := by
  obtain ⟨a, ha⟩ := M0_real
  have h := heads_row scMs (qOf X w) st0 (Kof m d) (Vof m d) (fun r j => if j.val / 64 ≤ r.val / 64 then uS (qOf X w) (Kof m d) hh r j else ⊥) r hh
    (fun h h8 he => scores_m (qOf X w) (Kof m d) h h8 hh he)
  rw [h, st0_row, ha]
  have t := taken_step (cS m X w d hh r) (cV m hh) ∅ _ d (Finset.notMem_empty d) (fun j => cS_ne_top m X w hX hw hK d hh r d j)
    (taken_empty (cS m X w d hh r) (cV m hh) a)
  rw [cS_own] at t
  exact t

include hX hw hK in
/-- An earlier chunk, taken where the condition holds. -/
theorem add_taken (d : Dev nD) (hh : Fin 8) (r : Fin 2048) (A : Finset (Fin 4)) (s : St Ideal) (p : Prop) [Decidable p] (hp : p) (e : Dev nD) (he : e ∉ A) (hlt : e.val < d.val)
    (h : Taken (cS m X w d hh r) (cV m hh) A (rowOf s r hh)) :
    Taken (cS m X w d hh r) (cV m hh) (insert e A) (rowOf (addChunk m p e (qOf X w) s) r hh) := by
  have h2 := heads_row scUs (qOf X w) s (Kof m e) (Vof m e) (uS (qOf X w) (Kof m e) hh) r hh
    (fun h h8 he => scores_u (qOf X w) (Kof m e) h h8 hh he)
  have t := taken_step (cS m X w d hh r) (cV m hh) A _ e he (fun j => cS_ne_top m X w hX hw hK d hh r e j) h
  rw [cS_lt m X w d hh r e hlt] at t
  unfold addChunk
  rw [if_pos hp, h2]
  exact t

theorem four (d : Dev nD) : d = 0 ∨ d = 1 ∨ d = 2 ∨ d = 3 := by revert d; decide

theorem row_c (s : St Ideal) (r : Fin 2048) (hh : Fin 8) (t : Fin 128) : s.c (ix2 r (hc hh t)) = (rowOf s r hh).2.2 t := rfl

theorem skip_chunk (s : St Ideal) (p : Prop) [Decidable p] (hp : ¬p) (e : Dev nD) : addChunk m p e (qOf X w) s = s := by
  unfold addChunk; rw [if_neg hp]

include hX hw hK in
/-- All the chunks a device takes. -/
theorem end_taken (d : Dev nD) (hh : Fin 8) (r : Fin 2048) :
    ∃ A : Finset (Fin 4), (∀ e, e ∉ A → d.val < e.val) ∧ Taken (cS m X w d hh r) (cV m hh) A (rowOf (endS m d X w) r hh) := by
  have t0 := own_taken m X w hX hw hK d hh r
  unfold endS
  rcases four d with rfl | rfl | rfl | rfl
  · rw [skip_chunk m X w _ _ (by decide), skip_chunk m X w _ _ (by decide), skip_chunk m X w _ _ (by decide)]
    exact ⟨_, by decide, t0⟩
  · rw [skip_chunk m X w _ _ (by decide), skip_chunk m X w _ _ (by decide)]
    exact ⟨_, by decide, add_taken m X w hX hw hK _ hh r _ _ _ (by decide) _ (by decide) (by decide) t0⟩
  · rw [skip_chunk m X w _ ((2 : Dev nD).val = 3) (by decide)]
    exact ⟨_, by decide, add_taken m X w hX hw hK _ hh r _ _ _ (by decide) _ (by decide) (by decide)
      (add_taken m X w hX hw hK _ hh r _ _ _ (by decide) _ (by decide) (by decide) t0)⟩
  · exact ⟨_, by decide, add_taken m X w hX hw hK _ hh r _ _ _ (by decide) _ (by decide) (by decide)
      (add_taken m X w hX hw hK _ hh r _ _ _ (by decide) _ (by decide) (by decide)
        (add_taken m X w hX hw hK _ hh r _ _ _ (by decide) _ (by decide) (by decide) t0))⟩

include hX hw hK in
/-- A head's element of a row of the context, divided: the softmax-weighted sum of the values, over scores and values that
    agree with the chunks'. -/
theorem ctx_at (d : Dev nD) (hh : Fin 8) (r : Fin 2048) (t : Fin 128) (at' : Fin 4 → Fin 2048 → Fin 8192) (hat : ∀ e j, (at' e j).val = 2048 * e.val + j.val)
    (σ : Fin 8192 → EReal) (v : Fin 8192 → EReal) (hσ : ∀ e j, σ (at' e j) = cS m X w d hh r e j) (hv : ∀ e j, v (at' e j) = Vof m e (ix2 j (hc hh t))) :
    (divsF (endS m d X w)).c (ix2 r (hc hh t)) = refRow σ v := by
  obtain ⟨A, hA, hT⟩ := end_taken m X w hX hw hK d hh r
  rw [row_c, divs_row]
  generalize rowOf (endS m d X w) r hh = z at hT ⊢
  show Ideal.div (z.2.2 t) z.2.1 = _
  have hs : ∀ x : Fin 8192, ∃ e j, x = at' e j := fun x => by
    have hx := x.isLt
    refine ⟨⟨x.val / 2048, by omega⟩, ⟨x.val % 2048, Nat.mod_lt _ (by norm_num)⟩, Fin.ext ?_⟩
    rw [hat]
    exact (Nat.div_add_mod x.val 2048).symm
  have hT' : Taken (cS m X w d hh r) (fun e j (_ : Unit) => cV m hh e j t) A
      (z.1, z.2.1, fun _ => z.2.2 t) := by
    obtain ⟨M, h1, h2, h3⟩ := hT
    exact ⟨M, h1, h2, fun _ => h3 t⟩
  exact taken_done (T := Unit) at' hat (by norm_num) σ (fun x _ => v x) (cS m X w d hh r) (fun e j _ => cV m hh e j t) hσ (fun e j _ => hv e j) A _ hT'
    (fun x => by obtain ⟨e, j, rfl⟩ := hs x; rw [hσ]; exact cS_ne_top m X w hX hw hK d hh r e j)
    (fun e he j => cS_gt m X w d hh r e (hA e he) j) d r (cS_own_ne_bot m X w hX hw hK d hh r) ()

end Cert.Proof

end
-- ==== Proof.RefTerm.lean ====
module

public import proofs.«01_k».proof.Proof.Gen.ReferenceIdeal.Run

/-! The reference's result, cut into its stages. -/

@[expose] public section

noncomputable section

namespace Cert.Proof

open Cert.ReferenceIdeal Cert.ReferenceIdeal.Gen Cert.ReferenceIdeal.Value

open Idealize.ShloMosaic
open Idealize.ShloMosaic.TcCoe

variable {F : FTy → Type} [FloatOps F]

/-- The block of every position. -/
def rBlk : IVec S8192 32 :=
  select (andi (cmpi .ne (signi (iotaInDim S8192 32 0)) (broadcastInDim S8192 ![] bcast_S_S8192 (signi (id (constantI S_ 32 64#32)))))
      (cmpi .ne (Host.remsi (iotaInDim S8192 32 0) (broadcastInDim S8192 ![] bcast_S_S8192 (id (constantI S_ 32 64#32))))
        (broadcastInDim S8192 ![] bcast_S_S8192 (constantI S_ 32 0#32))))
    (subi (Host.divsi (iotaInDim S8192 32 0) (broadcastInDim S8192 ![] bcast_S_S8192 (id (constantI S_ 32 64#32))))
      (broadcastInDim S8192 ![] bcast_S_S8192 (constantI S_ 32 1#32)))
    (Host.divsi (iotaInDim S8192 32 0) (broadcastInDim S8192 ![] bcast_S_S8192 (id (constantI S_ 32 64#32))))

/-- Which positions a row sees. -/
def rVis : IVec S8192x8192 1 :=
  cmpi .sle (broadcastInDim S8192x8192 ![0, 1] bcast_S1x8192_S8192x8192_0_1 (broadcastInDim S1x8192 ![1] bcast_S8192_S1x8192_1 rBlk))
    (broadcastInDim S8192x8192 ![0, 1] bcast_S8192x1_S8192x8192_0_1 (broadcastInDim S8192x1 ![0] bcast_S8192_S8192x1_0 rBlk))

/-- Whether a row sees any. -/
def rKeep : IVec S8192 1 := Host.reduce IntOp.ori rVis (constantI S_ 1 0#1) reducesTo_S8192x8192_S8192_d1 h_S_

/-- The scores. -/
def rS (X : FVec F S8192x1024 .bf16) (W : FVec F S1024x1024 .bf16) (K : FVec F S8192x1024 .bf16) : FVec F S8x8192x8192 .f32 :=
  mulf (Host.dotGeneral dot_S8192x8x128_S8192x8x128_S8x8192x8192_2_2_0_0_1_1 none
      (shapeCast S8192x8x128 (Host.dotGeneral dot_S8192x1024_S1024x1024_S8192x1024_1_0_0_1_n_n none (extf .f32 X bitsLt_bf16_f32) (extf .f32 W bitsLt_bf16_f32)) shapeCasts_S8192x1024_S8192x8x128)
      (shapeCast S8192x8x128 (extf .f32 K bitsLt_bf16_f32) shapeCasts_S8192x1024_S8192x8x128))
    (broadcastInDim S8x8192x8192 ![] bcast_S_S8x8192x8192 (constant S_ .f32 0x3DB504F3#32))

/-- The masked scores. -/
def rM (s : FVec F S8x8192x8192 .f32) : FVec F S8x8192x8192 .f32 :=
  select (broadcastInDim S8x8192x8192 ![0, 1, 2] bcast_S1x8192x8192_S8x8192x8192_0_1_2 (broadcastInDim S1x8192x8192 ![1, 2] bcast_S8192x8192_S1x8192x8192_1_2 rVis))
    s (broadcastInDim S8x8192x8192 ![] bcast_S_S8x8192x8192 (id (constant S_ .f32 0xFF800000#32)))

/-- The exponentials of the scores below their row's maximum. -/
def rE (s : FVec F S8x8192x8192 .f32) : FVec F S8x8192x8192 .f32 :=
  Host.exp (subf s (broadcastInDim S8x8192x8192 ![0, 1, 2] bcast_S8x8192x1_S8x8192x8192_0_1_2 (broadcastInDim S8x8192x1 ![0, 1] bcast_S8x8192_S8x8192x1_0_1
    (Host.reduce FloatOps.maximumf s (constant S_ .f32 0xFF800000#32) reducesTo_S8x8192x8192_S8x8192_d2 h_S_))))

/-- The weights. -/
def rW (e : FVec F S8x8192x8192 .f32) : FVec F S8x8192x8192 .f32 :=
  select (broadcastInDim S8x8192x8192 ![0, 1, 2] bcast_S1x8192x1_S8x8192x8192_0_1_2 (broadcastInDim S1x8192x1 ![1] bcast_S8192_S1x8192x1_1 rKeep))
    (Host.divf e (broadcastInDim S8x8192x8192 ![0, 1, 2] bcast_S8x8192x1_S8x8192x8192_0_1_2
      (select (broadcastInDim S8x8192x1 ![0, 1, 2] bcast_S1x8192x1_S8x8192x1_0_1_2 (broadcastInDim S1x8192x1 ![1] bcast_S8192_S1x8192x1_1 rKeep))
        (broadcastInDim S8x8192x1 ![0, 1] bcast_S8x8192_S8x8192x1_0_1 (Host.reduceAdd e (constant S_ .f32 0x00000000#32) reducesTo_S8x8192x8192_S8x8192_d2 h_S_))
        (broadcastInDim S8x8192x1 ![] bcast_S_S8x8192x1 (id (constant S_ .f32 0x3F800000#32))))))
    (broadcastInDim S8x8192x8192 ![] bcast_S_S8x8192x8192 (id (constant S_ .f32 0x00000000#32)))

/-- The result from the weights. -/
def rOut (V : FVec F S8192x1024 .bf16) (w : FVec F S8x8192x8192 .f32) (O : FVec F S1024x1024 .bf16) : FVec F S8192x1024 .f32 :=
  Host.dotGeneral dot_S8192x1024_S1024x1024_S8192x1024_1_0_0_1_n_n none
    (shapeCast S8192x1024 (transpose S8192x8x128 [2, 0, 1] (Host.dotGeneral dot_S8192x8x128_S8x8192x8192_S8x128x8192_0_2_2_1_1_0 none
      (shapeCast S8192x8x128 (extf .f32 V bitsLt_bf16_f32) shapeCasts_S8192x1024_S8192x8x128) w) transposes_S8x128x8192_S8192x8x128_2_0_1) shapeCasts_S8192x8x128_S8192x1024)
    (extf .f32 O bitsLt_bf16_f32)

set_option maxRecDepth 8192 in
/-- The reference's result is its stages'. -/
theorem res_eq (m : (ℓ : Loc nD τ sig) → Buf (Elt F) ℓ) (c : Dev nD) :
    res_main_v40 m c = rOut (m ((c.tc : Thread nD τ).loc main_arg3))
      (rW (rE (rM (rS (m ((c.tc : Thread nD τ).loc main_arg0)) (m ((c.tc : Thread nD τ).loc main_arg1)) (m ((c.tc : Thread nD τ).loc main_arg2)))))) (m ((c.tc : Thread nD τ).loc main_arg4)) := by
  unfold res_main_v40 rOut rW rE rM rS rKeep rVis rBlk
  rfl

end Cert.Proof

end
-- ==== Proof.RefEval.lean ====
module

public import proofs.«01_k».proof.Proof.RefTerm
public import proofs.«01_k».proof.Proof.Soft
public import Idealize.ShloMosaic.Lib.ValueIdx
public import Idealize.ShloMosaic.Lib.IdealHost
public import Idealize.ShloMosaic.Lib.StackMember
public import Idealize.ShloMosaic.Lib.Routing.Words

/-! The reference's stages over the extended reals, element by element. -/

@[expose] public section

noncomputable section

namespace Cert.Proof

open Cert.ReferenceIdeal Cert.ReferenceIdeal.Gen Cert.ReferenceIdeal.Value

open Idealize.ShloMosaic
open Idealize.ShloMosaic.TcCoe
open Idealize.ShloMosaic.ValueIdx
open Idealize.ShloMosaic.WordCmp
open scoped BigOperators

/-! ## The mask -/

theorem rBlk_at (n : Fin 8192) : rBlk (ix1 n) = BitVec.ofNat 32 (n.val / 64) := by
  have hn := n.isLt
  exact Routing.pyDiv_ap bcast_S_S8192 (iotaInDim S8192 32 0) (constantI S_ 32 64#32) (ix1 n) (a := n.val) (b := 64) rfl rfl (by omega) (by omega) (by omega)

theorem colB (f : IVec S8192 32) (r j : Fin 8192) :
    broadcastInDim S8192x8192 ![0, 1] bcast_S1x8192_S8192x8192_0_1 (broadcastInDim S1x8192 ![1] bcast_S8192_S1x8192_1 f) (ix2 r j) = f (ix1 j) := by
  refine (broadcastInDim_apply _ _ _ _ (ix2 0 j) fun a => ?_).trans (broadcastInDim_apply _ _ _ _ (ix1 j) fun a => ?_)
  · match a with
    | ⟨0, _⟩ => rfl
    | ⟨1, _⟩ => rfl
  · match a with
    | ⟨0, _⟩ => rfl

theorem rowB (f : IVec S8192 32) (r j : Fin 8192) :
    broadcastInDim S8192x8192 ![0, 1] bcast_S8192x1_S8192x8192_0_1 (broadcastInDim S8192x1 ![0] bcast_S8192_S8192x1_0 f) (ix2 r j) = f (ix1 r) := by
  refine (broadcastInDim_apply _ _ _ _ (ix2 r 0) fun a => ?_).trans (broadcastInDim_apply _ _ _ _ (ix1 r) fun a => ?_)
  · match a with
    | ⟨0, _⟩ => rfl
    | ⟨1, _⟩ => rfl
  · match a with
    | ⟨0, _⟩ => rfl

/-- A row sees a position of its block or an earlier one. -/
theorem rVis_at (r j : Fin 8192) : rVis (ix2 r j) = BitVec.ofBool (decide (j.val / 64 ≤ r.val / 64)) := by
  have hr : r.val / 64 < 2 ^ 31 := lt_of_le_of_lt (Nat.div_le_self _ _) (lt_trans r.isLt (by norm_num))
  have hj : j.val / 64 < 2 ^ 31 := lt_of_le_of_lt (Nat.div_le_self _ _) (lt_trans j.isLt (by norm_num))
  have e := congrArg₂ (IntOp.cmpi .sle) ((colB rBlk r j).trans (rBlk_at j)) ((rowB rBlk r j).trans (rBlk_at r))
  exact e.trans (cmpi_sle_ofNat (w := 32) hj hr)

instance : Std.Commutative (IntOp.ori (w := 1)) := ⟨fun a b => BitVec.or_comm a b⟩
instance : Std.Associative (IntOp.ori (w := 1)) := ⟨fun a b c => BitVec.or_assoc a b c⟩

theorem fold_ori_one {N : ℕ} (g : Fin N → BitVec 1) (i : Fin N) (hi : g i = 1#1) : (Finset.univ : Finset (Fin N)).fold IntOp.ori 0#1 g = 1#1 := by
  rw [← Finset.insert_erase (Finset.mem_univ i), Finset.fold_insert (Finset.notMem_erase i _), hi]
  generalize Finset.fold IntOp.ori 0#1 g _ = y
  revert y; decide

theorem red2 : S8192x8192.Reduces [1] S8192 := by decide
theorem red3 : S8x8192x8192.Reduces [2] S8x8192 := by decide

/-- Every row sees a position. -/
theorem rKeep_at (r : Fin 8192) : rKeep (ix1 r) = 1#1 := by
  unfold rKeep
  rw [Host.reduce_eq_fold_single IntOp.ori rVis _ _ red2]
  refine fold_ori_one _ (r : Fin 8192) ?_
  have e : red2.lift (ix1 r) r = ix2 r r := by
    funext d; apply Fin.ext
    match d with
    | ⟨0, _⟩ => rfl
    | ⟨1, _⟩ => rfl
  show rVis (red2.lift (ix1 r) r) = 1#1
  rw [e, rVis_at]
  simp

/-! ## The scores -/

abbrev hcR (h : Fin 8) (t : Fin 128) : Fin 1024 := ⟨128 * h.val + t.val, by have := h.isLt; have := t.isLt; omega⟩

/-- A row of heads. -/
theorem heads_cast (f : S8192x1024.Idx → EReal) (r : Fin 8192) (h : Fin 8) (t : Fin 128) :
    shapeCast S8192x8x128 f shapeCasts_S8192x1024_S8192x8x128 (ix3 r h t) = f (ix2 r (hcR h t)) := by
  refine shapeCast_apply f _ _ _ ?_
  rw [Shape.rowMajor_val_two, Shape.rowMajor_val_three]
  show r.val * 1024 + (128 * h.val + t.val) = (r.val * 8 + h.val) * 128 + t.val
  omega

theorem heads_back (f : S8192x8x128.Idx → EReal) (r : Fin 8192) (h : Fin 8) (t : Fin 128) :
    shapeCast S8192x1024 f shapeCasts_S8192x8x128_S8192x1024 (ix2 r (hcR h t)) = f (ix3 r h t) := by
  refine shapeCast_apply f _ _ _ ?_
  rw [Shape.rowMajor_val_two, Shape.rowMajor_val_three]
  show (r.val * 8 + h.val) * 128 + t.val = r.val * 1024 + (128 * h.val + t.val)
  omega

theorem dotP (A : FVec Ideal S8192x1024 .f32) (B : FVec Ideal S1024x1024 .f32) (r : Fin 8192) (c : Fin 1024) :
    Host.dotGeneral dot_S8192x1024_S1024x1024_S8192x1024_1_0_0_1_n_n none A B (ix2 r c) = ∑ k : Fin 1024, A (ix2 r k) * B (ix2 k c) :=
  StackMember.dotGeneral_plain_apply none A B r c

theorem dotS (A B : FVec Ideal S8192x8x128 .f32) (h : Fin 8) (r j : Fin 8192) :
    Host.dotGeneral dot_S8192x8x128_S8192x8x128_S8x8192x8192_2_2_0_0_1_1 none A B (ix3 h r j) = ∑ t : Fin 128, A (ix3 r h t) * B (ix3 j h t) := by
  show FloatOps.dotGeneral dot_S8192x8x128_S8192x8x128_S8x8192x8192_2_2_0_0_1_1 none _ A B (ix3 h r j) = _
  rw [Ideal.dotGeneral_apply, ← Equiv.sum_comp (contrEquiv1 dot_S8192x8x128_S8192x8x128_S8x8192x8192_2_2_0_0_1_1 128 rfl rfl).symm]
  refine Finset.sum_congr rfl fun t _ => ?_
  have ht := contrEquiv1_symm_val dot_S8192x8x128_S8192x8x128_S8x8192x8192_2_2_0_0_1_1 128 rfl rfl t
  have l : dot_S8192x8x128_S8192x8x128_S8x8192x8192_2_2_0_0_1_1.lhsIdx (ix3 h r j) ((contrEquiv1 _ 128 rfl rfl).symm t) = ix3 r h t := by
    funext ax; apply Fin.ext
    match ax with
    | ⟨0, _⟩ => simp [DotDims.lhsIdx, dot_S8192x8x128_S8192x8x128_S8x8192x8192_2_2_0_0_1_1]; rfl
    | ⟨1, _⟩ => simp [DotDims.lhsIdx, dot_S8192x8x128_S8192x8x128_S8x8192x8192_2_2_0_0_1_1]; rfl
    | ⟨2, _⟩ => simp [DotDims.lhsIdx, dot_S8192x8x128_S8192x8x128_S8x8192x8192_2_2_0_0_1_1]; exact ht
  have r' : dot_S8192x8x128_S8192x8x128_S8x8192x8192_2_2_0_0_1_1.rhsIdx (ix3 h r j) ((contrEquiv1 _ 128 rfl rfl).symm t) = ix3 j h t := by
    funext ax; apply Fin.ext
    match ax with
    | ⟨0, _⟩ => simp [DotDims.rhsIdx, dot_S8192x8x128_S8192x8x128_S8x8192x8192_2_2_0_0_1_1]; rfl
    | ⟨1, _⟩ => simp [DotDims.rhsIdx, dot_S8192x8x128_S8192x8x128_S8x8192x8192_2_2_0_0_1_1]; rfl
    | ⟨2, _⟩ => simp [DotDims.rhsIdx, dot_S8192x8x128_S8192x8x128_S8x8192x8192_2_2_0_0_1_1]; exact ht
  rw [l, r']

theorem dotV (A : FVec Ideal S8192x8x128 .f32) (B : FVec Ideal S8x8192x8192 .f32) (h : Fin 8) (t : Fin 128) (r : Fin 8192) :
    Host.dotGeneral dot_S8192x8x128_S8x8192x8192_S8x128x8192_0_2_2_1_1_0 none A B (ix3 h t r) = ∑ j : Fin 8192, A (ix3 j h t) * B (ix3 h r j) := by
  show FloatOps.dotGeneral dot_S8192x8x128_S8x8192x8192_S8x128x8192_0_2_2_1_1_0 none _ A B (ix3 h t r) = _
  rw [Ideal.dotGeneral_apply, ← Equiv.sum_comp (contrEquiv1 dot_S8192x8x128_S8x8192x8192_S8x128x8192_0_2_2_1_1_0 8192 rfl rfl).symm]
  refine Finset.sum_congr rfl fun j _ => ?_
  have hj := contrEquiv1_symm_val dot_S8192x8x128_S8x8192x8192_S8x128x8192_0_2_2_1_1_0 8192 rfl rfl j
  have l : dot_S8192x8x128_S8x8192x8192_S8x128x8192_0_2_2_1_1_0.lhsIdx (ix3 h t r) ((contrEquiv1 _ 8192 rfl rfl).symm j) = ix3 j h t := by
    funext ax; apply Fin.ext
    match ax with
    | ⟨0, _⟩ => simp [DotDims.lhsIdx, dot_S8192x8x128_S8x8192x8192_S8x128x8192_0_2_2_1_1_0]; exact hj
    | ⟨1, _⟩ => simp [DotDims.lhsIdx, dot_S8192x8x128_S8x8192x8192_S8x128x8192_0_2_2_1_1_0]; rfl
    | ⟨2, _⟩ => simp [DotDims.lhsIdx, dot_S8192x8x128_S8x8192x8192_S8x128x8192_0_2_2_1_1_0]; rfl
  have r' : dot_S8192x8x128_S8x8192x8192_S8x128x8192_0_2_2_1_1_0.rhsIdx (ix3 h t r) ((contrEquiv1 _ 8192 rfl rfl).symm j) = ix3 h r j := by
    funext ax; apply Fin.ext
    match ax with
    | ⟨0, _⟩ => simp [DotDims.rhsIdx, dot_S8192x8x128_S8x8192x8192_S8x128x8192_0_2_2_1_1_0]; rfl
    | ⟨1, _⟩ => simp [DotDims.rhsIdx, dot_S8192x8x128_S8x8192x8192_S8x128x8192_0_2_2_1_1_0]; rfl
    | ⟨2, _⟩ => simp [DotDims.rhsIdx, dot_S8192x8x128_S8x8192x8192_S8x128x8192_0_2_2_1_1_0]; exact hj
  rw [l, r']

/-- The score of position `j` for row `r`. -/
def sR (X : FVec Ideal S8192x1024 .bf16) (W : FVec Ideal S1024x1024 .bf16) (K : FVec Ideal S8192x1024 .bf16) (h : Fin 8) (r j : Fin 8192) : EReal :=
  (∑ t : Fin 128, (∑ k : Fin 1024, X (ix2 r k) * W (ix2 k (hcR h t))) * K (ix2 j (hcR h t))) * Ideal.ofBits .f32 0x3DB504F3#32

theorem rS_at (X : FVec Ideal S8192x1024 .bf16) (W : FVec Ideal S1024x1024 .bf16) (K : FVec Ideal S8192x1024 .bf16) (h : Fin 8) (r j : Fin 8192) :
    rS X W K (ix3 h r j) = sR X W K h r j := by
  unfold rS sR
  rw [mulf_apply, dotS, broadcastInDim_scalar_apply]
  refine congrArg (· * Ideal.ofBits .f32 0x3DB504F3#32) (Finset.sum_congr rfl fun t _ => ?_)
  rw [heads_cast, heads_cast, dotP]
  rfl

/-- The masked scores. -/
theorem rM_at (s : FVec Ideal S8x8192x8192 .f32) (h : Fin 8) (r j : Fin 8192) :
    rM s (ix3 h r j) = if j.val / 64 ≤ r.val / 64 then s (ix3 h r j) else ⊥ := by
  unfold rM
  have e : broadcastInDim S8x8192x8192 ![0, 1, 2] bcast_S1x8192x8192_S8x8192x8192_0_1_2 (broadcastInDim S1x8192x8192 ![1, 2] bcast_S8192x8192_S1x8192x8192_1_2 rVis) (ix3 h r j)
      = BitVec.ofBool (decide (j.val / 64 ≤ r.val / 64)) := by
    rw [← rVis_at r j]
    refine (broadcastInDim_apply _ _ _ _ (ix3 0 r j) fun a => ?_).trans (broadcastInDim_apply _ _ _ _ (ix2 r j) fun a => ?_)
    · match a with
      | ⟨0, _⟩ => rfl
      | ⟨1, _⟩ => rfl
      | ⟨2, _⟩ => rfl
    · match a with
      | ⟨0, _⟩ => rfl
      | ⟨1, _⟩ => rfl
  have eb : broadcastInDim S8x8192x8192 ![] bcast_S_S8x8192x8192 (id (constant (F := Ideal) S_ .f32 0xFF800000#32)) (ix3 h r j) = ⊥ := by
    rw [broadcastInDim_scalar_apply]
    show Ideal.ofBits .f32 0xFF800000#32 = ⊥
    simp [Ideal.ofBits, Ideal.ieee]
  rw [select_apply, e, eb]
  unfold Scalar.select
  by_cases hh : j.val / 64 ≤ r.val / 64
  · rw [if_pos hh]; exact if_pos (by simp [hh])
  · rw [if_neg hh]; exact if_neg (by simp [hh])

/-- A row's last value, spread over its positions. -/
theorem spread (f : FVec Ideal S8x8192x1 .f32) (h : Fin 8) (r j : Fin 8192) :
    broadcastInDim S8x8192x8192 ![0, 1, 2] bcast_S8x8192x1_S8x8192x8192_0_1_2 f (ix3 h r j) = f (ix3 h r 0) := by
  refine broadcastInDim_apply _ _ _ _ (ix3 h r 0) fun a => ?_
  match a with
  | ⟨0, _⟩ => rfl
  | ⟨1, _⟩ => rfl
  | ⟨2, _⟩ => rfl

theorem column (f : FVec Ideal S8x8192 .f32) (h : Fin 8) (r : Fin 8192) :
    broadcastInDim S8x8192x1 ![0, 1] bcast_S8x8192_S8x8192x1_0_1 f (ix3 h r 0) = f (ix2 h r) := by
  refine broadcastInDim_apply _ _ _ _ (ix2 h r) fun a => ?_
  match a with
  | ⟨0, _⟩ => rfl
  | ⟨1, _⟩ => rfl

theorem lift3 (h : Fin 8) (r j : Fin 8192) : red3.lift (ix2 h r) j = ix3 h r j := by
  funext d; apply Fin.ext
  match d with
  | ⟨0, _⟩ => rfl
  | ⟨1, _⟩ => rfl
  | ⟨2, _⟩ => rfl

/-- The exponentials. -/
theorem rE_at (s : FVec Ideal S8x8192x8192 .f32) (h : Fin 8) (r j : Fin 8192) :
    rE s (ix3 h r j) = Ideal.exp (s (ix3 h r j) - (Finset.univ : Finset (Fin 8192)).fold max ⊥ (fun i => s (ix3 h r i))) := by
  unfold rE
  have e : Host.reduce (FloatOps.maximumf (F := Ideal) (φ := .f32)) s (constant (F := Ideal) S_ .f32 0xFF800000#32) reducesTo_S8x8192x8192_S8x8192_d2 h_S_ (ix2 h r)
      = (Finset.univ : Finset (Fin 8192)).fold max ⊥ (fun i => s (ix3 h r i)) := by
    refine (Host.reduce_eq_fold_single (α := EReal) max s _ _ red3 _ (ix2 h r)).trans ?_
    have eb : Ideal.ofBits .f32 0xFF800000#32 = ⊥ := by simp [Ideal.ofBits, Ideal.ieee]
    show (Finset.univ : Finset (Fin 8192)).fold max (Ideal.ofBits .f32 0xFF800000#32) (fun i => s (red3.lift (ix2 h r) i)) = _
    rw [eb]
    exact congrArg (fun g => (Finset.univ : Finset (Fin 8192)).fold max ⊥ g) (funext fun i => congrArg s (lift3 h r i))
  generalize Host.reduce (FloatOps.maximumf (F := Ideal) (φ := .f32)) s (constant (F := Ideal) S_ .f32 0xFF800000#32) reducesTo_S8x8192x8192_S8x8192_d2 h_S_ = M at e ⊢
  have e2 := (spread _ h r j).trans ((column M h r).trans e)
  exact congrArg (fun z => Ideal.exp (s (ix3 h r j) - z)) e2

/-- The weights. -/
theorem rW_at (e : FVec Ideal S8x8192x8192 .f32) (h : Fin 8) (r j : Fin 8192) :
    rW e (ix3 h r j) = Ideal.div (e (ix3 h r j)) (∑ i : Fin 8192, e (ix3 h r i)) := by
  unfold rW
  have k0 : ∀ z : Fin 1, broadcastInDim S1x8192x1 ![1] bcast_S8192_S1x8192x1_1 rKeep (ix3 z r (0 : Fin 1)) = 1#1 := fun z => by
    rw [← rKeep_at r]
    refine broadcastInDim_apply _ _ _ _ (ix1 r) fun a => ?_
    match a with
    | ⟨0, _⟩ => rfl
  have k1 : broadcastInDim S8x8192x8192 ![0, 1, 2] bcast_S1x8192x1_S8x8192x8192_0_1_2 (broadcastInDim S1x8192x1 ![1] bcast_S8192_S1x8192x1_1 rKeep) (ix3 h r j) = 1#1 := by
    rw [← k0 0]
    refine broadcastInDim_apply _ _ _ _ (ix3 0 r 0) fun a => ?_
    match a with
    | ⟨0, _⟩ => rfl
    | ⟨1, _⟩ => rfl
    | ⟨2, _⟩ => rfl
  have k2 : broadcastInDim S8x8192x1 ![0, 1, 2] bcast_S1x8192x1_S8x8192x1_0_1_2 (broadcastInDim S1x8192x1 ![1] bcast_S8192_S1x8192x1_1 rKeep) (ix3 h r (0 : Fin 1)) = 1#1 := by
    rw [← k0 0]
    refine broadcastInDim_apply _ _ _ _ (ix3 0 r 0) fun a => ?_
    match a with
    | ⟨0, _⟩ => rfl
    | ⟨1, _⟩ => rfl
    | ⟨2, _⟩ => rfl
  have es : Host.reduceAdd e (constant (F := Ideal) S_ .f32 0x00000000#32) reducesTo_S8x8192x8192_S8x8192_d2 h_S_ (ix2 h r) = ∑ i : Fin 8192, e (ix3 h r i) := by
    rw [hostReduceAdd_apply, Ideal.hostReduceAdd_single _ red3]
    show Ideal.ofBits .f32 0x00000000#32 + _ = _
    rw [Ideal.ofBits_zero_f32, zero_add]
    exact Finset.sum_congr rfl fun i _ => congrArg e (lift3 h r i)
  rw [select_apply, k1, ValueIdx.select_one, hostDivf_apply, spread, select_apply, k2, ValueIdx.select_one, column, es]

/-- The result. -/
theorem rOut_at (V : FVec Ideal S8192x1024 .bf16) (w : FVec Ideal S8x8192x8192 .f32) (O : FVec Ideal S1024x1024 .bf16) (C : Fin 8192 → Fin 1024 → EReal)
    (hC : ∀ r h t, C r (hcR h t) = ∑ j : Fin 8192, V (ix2 j (hcR h t)) * w (ix3 h r j)) (r : Fin 8192) (c : Fin 1024) :
    rOut V w O (ix2 r c) = ∑ k : Fin 1024, C r k * O (ix2 k c) := by
  unfold rOut
  rw [dotP]
  refine Finset.sum_congr rfl fun k _ => ?_
  have hk := k.isLt
  obtain ⟨h, t, rfl⟩ : ∃ h t, k = hcR h t := ⟨⟨k.val / 128, by omega⟩, ⟨k.val % 128, by omega⟩, Fin.ext (by show k.val = 128 * (k.val / 128) + k.val % 128; omega)⟩
  rw [heads_back, hC]
  refine congrArg (· * O (ix2 (hcR h t) c)) ?_
  refine (transpose_apply _ _ _ _ (ix3 h t r) fun b => ?_).trans ?_
  · match b with
    | ⟨0, _⟩ => rfl
    | ⟨1, _⟩ => rfl
    | ⟨2, _⟩ => rfl
  · rw [dotV]
    refine Finset.sum_congr rfl fun j _ => ?_
    rw [heads_cast]
    rfl

end Cert.Proof

end
-- ==== Proof.RefRow.lean ====
module

public import proofs.«01_k».proof.Proof.RefEval

/-! The reference's result, element by element. -/

@[expose] public section

noncomputable section

namespace Cert.Proof

open Cert.ReferenceIdeal Cert.ReferenceIdeal.Gen Cert.ReferenceIdeal.Value

open Idealize.ShloMosaic
open Idealize.ShloMosaic.TcCoe
open Idealize.ShloMosaic.ValueIdx
open scoped BigOperators

/-- A row's masked scores. -/
def sM (X : FVec Ideal S8192x1024 .bf16) (W : FVec Ideal S1024x1024 .bf16) (K : FVec Ideal S8192x1024 .bf16) (h : Fin 8) (r j : Fin 8192) : EReal :=
  if j.val / 64 ≤ r.val / 64 then sR X W K h r j else ⊥

/-- The masked scores are the stages'. -/
theorem masked_at (X : FVec Ideal S8192x1024 .bf16) (W : FVec Ideal S1024x1024 .bf16) (K : FVec Ideal S8192x1024 .bf16) (h : Fin 8) (r j : Fin 8192) :
    rM (rS X W K) (ix3 h r j) = sM X W K h r j := by
  rw [rM_at, rS_at]
  rfl

/-- A head's softmax weight. -/
theorem weight_at (s : FVec Ideal S8x8192x8192 .f32) (σ : Fin 8192 → EReal) (h : Fin 8) (r : Fin 8192) (hs : ∀ j, s (ix3 h r j) = σ j) (j : Fin 8192) :
    rW (rE s) (ix3 h r j) = Ideal.div (Ideal.exp (σ j - (Finset.univ : Finset (Fin 8192)).fold max ⊥ σ))
      (∑ k, Ideal.exp (σ k - (Finset.univ : Finset (Fin 8192)).fold max ⊥ σ)) := by
  have e : ∀ k, rE s (ix3 h r k) = Ideal.exp (σ k - (Finset.univ : Finset (Fin 8192)).fold max ⊥ σ) := fun k => by
    rw [rE_at, hs k, show (fun i => s (ix3 h r i)) = σ from funext hs]
  rw [rW_at, e j, Finset.sum_congr rfl fun k _ => e k]

/-- The head of a column. -/
def headR (k : Fin 1024) : Fin 8 := ⟨k.val / 128, by have := k.isLt; omega⟩

theorem headR_hc (h : Fin 8) (t : Fin 128) : headR (hcR h t) = h := Fin.ext (by
  have := t.isLt
  show (128 * h.val + t.val) / 128 = h.val
  omega)

/-- The result at a position and a column: the heads' softmax-weighted values, times the output weights. -/
theorem res_at (X : FVec Ideal S8192x1024 .bf16) (W : FVec Ideal S1024x1024 .bf16) (K V : FVec Ideal S8192x1024 .bf16) (O : FVec Ideal S1024x1024 .bf16)
    (r : Fin 8192) (c : Fin 1024) :
    rOut V (rW (rE (rM (rS X W K)))) O (ix2 r c)
      = ∑ k : Fin 1024, refRow (sM X W K (headR k) r) (fun J => V (ix2 J k)) * O (ix2 k c) := by
  refine rOut_at V _ O (fun r k => refRow (sM X W K (headR k) r) (fun J => V (ix2 J k))) (fun r h t => ?_) r c
  rw [headR_hc]
  unfold refRow
  exact Finset.sum_congr rfl fun j _ => congrArg (V (ix2 j (hcR h t)) * ·) (weight_at _ _ h r (masked_at X W K h r) j).symm

end Cert.Proof

end
-- ==== Proof.Finite.lean ====
module

public import proofs.«01_k».proof.Defs
public import Idealize.ShloMosaic.Lib.ValueIdx
public import Idealize.ShloMosaic.PureOps.Ideal.Laws

/-! The precondition, read: the activations, the query weights and the keys are real numbers. -/

@[expose] public section

noncomputable section

namespace Cert.Proof

open Idealize.ShloMosaic

instance facts_pk : Cert.Pre_finite_scores_KernelIdeal.Facts where
  bitsLt_bf16_f32 := by decide
  bcast_S_S2048x1024 := by decide
  bcast_S_S1024x1024 := by decide

instance facts_pr : Cert.Pre_finite_scores_ReferenceIdeal.Facts where
  bitsLt_bf16_f32 := by decide
  bcast_S_S8192x1024 := by decide
  bcast_S_S1024x1024 := by decide

/-- An extended real whose absolute value is below plus infinity is real. -/
theorem real_of_abs (x : EReal) (h : max x (-x) < ⊤) : ∃ a : ℝ, x = (a : EReal) := by
  induction x with
  | bot => rw [EReal.neg_bot, max_eq_right bot_le] at h; exact absurd h (lt_irrefl _)
  | top => rw [max_eq_left le_top] at h; exact absurd h (lt_irrefl _)
  | coe a => exact ⟨a, rfl⟩

theorem inf_top : Ideal.ofBits .f32 0x7F800000#32 = ⊤ := by simp [Ideal.ofBits, Ideal.ieee]

/-- The test the precondition makes of one element. -/
theorem real_of_test (x : EReal) (h : Ideal.cmp .olt (max x (-x)) (Ideal.ofBits .f32 0x7F800000#32) = 1#1) : ∃ a : ℝ, x = (a : EReal) := by
  refine real_of_abs x ?_
  rw [inf_top] at h
  by_contra hn
  have e : Ideal.cmp .olt (max x (-x)) ⊤ = BitVec.ofBool (decide (max x (-x) < ⊤)) := rfl
  rw [e, decide_eq_false hn] at h
  exact absurd h (by decide)

variable (m : (ℓ : Loc Cert.KernelIdeal.nD Cert.KernelIdeal.τ Cert.KernelIdeal.sig) → Buf (Elt Ideal) ℓ) [Cert.KernelIdeal.Facts] (h : Cert.Pre_KernelIdeal_finite_scores_KernelIdeal m)

include h in
/-- The activations are real, -/
theorem pre_x (c : Dev Cert.KernelIdeal.nD) (y : Cert.KernelIdeal.S2048x1024.Idx) :
    ∃ a : ℝ, (m ((c.tc : Thread Cert.KernelIdeal.nD Cert.KernelIdeal.τ).loc Cert.KernelIdeal.main_arg0) : FVec Ideal Cert.KernelIdeal.S2048x1024 .bf16) y = (a : EReal) :=
  real_of_test _ (congrFun (h c).1 y)

include h in
/-- the query weights too, -/
theorem pre_w (c : Dev Cert.KernelIdeal.nD) (y : Cert.KernelIdeal.S1024x1024.Idx) :
    ∃ a : ℝ, (m ((c.tc : Thread Cert.KernelIdeal.nD Cert.KernelIdeal.τ).loc Cert.KernelIdeal.main_arg1) : FVec Ideal Cert.KernelIdeal.S1024x1024 .bf16) y = (a : EReal) :=
  real_of_test _ (congrFun (h c).2.1 y)

include h in
/-- and the keys. -/
theorem pre_k (c : Dev Cert.KernelIdeal.nD) (y : Cert.KernelIdeal.S2048x1024.Idx) :
    ∃ a : ℝ, (m ((c.tc : Thread Cert.KernelIdeal.nD Cert.KernelIdeal.τ).loc Cert.KernelIdeal.main_arg2) : FVec Ideal Cert.KernelIdeal.S2048x1024 .bf16) y = (a : EReal) :=
  real_of_test _ (congrFun (h c).2.2 y)

end Cert.Proof

end
-- ==== Proof.Whole.lean ====
module

public import proofs.«01_k».proof.Proof.Run

/-! The windows' blocks are the whole arrays. -/

@[expose] public section

noncomputable section

namespace Cert.Proof

open Cert.KernelIdeal Cert.KernelIdeal.Gen

open Idealize.ShloMosaic
open Idealize.ShloMosaic.TcCoe

variable {F : FTy → Type} [FloatOps F] [Named F]
variable (m : (ℓ : Loc nD τ sig) → Buf (Elt F) ℓ)

theorem wq_whole (c : Dev nD) : wqAt m c = m ((c : Thread nD τ).loc main_arg1) := by
  unfold wqAt
  exact Memref.read_access_unit_zero (Elt F) main_arg1 (by funext a; fin_cases a <;> rfl) _ _

theorem wo_whole (c : Dev nD) : woAt m c = m ((c : Thread nD τ).loc main_arg4) := by
  unfold woAt
  exact Memref.read_access_unit_zero (Elt F) main_arg4 (by funext a; fin_cases a <;> rfl) _ _

theorem out_whole (c : Dev nD) (f : Buf (Elt F) ((c : Thread nD τ).loc main_v1_0)) : (win0_2.blk (0 : Fin 1)).view.read (Elt F) f = f :=
  Memref.read_access_unit_zero (Elt F) main_v1_0 (by funext a; fin_cases a <;> rfl) _ _

end Cert.Proof

end
-- ==== Proof.Value.lean ====
module

public import proofs.«01_k».proof.Proof.Chunks
public import proofs.«01_k».proof.Proof.RefRow
public import proofs.«01_k».proof.Proof.Finite
public import proofs.«01_k».proof.Proof.Whole

/-! The idealized kernel's rows are the reference's. -/

@[expose] public section

noncomputable section

namespace Cert.Proof

open Idealize.ShloMosaic
open Idealize.ShloMosaic.TcCoe
open Idealize.ShloMosaic.ValueIdx
open Idealize.SL.Sem
open scoped BigOperators

/-- Where row `j` of device `e` lies in the whole array. -/
def pos (e : Fin 4) (j : Fin 2048) : Fin 8192 := ⟨2048 * e.val + j.val, by have := e.isLt; have := j.isLt; omega⟩

/-- An element of a device's block. -/
theorem block_at (c : Fin 4) (v : Cert.ReferenceIdeal.S8192x1024.Idx → EReal) (h : Layout.Tiles ⟨2, ![2048, 1024]⟩ ⟨2, ![8192, 1024]⟩ 0 4) (r : Fin 2048) (k : Fin 1024) :
    Layout.block ⟨2, ![2048, 1024]⟩ ⟨2, ![8192, 1024]⟩ 0 4 c v h (ix2 r k) = v (ix2 (pos c r) k) := by
  rw [Layout.block_apply]
  refine congrArg v (funext fun a => Fin.ext ?_)
  have hi := Layout.idx_rows_val h c (ix2 r k)
  match a with
  | ⟨0, _⟩ => exact hi.1.trans (congrArg (· + r.val) (Nat.mul_comm c.val 2048))
  | ⟨1, _⟩ => exact hi.2

/-- The head of a column, and its place there. -/
theorem split_col (k : Fin 1024) : k = hc (headR k) ⟨k.val % 128, Nat.mod_lt _ (by norm_num)⟩ :=
  Fin.ext (Nat.div_add_mod k.val 128).symm

section rows

variable (m : (ℓ : Loc Cert.KernelIdeal.nD Cert.KernelIdeal.τ Cert.KernelIdeal.sig) → Buf (Elt Ideal) ℓ)
variable (X K V : FVec Ideal Cert.ReferenceIdeal.S8192x1024 .bf16) (W O : FVec Ideal Cert.ReferenceIdeal.S1024x1024 .bf16)
variable (c : Fin 4) (x : BlkC Ideal) (hx : ∀ r k, x (ix2 r k) = X (ix2 (pos c r) k))
variable (hK : ∀ e j k, Kof m e (ix2 j k) = K (ix2 (pos e j) k)) (hV : ∀ e j k, Vof m e (ix2 j k) = V (ix2 (pos e j) k))

include hx hK in
/-- A score is the same on both sides. -/
theorem score_eq (hh : Fin 8) (r : Fin 2048) (e : Fin 4) (j : Fin 2048) : sR X W K hh (pos c r) (pos e j) = uS (qOf x W) (Kof m e) hh r j := by
  unfold sR uS
  refine congrArg (· * Ideal.ofBits .f32 0x3DB504F3#32) (Finset.sum_congr rfl fun t _ => ?_)
  have h1 : (∑ k : Fin 1024, X (ix2 (pos c r) k) * W (ix2 k (hcR hh t))) = qOf x W (ix2 r (hc hh t)) := by
    rw [qOf_at]
    exact Finset.sum_congr rfl fun k _ => congrArg (· * W (ix2 k (hcR hh t))) (hx r k).symm
  have h2 : K (ix2 (pos e j) (hcR hh t)) = Kof m e (ix2 j (hc hh t)) := (hK e j (hc hh t)).symm
  exact congrArg₂ (fun a b : EReal => a * b) h1 h2

include hx hK in
/-- So is a masked score. -/
theorem masked_eq (hh : Fin 8) (r : Fin 2048) (e : Fin 4) (j : Fin 2048) : sM X W K hh (pos c r) (pos e j) = cS m x W c hh r e j := by
  unfold sM cS
  rw [score_eq m X K W c x hx hK hh r e j]
  have he := e.isLt
  have hc := c.isLt
  have hr := r.isLt
  have hj := j.isLt
  have hp : (pos c r).val = 2048 * c.val + r.val := rfl
  have hq : (pos e j).val = 2048 * e.val + j.val := rfl
  rw [hp, hq]
  by_cases h1 : e.val < c.val
  · rw [if_pos h1, if_pos (by omega)]
  · rw [if_neg h1]
    by_cases h2 : e.val = c.val
    · rw [if_pos h2]
      by_cases h3 : j.val / 64 ≤ r.val / 64
      · rw [if_pos h3, if_pos (by omega)]
      · rw [if_neg h3, if_neg (by omega)]
    · rw [if_neg h2, if_neg (by omega)]

include hx hK hV in
/-- A device's rows of the result. -/
theorem rows_eq (hX : ∀ y, ∃ a : ℝ, x y = (a : EReal)) (hW : ∀ y, ∃ a : ℝ, W y = (a : EReal)) (hK' : ∀ e y, ∃ a : ℝ, Kof m e y = (a : EReal))
    (r : Fin 2048) (k : Fin 1024) :
    outD m c x W O (ix2 r k) = rOut V (rW (rE (rM (rS X W K)))) O (ix2 (pos c r) k) := by
  rw [res_at]
  unfold outD
  rw [outF_at]
  refine Finset.sum_congr rfl fun i _ => congrArg (· * O (ix2 i k)) ?_
  have h := ctx_at m x W hX hW hK' c (headR i) r ⟨i.val % 128, Nat.mod_lt _ (by norm_num)⟩ pos (fun _ _ => rfl)
    (sM X W K (headR i) (pos c r)) (fun J => V (ix2 J i)) (masked_eq m X K W c x hx hK (headR i) r)
    (fun e j => by rw [← split_col i]; exact (hV e j i).symm)
  rw [← split_col i] at h
  exact h

end rows

/-- The idealized kernel and the reference: each device ends with its rows of the reference's result. -/
theorem algebraic_pi : Cert.algebraic_KernelIdeal_ReferenceIdeal_pre_finite_scores_KernelIdeal (hKernelIdeal := Cert.KernelIdeal.Gen.facts)
    (hReferenceIdeal := Cert.ReferenceIdeal.Gen.facts) (hPre_finite_scores_KernelIdeal := facts_pk) := by
  intro m g m' g' hpre hargs
  refine ⟨Cert.ReferenceIdeal.Value.res_main_v40 m' 0, ?_, ?_⟩
  · refine (θ_run Cert.KernelIdeal.defs _ _).mono (fun r h c => ⟨?_, (h.1 c).2⟩) (run_read (F := Ideal) m g)
    have h1 := (h.1 c).1
    rw [out_whole c] at h1
    rw [h1]
    unfold outAt
    rw [wq_whole, wo_whole, res_eq]
    rw [show m ((c : Thread Cert.KernelIdeal.nD Cert.KernelIdeal.τ).loc Cert.KernelIdeal.main_arg1) = _ from (hargs c).2.1,
      show m ((c : Thread Cert.KernelIdeal.nD Cert.KernelIdeal.τ).loc Cert.KernelIdeal.main_arg4) = _ from (hargs c).2.2.2.2]
    funext y
    have hy : y = ix2 (y 0) (y 1) := eq_ix2 y
    have hW := fun y => (pre_w m hpre c y)
    rw [show m ((c.tc : Thread Cert.KernelIdeal.nD Cert.KernelIdeal.τ).loc Cert.KernelIdeal.main_arg1) = _ from (hargs c).2.1] at hW
    have hr := rows_eq m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg4))
      c (xAt m c)
      (fun r k => (congrFun (hargs c).1 (ix2 r k)).trans (block_at c _ _ r k))
      (fun e r k => (congrFun (hargs e).2.2.1 (ix2 r k)).trans (block_at e _ _ r k))
      (fun e r k => (congrFun (hargs e).2.2.2.1 (ix2 r k)).trans (block_at e _ _ r k))
      (pre_x m hpre c) hW (fun e => pre_k m hpre e) (y 0) (y 1)
    rw [hy]
    exact hr.trans (block_at c _ _ (y 0) (y 1)).symm
  · exact (θ_run Cert.ReferenceIdeal.defs _ _).mono (fun r h => h 0) (Cert.ReferenceIdeal.Value.run (F := Ideal) m' g')

end Cert.Proof

end
-- ==== Proof.lean ====
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.BitsRun
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs, its arguments unchanged, every counter back at zero. -/
theorem frame_p : Cert.quiescent_Kernel := fun m g _ => run_bits m g

/-- So does the idealized kernel. -/
theorem frame_pi : Cert.quiescent_KernelIdeal := fun m g _ =>
  (θ_run Cert.KernelIdeal.defs _ _).mono (fun _ h => ⟨fun c => (h.1 c).2, h.2⟩) (run_read (F := Ideal) m g)

/-- So does the reference. -/
theorem frame_ri : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The idealized kernel differs from the kernel in the named constant only. -/
theorem preserves_pi : Cert.preserves_Kernel_KernelIdeal :=
  IdealRules.named_const.statement Cert.KernelIdeal.κ "mask" .f32 0xCE6E6B28#32 ⊥ rfl

/-- The two idealized frames hold under the precondition, since they hold without it. -/
theorem frame_pi_pre : Cert.quiescent_KernelIdeal_pre_finite_scores_KernelIdeal (hPre_finite_scores_KernelIdeal := facts_pk) := fun m g _ => frame_pi m g trivial

theorem frame_ri_pre : Cert.quiescent_ReferenceIdeal_pre_finite_scores_ReferenceIdeal (hPre_finite_scores_ReferenceIdeal := facts_pr) := fun m g _ => frame_ri m g trivial

/-- Everything the certificate claims. -/
theorem claim : Cert.Claim := ⟨Cert.Kernel.Gen.facts, Cert.KernelIdeal.Gen.facts, Cert.ReferenceIdeal.Gen.facts, facts_pk, facts_pr,
  frame_p, frame_pi, frame_pi_pre, frame_ri, frame_ri_pre, preserves_pi, algebraic_pi⟩

end Cert.Proof

end
